-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_out_scales [hPre_out_scales : Cert.Pre_out_scales.Facts] (m : (ℓ : Loc Cert.OutIdeal.nD Cert.OutIdeal.τ Cert.OutIdeal.sig) → Buf (Elt Ideal) ℓ) : Prop :=
  ∀ c : Dev Cert.OutIdeal.nD,
    (Cert.Pre_out_scales.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_out_scales [hPre_out_scales : Cert.Pre_out_scales.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_out_scales.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6))) = (fun _ => 1#1)

def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradIdeal_grad_scales [hPre_grad_scales : Cert.Pre_grad_scales.Facts] (m : (ℓ : Loc Cert.GradIdeal.nD Cert.GradIdeal.τ Cert.GradIdeal.sig) → Buf (Elt Ideal) ℓ) : Prop :=
  ∀ c : Dev Cert.GradIdeal.nD,
    (Cert.Pre_grad_scales.fn (F := Ideal) (m ((c.tc : Thread Cert.GradIdeal.nD Cert.GradIdeal.τ).loc Cert.GradIdeal.main_arg0)) (m ((c.tc : Thread Cert.GradIdeal.nD Cert.GradIdeal.τ).loc Cert.GradIdeal.main_arg1)) (m ((c.tc : Thread Cert.GradIdeal.nD Cert.GradIdeal.τ).loc Cert.GradIdeal.main_arg2)) (m ((c.tc : Thread Cert.GradIdeal.nD Cert.GradIdeal.τ).loc Cert.GradIdeal.main_arg3)) (m ((c.tc : Thread Cert.GradIdeal.nD Cert.GradIdeal.τ).loc Cert.GradIdeal.main_arg4)) (m ((c.tc : Thread Cert.GradIdeal.nD Cert.GradIdeal.τ).loc Cert.GradIdeal.main_arg5)) (m ((c.tc : Thread Cert.GradIdeal.nD Cert.GradIdeal.τ).loc Cert.GradIdeal.main_arg6)) (m ((c.tc : Thread Cert.GradIdeal.nD Cert.GradIdeal.τ).loc Cert.GradIdeal.main_arg7)) (m ((c.tc : Thread Cert.GradIdeal.nD Cert.GradIdeal.τ).loc Cert.GradIdeal.main_arg8)) (m ((c.tc : Thread Cert.GradIdeal.nD Cert.GradIdeal.τ).loc Cert.GradIdeal.main_arg9)) (m ((c.tc : Thread Cert.GradIdeal.nD Cert.GradIdeal.τ).loc Cert.GradIdeal.main_arg10)) (m ((c.tc : Thread Cert.GradIdeal.nD Cert.GradIdeal.τ).loc Cert.GradIdeal.main_arg11)) (m ((c.tc : Thread Cert.GradIdeal.nD Cert.GradIdeal.τ).loc Cert.GradIdeal.main_arg12)) (m ((c.tc : Thread Cert.GradIdeal.nD Cert.GradIdeal.τ).loc Cert.GradIdeal.main_arg13)) (m ((c.tc : Thread Cert.GradIdeal.nD Cert.GradIdeal.τ).loc Cert.GradIdeal.main_arg14))).1 = (fun _ => 1#1)
    ∧ (Cert.Pre_grad_scales.fn (F := Ideal) (m ((c.tc : Thread Cert.GradIdeal.nD Cert.GradIdeal.τ).loc Cert.GradIdeal.main_arg0)) (m ((c.tc : Thread Cert.GradIdeal.nD Cert.GradIdeal.τ).loc Cert.GradIdeal.main_arg1)) (m ((c.tc : Thread Cert.GradIdeal.nD Cert.GradIdeal.τ).loc Cert.GradIdeal.main_arg2)) (m ((c.tc : Thread Cert.GradIdeal.nD Cert.GradIdeal.τ).loc Cert.GradIdeal.main_arg3)) (m ((c.tc : Thread Cert.GradIdeal.nD Cert.GradIdeal.τ).loc Cert.GradIdeal.main_arg4)) (m ((c.tc : Thread Cert.GradIdeal.nD Cert.GradIdeal.τ).loc Cert.GradIdeal.main_arg5)) (m ((c.tc : Thread Cert.GradIdeal.nD Cert.GradIdeal.τ).loc Cert.GradIdeal.main_arg6)) (m ((c.tc : Thread Cert.GradIdeal.nD Cert.GradIdeal.τ).loc Cert.GradIdeal.main_arg7)) (m ((c.tc : Thread Cert.GradIdeal.nD Cert.GradIdeal.τ).loc Cert.GradIdeal.main_arg8)) (m ((c.tc : Thread Cert.GradIdeal.nD Cert.GradIdeal.τ).loc Cert.GradIdeal.main_arg9)) (m ((c.tc : Thread Cert.GradIdeal.nD Cert.GradIdeal.τ).loc Cert.GradIdeal.main_arg10)) (m ((c.tc : Thread Cert.GradIdeal.nD Cert.GradIdeal.τ).loc Cert.GradIdeal.main_arg11)) (m ((c.tc : Thread Cert.GradIdeal.nD Cert.GradIdeal.τ).loc Cert.GradIdeal.main_arg12)) (m ((c.tc : Thread Cert.GradIdeal.nD Cert.GradIdeal.τ).loc Cert.GradIdeal.main_arg13)) (m ((c.tc : Thread Cert.GradIdeal.nD Cert.GradIdeal.τ).loc Cert.GradIdeal.main_arg14))).2 = (fun _ => 1#1)

def Pre_GradRefIdeal (m : (ℓ : Loc Cert.GradRefIdeal.nD Cert.GradRefIdeal.τ Cert.GradRefIdeal.sig) → Buf (Elt Ideal) ℓ) : Prop :=
  True

def Pre_GradRefIdeal_grad_scales [hPre_grad_scales : Cert.Pre_grad_scales.Facts] (m : (ℓ : Loc Cert.GradRefIdeal.nD Cert.GradRefIdeal.τ Cert.GradRefIdeal.sig) → Buf (Elt Ideal) ℓ) : Prop :=
  ∀ c : Dev Cert.GradRefIdeal.nD,
    (Cert.Pre_grad_scales.fn (F := Ideal) (m ((c.tc : Thread Cert.GradRefIdeal.nD Cert.GradRefIdeal.τ).loc Cert.GradRefIdeal.main_arg0)) (m ((c.tc : Thread Cert.GradRefIdeal.nD Cert.GradRefIdeal.τ).loc Cert.GradRefIdeal.main_arg1)) (m ((c.tc : Thread Cert.GradRefIdeal.nD Cert.GradRefIdeal.τ).loc Cert.GradRefIdeal.main_arg2)) (m ((c.tc : Thread Cert.GradRefIdeal.nD Cert.GradRefIdeal.τ).loc Cert.GradRefIdeal.main_arg3)) (m ((c.tc : Thread Cert.GradRefIdeal.nD Cert.GradRefIdeal.τ).loc Cert.GradRefIdeal.main_arg4)) (m ((c.tc : Thread Cert.GradRefIdeal.nD Cert.GradRefIdeal.τ).loc Cert.GradRefIdeal.main_arg5)) (m ((c.tc : Thread Cert.GradRefIdeal.nD Cert.GradRefIdeal.τ).loc Cert.GradRefIdeal.main_arg6)) (m ((c.tc : Thread Cert.GradRefIdeal.nD Cert.GradRefIdeal.τ).loc Cert.GradRefIdeal.main_arg7)) (m ((c.tc : Thread Cert.GradRefIdeal.nD Cert.GradRefIdeal.τ).loc Cert.GradRefIdeal.main_arg8)) (m ((c.tc : Thread Cert.GradRefIdeal.nD Cert.GradRefIdeal.τ).loc Cert.GradRefIdeal.main_arg9)) (m ((c.tc : Thread Cert.GradRefIdeal.nD Cert.GradRefIdeal.τ).loc Cert.GradRefIdeal.main_arg10)) (m ((c.tc : Thread Cert.GradRefIdeal.nD Cert.GradRefIdeal.τ).loc Cert.GradRefIdeal.main_arg11)) (m ((c.tc : Thread Cert.GradRefIdeal.nD Cert.GradRefIdeal.τ).loc Cert.GradRefIdeal.main_arg12)) (m ((c.tc : Thread Cert.GradRefIdeal.nD Cert.GradRefIdeal.τ).loc Cert.GradRefIdeal.main_arg13)) (m ((c.tc : Thread Cert.GradRefIdeal.nD Cert.GradRefIdeal.τ).loc Cert.GradRefIdeal.main_arg14))).1 = (fun _ => 1#1)
    ∧ (Cert.Pre_grad_scales.fn (F := Ideal) (m ((c.tc : Thread Cert.GradRefIdeal.nD Cert.GradRefIdeal.τ).loc Cert.GradRefIdeal.main_arg0)) (m ((c.tc : Thread Cert.GradRefIdeal.nD Cert.GradRefIdeal.τ).loc Cert.GradRefIdeal.main_arg1)) (m ((c.tc : Thread Cert.GradRefIdeal.nD Cert.GradRefIdeal.τ).loc Cert.GradRefIdeal.main_arg2)) (m ((c.tc : Thread Cert.GradRefIdeal.nD Cert.GradRefIdeal.τ).loc Cert.GradRefIdeal.main_arg3)) (m ((c.tc : Thread Cert.GradRefIdeal.nD Cert.GradRefIdeal.τ).loc Cert.GradRefIdeal.main_arg4)) (m ((c.tc : Thread Cert.GradRefIdeal.nD Cert.GradRefIdeal.τ).loc Cert.GradRefIdeal.main_arg5)) (m ((c.tc : Thread Cert.GradRefIdeal.nD Cert.GradRefIdeal.τ).loc Cert.GradRefIdeal.main_arg6)) (m ((c.tc : Thread Cert.GradRefIdeal.nD Cert.GradRefIdeal.τ).loc Cert.GradRefIdeal.main_arg7)) (m ((c.tc : Thread Cert.GradRefIdeal.nD Cert.GradRefIdeal.τ).loc Cert.GradRefIdeal.main_arg8)) (m ((c.tc : Thread Cert.GradRefIdeal.nD Cert.GradRefIdeal.τ).loc Cert.GradRefIdeal.main_arg9)) (m ((c.tc : Thread Cert.GradRefIdeal.nD Cert.GradRefIdeal.τ).loc Cert.GradRefIdeal.main_arg10)) (m ((c.tc : Thread Cert.GradRefIdeal.nD Cert.GradRefIdeal.τ).loc Cert.GradRefIdeal.main_arg11)) (m ((c.tc : Thread Cert.GradRefIdeal.nD Cert.GradRefIdeal.τ).loc Cert.GradRefIdeal.main_arg12)) (m ((c.tc : Thread Cert.GradRefIdeal.nD Cert.GradRefIdeal.τ).loc Cert.GradRefIdeal.main_arg13)) (m ((c.tc : Thread Cert.GradRefIdeal.nD Cert.GradRefIdeal.τ).loc Cert.GradRefIdeal.main_arg14))).2 = (fun _ => 1#1)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1)
      ∧ r.2.mem ((c.tc : Thread Cert.Dy.nD Cert.Dy.τ).loc Cert.Dy.main_arg2) = m ((c.tc : Thread Cert.Dy.nD Cert.Dy.τ).loc Cert.Dy.main_arg2)
      ∧ r.2.mem ((c.tc : Thread Cert.Dy.nD Cert.Dy.τ).loc Cert.Dy.main_arg3) = m ((c.tc : Thread Cert.Dy.nD Cert.Dy.τ).loc Cert.Dy.main_arg3))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
      ∧ r.2.mem ((c.tc : Thread Cert.DyIdeal.nD Cert.DyIdeal.τ).loc Cert.DyIdeal.main_arg2) = m ((c.tc : Thread Cert.DyIdeal.nD Cert.DyIdeal.τ).loc Cert.DyIdeal.main_arg2)
      ∧ r.2.mem ((c.tc : Thread Cert.DyIdeal.nD Cert.DyIdeal.τ).loc Cert.DyIdeal.main_arg3) = m ((c.tc : Thread Cert.DyIdeal.nD Cert.DyIdeal.τ).loc Cert.DyIdeal.main_arg3))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1)
      ∧ r.2.mem ((c.tc : Thread Cert.DyRefIdeal.nD Cert.DyRefIdeal.τ).loc Cert.DyRefIdeal.main_arg2) = m ((c.tc : Thread Cert.DyRefIdeal.nD Cert.DyRefIdeal.τ).loc Cert.DyRefIdeal.main_arg2)
      ∧ r.2.mem ((c.tc : Thread Cert.DyRefIdeal.nD Cert.DyRefIdeal.τ).loc Cert.DyRefIdeal.main_arg3) = m ((c.tc : Thread Cert.DyRefIdeal.nD Cert.DyRefIdeal.τ).loc Cert.DyRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutIdeal_pre_out_scales [hOutIdeal : Cert.OutIdeal.Facts] [hPre_out_scales : Cert.Pre_out_scales.Facts] : Prop :=
  ∀ (m : (ℓ : Loc Cert.OutIdeal.nD Cert.OutIdeal.τ Cert.OutIdeal.sig) → Buf (Elt Ideal) ℓ) (g : Dev Cert.OutIdeal.nD → PrngReg), Pre_OutIdeal_out_scales m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_OutRefIdeal_pre_out_scales [hOutRefIdeal : Cert.OutRefIdeal.Facts] [hPre_out_scales : Cert.Pre_out_scales.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_out_scales m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4)
      ∧ r.2.mem ((c.tc : Thread Cert.Grad.nD Cert.Grad.τ).loc Cert.Grad.main_arg5) = m ((c.tc : Thread Cert.Grad.nD Cert.Grad.τ).loc Cert.Grad.main_arg5)
      ∧ r.2.mem ((c.tc : Thread Cert.Grad.nD Cert.Grad.τ).loc Cert.Grad.main_arg6) = m ((c.tc : Thread Cert.Grad.nD Cert.Grad.τ).loc Cert.Grad.main_arg6)
      ∧ r.2.mem ((c.tc : Thread Cert.Grad.nD Cert.Grad.τ).loc Cert.Grad.main_arg7) = m ((c.tc : Thread Cert.Grad.nD Cert.Grad.τ).loc Cert.Grad.main_arg7)
      ∧ r.2.mem ((c.tc : Thread Cert.Grad.nD Cert.Grad.τ).loc Cert.Grad.main_arg8) = m ((c.tc : Thread Cert.Grad.nD Cert.Grad.τ).loc Cert.Grad.main_arg8)
      ∧ r.2.mem ((c.tc : Thread Cert.Grad.nD Cert.Grad.τ).loc Cert.Grad.main_arg9) = m ((c.tc : Thread Cert.Grad.nD Cert.Grad.τ).loc Cert.Grad.main_arg9)
      ∧ r.2.mem ((c.tc : Thread Cert.Grad.nD Cert.Grad.τ).loc Cert.Grad.main_arg10) = m ((c.tc : Thread Cert.Grad.nD Cert.Grad.τ).loc Cert.Grad.main_arg10)
      ∧ r.2.mem ((c.tc : Thread Cert.Grad.nD Cert.Grad.τ).loc Cert.Grad.main_arg11) = m ((c.tc : Thread Cert.Grad.nD Cert.Grad.τ).loc Cert.Grad.main_arg11)
      ∧ r.2.mem ((c.tc : Thread Cert.Grad.nD Cert.Grad.τ).loc Cert.Grad.main_arg12) = m ((c.tc : Thread Cert.Grad.nD Cert.Grad.τ).loc Cert.Grad.main_arg12)
      ∧ r.2.mem ((c.tc : Thread Cert.Grad.nD Cert.Grad.τ).loc Cert.Grad.main_arg13) = m ((c.tc : Thread Cert.Grad.nD Cert.Grad.τ).loc Cert.Grad.main_arg13)
      ∧ r.2.mem ((c.tc : Thread Cert.Grad.nD Cert.Grad.τ).loc Cert.Grad.main_arg14) = m ((c.tc : Thread Cert.Grad.nD Cert.Grad.τ).loc Cert.Grad.main_arg14))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
      ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
      ∧ r.2.mem ((c.tc : Thread Cert.GradIdeal.nD Cert.GradIdeal.τ).loc Cert.GradIdeal.main_arg9) = m ((c.tc : Thread Cert.GradIdeal.nD Cert.GradIdeal.τ).loc Cert.GradIdeal.main_arg9)
      ∧ r.2.mem ((c.tc : Thread Cert.GradIdeal.nD Cert.GradIdeal.τ).loc Cert.GradIdeal.main_arg10) = m ((c.tc : Thread Cert.GradIdeal.nD Cert.GradIdeal.τ).loc Cert.GradIdeal.main_arg10)
      ∧ r.2.mem ((c.tc : Thread Cert.GradIdeal.nD Cert.GradIdeal.τ).loc Cert.GradIdeal.main_arg11) = m ((c.tc : Thread Cert.GradIdeal.nD Cert.GradIdeal.τ).loc Cert.GradIdeal.main_arg11)
      ∧ r.2.mem ((c.tc : Thread Cert.GradIdeal.nD Cert.GradIdeal.τ).loc Cert.GradIdeal.main_arg12) = m ((c.tc : Thread Cert.GradIdeal.nD Cert.GradIdeal.τ).loc Cert.GradIdeal.main_arg12)
      ∧ r.2.mem ((c.tc : Thread Cert.GradIdeal.nD Cert.GradIdeal.τ).loc Cert.GradIdeal.main_arg13) = m ((c.tc : Thread Cert.GradIdeal.nD Cert.GradIdeal.τ).loc Cert.GradIdeal.main_arg13)
      ∧ r.2.mem ((c.tc : Thread Cert.GradIdeal.nD Cert.GradIdeal.τ).loc Cert.GradIdeal.main_arg14) = m ((c.tc : Thread Cert.GradIdeal.nD Cert.GradIdeal.τ).loc Cert.GradIdeal.main_arg14))
      ∧ r.2.sem = fun _ => 0)

def quiescent_GradIdeal_pre_grad_scales [hGradIdeal : Cert.GradIdeal.Facts] [hPre_grad_scales : Cert.Pre_grad_scales.Facts] : Prop :=
  ∀ (m : (ℓ : Loc Cert.GradIdeal.nD Cert.GradIdeal.τ Cert.GradIdeal.sig) → Buf (Elt Ideal) ℓ) (g : Dev Cert.GradIdeal.nD → PrngReg), Pre_GradIdeal_grad_scales m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
      ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
      ∧ r.2.mem ((c.tc : Thread Cert.GradIdeal.nD Cert.GradIdeal.τ).loc Cert.GradIdeal.main_arg9) = m ((c.tc : Thread Cert.GradIdeal.nD Cert.GradIdeal.τ).loc Cert.GradIdeal.main_arg9)
      ∧ r.2.mem ((c.tc : Thread Cert.GradIdeal.nD Cert.GradIdeal.τ).loc Cert.GradIdeal.main_arg10) = m ((c.tc : Thread Cert.GradIdeal.nD Cert.GradIdeal.τ).loc Cert.GradIdeal.main_arg10)
      ∧ r.2.mem ((c.tc : Thread Cert.GradIdeal.nD Cert.GradIdeal.τ).loc Cert.GradIdeal.main_arg11) = m ((c.tc : Thread Cert.GradIdeal.nD Cert.GradIdeal.τ).loc Cert.GradIdeal.main_arg11)
      ∧ r.2.mem ((c.tc : Thread Cert.GradIdeal.nD Cert.GradIdeal.τ).loc Cert.GradIdeal.main_arg12) = m ((c.tc : Thread Cert.GradIdeal.nD Cert.GradIdeal.τ).loc Cert.GradIdeal.main_arg12)
      ∧ r.2.mem ((c.tc : Thread Cert.GradIdeal.nD Cert.GradIdeal.τ).loc Cert.GradIdeal.main_arg13) = m ((c.tc : Thread Cert.GradIdeal.nD Cert.GradIdeal.τ).loc Cert.GradIdeal.main_arg13)
      ∧ r.2.mem ((c.tc : Thread Cert.GradIdeal.nD Cert.GradIdeal.τ).loc Cert.GradIdeal.main_arg14) = m ((c.tc : Thread Cert.GradIdeal.nD Cert.GradIdeal.τ).loc Cert.GradIdeal.main_arg14))
      ∧ r.2.sem = fun _ => 0)

def quiescent_GradRefIdeal [hGradRefIdeal : Cert.GradRefIdeal.Facts] : Prop :=
  ∀ (m : (ℓ : Loc Cert.GradRefIdeal.nD Cert.GradRefIdeal.τ Cert.GradRefIdeal.sig) → Buf (Elt Ideal) ℓ) (g : Dev Cert.GradRefIdeal.nD → PrngReg), Pre_GradRefIdeal m →
    θ_run (Cert.GradRefIdeal.defs (F := Ideal)) (onTc (τ := Cert.GradRefIdeal.τ) (Cert.GradRefIdeal.main (F := Ideal))) ⟨m, fun _ => 0, g⟩ (fun r => (∀ c : Dev Cert.GradRefIdeal.nD,
      r.2.mem ((c.tc : Thread Cert.GradRefIdeal.nD Cert.GradRefIdeal.τ).loc Cert.GradRefIdeal.main_arg0) = m ((c.tc : Thread Cert.GradRefIdeal.nD Cert.GradRefIdeal.τ).loc Cert.GradRefIdeal.main_arg0)
      ∧ r.2.mem ((c.tc : Thread Cert.GradRefIdeal.nD Cert.GradRefIdeal.τ).loc Cert.GradRefIdeal.main_arg1) = m ((c.tc : Thread Cert.GradRefIdeal.nD Cert.GradRefIdeal.τ).loc Cert.GradRefIdeal.main_arg1)
      ∧ r.2.mem ((c.tc : Thread Cert.GradRefIdeal.nD Cert.GradRefIdeal.τ).loc Cert.GradRefIdeal.main_arg2) = m ((c.tc : Thread Cert.GradRefIdeal.nD Cert.GradRefIdeal.τ).loc Cert.GradRefIdeal.main_arg2)
      ∧ r.2.mem ((c.tc : Thread Cert.GradRefIdeal.nD Cert.GradRefIdeal.τ).loc Cert.GradRefIdeal.main_arg3) = m ((c.tc : Thread Cert.GradRefIdeal.nD Cert.GradRefIdeal.τ).loc Cert.GradRefIdeal.main_arg3)
      ∧ r.2.mem ((c.tc : Thread Cert.GradRefIdeal.nD Cert.GradRefIdeal.τ).loc Cert.GradRefIdeal.main_arg4) = m ((c.tc : Thread Cert.GradRefIdeal.nD Cert.GradRefIdeal.τ).loc Cert.GradRefIdeal.main_arg4)
      ∧ r.2.mem ((c.tc : Thread Cert.GradRefIdeal.nD Cert.GradRefIdeal.τ).loc Cert.GradRefIdeal.main_arg5) = m ((c.tc : Thread Cert.GradRefIdeal.nD Cert.GradRefIdeal.τ).loc Cert.GradRefIdeal.main_arg5)
      ∧ r.2.mem ((c.tc : Thread Cert.GradRefIdeal.nD Cert.GradRefIdeal.τ).loc Cert.GradRefIdeal.main_arg6) = m ((c.tc : Thread Cert.GradRefIdeal.nD Cert.GradRefIdeal.τ).loc Cert.GradRefIdeal.main_arg6)
      ∧ r.2.mem ((c.tc : Thread Cert.GradRefIdeal.nD Cert.GradRefIdeal.τ).loc Cert.GradRefIdeal.main_arg7) = m ((c.tc : Thread Cert.GradRefIdeal.nD Cert.GradRefIdeal.τ).loc Cert.GradRefIdeal.main_arg7)
      ∧ r.2.mem ((c.tc : Thread Cert.GradRefIdeal.nD Cert.GradRefIdeal.τ).loc Cert.GradRefIdeal.main_arg8) = m ((c.tc : Thread Cert.GradRefIdeal.nD Cert.GradRefIdeal.τ).loc Cert.GradRefIdeal.main_arg8)
      ∧ r.2.mem ((c.tc : Thread Cert.GradRefIdeal.nD Cert.GradRefIdeal.τ).loc Cert.GradRefIdeal.main_arg9) = m ((c.tc : Thread Cert.GradRefIdeal.nD Cert.GradRefIdeal.τ).loc Cert.GradRefIdeal.main_arg9)
      ∧ r.2.mem ((c.tc : Thread Cert.GradRefIdeal.nD Cert.GradRefIdeal.τ).loc Cert.GradRefIdeal.main_arg10) = m ((c.tc : Thread Cert.GradRefIdeal.nD Cert.GradRefIdeal.τ).loc Cert.GradRefIdeal.main_arg10)
      ∧ r.2.mem ((c.tc : Thread Cert.GradRefIdeal.nD Cert.GradRefIdeal.τ).loc Cert.GradRefIdeal.main_arg11) = m ((c.tc : Thread Cert.GradRefIdeal.nD Cert.GradRefIdeal.τ).loc Cert.GradRefIdeal.main_arg11)
      ∧ r.2.mem ((c.tc : Thread Cert.GradRefIdeal.nD Cert.GradRefIdeal.τ).loc Cert.GradRefIdeal.main_arg12) = m ((c.tc : Thread Cert.GradRefIdeal.nD Cert.GradRefIdeal.τ).loc Cert.GradRefIdeal.main_arg12)
      ∧ r.2.mem ((c.tc : Thread Cert.GradRefIdeal.nD Cert.GradRefIdeal.τ).loc Cert.GradRefIdeal.main_arg13) = m ((c.tc : Thread Cert.GradRefIdeal.nD Cert.GradRefIdeal.τ).loc Cert.GradRefIdeal.main_arg13)
      ∧ r.2.mem ((c.tc : Thread Cert.GradRefIdeal.nD Cert.GradRefIdeal.τ).loc Cert.GradRefIdeal.main_arg14) = m ((c.tc : Thread Cert.GradRefIdeal.nD Cert.GradRefIdeal.τ).loc Cert.GradRefIdeal.main_arg14))
      ∧ r.2.sem = fun _ => 0)

def quiescent_GradRefIdeal_pre_grad_scales [hGradRefIdeal : Cert.GradRefIdeal.Facts] [hPre_grad_scales : Cert.Pre_grad_scales.Facts] : Prop :=
  ∀ (m : (ℓ : Loc Cert.GradRefIdeal.nD Cert.GradRefIdeal.τ Cert.GradRefIdeal.sig) → Buf (Elt Ideal) ℓ) (g : Dev Cert.GradRefIdeal.nD → PrngReg), Pre_GradRefIdeal_grad_scales m →
    θ_run (Cert.GradRefIdeal.defs (F := Ideal)) (onTc (τ := Cert.GradRefIdeal.τ) (Cert.GradRefIdeal.main (F := Ideal))) ⟨m, fun _ => 0, g⟩ (fun r => (∀ c : Dev Cert.GradRefIdeal.nD,
      r.2.mem ((c.tc : Thread Cert.GradRefIdeal.nD Cert.GradRefIdeal.τ).loc Cert.GradRefIdeal.main_arg0) = m ((c.tc : Thread Cert.GradRefIdeal.nD Cert.GradRefIdeal.τ).loc Cert.GradRefIdeal.main_arg0)
      ∧ r.2.mem ((c.tc : Thread Cert.GradRefIdeal.nD Cert.GradRefIdeal.τ).loc Cert.GradRefIdeal.main_arg1) = m ((c.tc : Thread Cert.GradRefIdeal.nD Cert.GradRefIdeal.τ).loc Cert.GradRefIdeal.main_arg1)
      ∧ r.2.mem ((c.tc : Thread Cert.GradRefIdeal.nD Cert.GradRefIdeal.τ).loc Cert.GradRefIdeal.main_arg2) = m ((c.tc : Thread Cert.GradRefIdeal.nD Cert.GradRefIdeal.τ).loc Cert.GradRefIdeal.main_arg2)
      ∧ r.2.mem ((c.tc : Thread Cert.GradRefIdeal.nD Cert.GradRefIdeal.τ).loc Cert.GradRefIdeal.main_arg3) = m ((c.tc : Thread Cert.GradRefIdeal.nD Cert.GradRefIdeal.τ).loc Cert.GradRefIdeal.main_arg3)
      ∧ r.2.mem ((c.tc : Thread Cert.GradRefIdeal.nD Cert.GradRefIdeal.τ).loc Cert.GradRefIdeal.main_arg4) = m ((c.tc : Thread Cert.GradRefIdeal.nD Cert.GradRefIdeal.τ).loc Cert.GradRefIdeal.main_arg4)
      ∧ r.2.mem ((c.tc : Thread Cert.GradRefIdeal.nD Cert.GradRefIdeal.τ).loc Cert.GradRefIdeal.main_arg5) = m ((c.tc : Thread Cert.GradRefIdeal.nD Cert.GradRefIdeal.τ).loc Cert.GradRefIdeal.main_arg5)
      ∧ r.2.mem ((c.tc : Thread Cert.GradRefIdeal.nD Cert.GradRefIdeal.τ).loc Cert.GradRefIdeal.main_arg6) = m ((c.tc : Thread Cert.GradRefIdeal.nD Cert.GradRefIdeal.τ).loc Cert.GradRefIdeal.main_arg6)
      ∧ r.2.mem ((c.tc : Thread Cert.GradRefIdeal.nD Cert.GradRefIdeal.τ).loc Cert.GradRefIdeal.main_arg7) = m ((c.tc : Thread Cert.GradRefIdeal.nD Cert.GradRefIdeal.τ).loc Cert.GradRefIdeal.main_arg7)
      ∧ r.2.mem ((c.tc : Thread Cert.GradRefIdeal.nD Cert.GradRefIdeal.τ).loc Cert.GradRefIdeal.main_arg8) = m ((c.tc : Thread Cert.GradRefIdeal.nD Cert.GradRefIdeal.τ).loc Cert.GradRefIdeal.main_arg8)
      ∧ r.2.mem ((c.tc : Thread Cert.GradRefIdeal.nD Cert.GradRefIdeal.τ).loc Cert.GradRefIdeal.main_arg9) = m ((c.tc : Thread Cert.GradRefIdeal.nD Cert.GradRefIdeal.τ).loc Cert.GradRefIdeal.main_arg9)
      ∧ r.2.mem ((c.tc : Thread Cert.GradRefIdeal.nD Cert.GradRefIdeal.τ).loc Cert.GradRefIdeal.main_arg10) = m ((c.tc : Thread Cert.GradRefIdeal.nD Cert.GradRefIdeal.τ).loc Cert.GradRefIdeal.main_arg10)
      ∧ r.2.mem ((c.tc : Thread Cert.GradRefIdeal.nD Cert.GradRefIdeal.τ).loc Cert.GradRefIdeal.main_arg11) = m ((c.tc : Thread Cert.GradRefIdeal.nD Cert.GradRefIdeal.τ).loc Cert.GradRefIdeal.main_arg11)
      ∧ r.2.mem ((c.tc : Thread Cert.GradRefIdeal.nD Cert.GradRefIdeal.τ).loc Cert.GradRefIdeal.main_arg12) = m ((c.tc : Thread Cert.GradRefIdeal.nD Cert.GradRefIdeal.τ).loc Cert.GradRefIdeal.main_arg12)
      ∧ r.2.mem ((c.tc : Thread Cert.GradRefIdeal.nD Cert.GradRefIdeal.τ).loc Cert.GradRefIdeal.main_arg13) = m ((c.tc : Thread Cert.GradRefIdeal.nD Cert.GradRefIdeal.τ).loc Cert.GradRefIdeal.main_arg13)
      ∧ r.2.mem ((c.tc : Thread Cert.GradRefIdeal.nD Cert.GradRefIdeal.τ).loc Cert.GradRefIdeal.main_arg14) = m ((c.tc : Thread Cert.GradRefIdeal.nD Cert.GradRefIdeal.τ).loc Cert.GradRefIdeal.main_arg14))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v7_0)) (v1 : (c : Dev Cert.QkvIdeal.nD) → Buf (Elt Ideal) ((c.tc : Thread Cert.QkvIdeal.nD Cert.QkvIdeal.τ).loc Cert.QkvIdeal.main_v7_1)) (v2 : (c : Dev Cert.QkvIdeal.nD) → Buf (Elt Ideal) ((c.tc : Thread Cert.QkvIdeal.nD Cert.QkvIdeal.τ).loc Cert.QkvIdeal.main_v7_2)) (v3 : (c : Dev Cert.QkvIdeal.nD) → Buf (Elt Ideal) ((c.tc : Thread Cert.QkvIdeal.nD Cert.QkvIdeal.τ).loc Cert.QkvIdeal.main_v7_3)) (v4 : (c : Dev Cert.QkvIdeal.nD) → Buf (Elt Ideal) ((c.tc : Thread Cert.QkvIdeal.nD Cert.QkvIdeal.τ).loc Cert.QkvIdeal.main_v8)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v7_0) = v0 c
          ∧ r.2.mem ((c.tc : Thread Cert.QkvIdeal.nD Cert.QkvIdeal.τ).loc Cert.QkvIdeal.main_v7_1) = v1 c
          ∧ r.2.mem ((c.tc : Thread Cert.QkvIdeal.nD Cert.QkvIdeal.τ).loc Cert.QkvIdeal.main_v7_2) = v2 c
          ∧ r.2.mem ((c.tc : Thread Cert.QkvIdeal.nD Cert.QkvIdeal.τ).loc Cert.QkvIdeal.main_v7_3) = v3 c
          ∧ r.2.mem ((c.tc : Thread Cert.QkvIdeal.nD Cert.QkvIdeal.τ).loc Cert.QkvIdeal.main_v8) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v23_0) = v0 c
          ∧ r.2.mem ((c.tc : Thread Cert.QkvRefIdeal.nD Cert.QkvRefIdeal.τ).loc Cert.QkvRefIdeal.main_v23_1) = v1 c
          ∧ r.2.mem ((c.tc : Thread Cert.QkvRefIdeal.nD Cert.QkvRefIdeal.τ).loc Cert.QkvRefIdeal.main_v23_2) = v2 c
          ∧ r.2.mem ((c.tc : Thread Cert.QkvRefIdeal.nD Cert.QkvRefIdeal.τ).loc Cert.QkvRefIdeal.main_v23_3) = v3 c
          ∧ r.2.mem ((c.tc : Thread Cert.QkvRefIdeal.nD Cert.QkvRefIdeal.τ).loc Cert.QkvRefIdeal.main_v18) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)
      ∧ m' ((c.tc : Thread Cert.DyRefIdeal.nD Cert.DyRefIdeal.τ).loc Cert.DyRefIdeal.main_arg2) = m ((c.tc : Thread Cert.DyIdeal.nD Cert.DyIdeal.τ).loc Cert.DyIdeal.main_arg2)
      ∧ m' ((c.tc : Thread Cert.DyRefIdeal.nD Cert.DyRefIdeal.τ).loc Cert.DyRefIdeal.main_arg3) = m ((c.tc : Thread Cert.DyIdeal.nD Cert.DyIdeal.τ).loc Cert.DyIdeal.main_arg3)) →
    ∃ (v0 : (c : Dev Cert.DyIdeal.nD) → Buf (Elt Ideal) ((c.tc : Thread Cert.DyIdeal.nD Cert.DyIdeal.τ).loc Cert.DyIdeal.main_v4_0)) (v1 : (c : Dev Cert.DyIdeal.nD) → Buf (Elt Ideal) ((c.tc : Thread Cert.DyIdeal.nD Cert.DyIdeal.τ).loc Cert.DyIdeal.main_v4_1)) (v2 : (c : Dev Cert.DyIdeal.nD) → Buf (Elt Ideal) ((c.tc : Thread Cert.DyIdeal.nD Cert.DyIdeal.τ).loc Cert.DyIdeal.main_v5)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v4_0) = v0 c
          ∧ r.2.mem ((c.tc : Thread Cert.DyIdeal.nD Cert.DyIdeal.τ).loc Cert.DyIdeal.main_v4_1) = v1 c
          ∧ r.2.mem ((c.tc : Thread Cert.DyIdeal.nD Cert.DyIdeal.τ).loc Cert.DyIdeal.main_v5) = v2 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
          ∧ r.2.mem ((c.tc : Thread Cert.DyIdeal.nD Cert.DyIdeal.τ).loc Cert.DyIdeal.main_arg2) = m ((c.tc : Thread Cert.DyIdeal.nD Cert.DyIdeal.τ).loc Cert.DyIdeal.main_arg2)
          ∧ r.2.mem ((c.tc : Thread Cert.DyIdeal.nD Cert.DyIdeal.τ).loc Cert.DyIdeal.main_arg3) = m ((c.tc : Thread Cert.DyIdeal.nD Cert.DyIdeal.τ).loc Cert.DyIdeal.main_arg3))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v6_0) = v0 c
          ∧ r.2.mem ((c.tc : Thread Cert.DyRefIdeal.nD Cert.DyRefIdeal.τ).loc Cert.DyRefIdeal.main_v6_1) = v1 c
          ∧ r.2.mem ((c.tc : Thread Cert.DyRefIdeal.nD Cert.DyRefIdeal.τ).loc Cert.DyRefIdeal.main_v3) = v2 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1)
          ∧ r.2.mem ((c.tc : Thread Cert.DyRefIdeal.nD Cert.DyRefIdeal.τ).loc Cert.DyRefIdeal.main_arg2) = m' ((c.tc : Thread Cert.DyRefIdeal.nD Cert.DyRefIdeal.τ).loc Cert.DyRefIdeal.main_arg2)
          ∧ r.2.mem ((c.tc : Thread Cert.DyRefIdeal.nD Cert.DyRefIdeal.τ).loc Cert.DyRefIdeal.main_arg3) = m' ((c.tc : Thread Cert.DyRefIdeal.nD Cert.DyRefIdeal.τ).loc Cert.DyRefIdeal.main_arg3))

def preserves_Out_OutIdeal : Prop :=
  True

def algebraic_OutIdeal_OutRefIdeal_pre_out_scales [hOutIdeal : Cert.OutIdeal.Facts] [hOutRefIdeal : Cert.OutRefIdeal.Facts] [hPre_out_scales : Cert.Pre_out_scales.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_out_scales m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v5_0)) (v1 : (c : Dev Cert.OutIdeal.nD) → Buf (Elt Ideal) ((c.tc : Thread Cert.OutIdeal.nD Cert.OutIdeal.τ).loc Cert.OutIdeal.main_v5_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5_0) = v0 c
          ∧ r.2.mem ((c.tc : Thread Cert.OutIdeal.nD Cert.OutIdeal.τ).loc Cert.OutIdeal.main_v5_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5_0) = v0 c
          ∧ r.2.mem ((c.tc : Thread Cert.OutRefIdeal.nD Cert.OutRefIdeal.τ).loc Cert.OutRefIdeal.main_v5_1) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Grad_GradIdeal : Prop :=
  True

def algebraic_GradIdeal_GradRefIdeal_pre_grad_scales [hGradIdeal : Cert.GradIdeal.Facts] [hGradRefIdeal : Cert.GradRefIdeal.Facts] [hPre_grad_scales : Cert.Pre_grad_scales.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradRefIdeal.nD Cert.GradRefIdeal.τ Cert.GradRefIdeal.sig) → Buf (Elt Ideal) ℓ) (g' : Dev Cert.GradRefIdeal.nD → PrngReg), Pre_GradIdeal_grad_scales m →
    (∀ c : Dev Cert.GradIdeal.nD,
      m' ((c.tc : Thread Cert.GradRefIdeal.nD Cert.GradRefIdeal.τ).loc Cert.GradRefIdeal.main_arg0) = m ((c.tc : Thread Cert.GradIdeal.nD Cert.GradIdeal.τ).loc Cert.GradIdeal.main_arg0)
      ∧ m' ((c.tc : Thread Cert.GradRefIdeal.nD Cert.GradRefIdeal.τ).loc Cert.GradRefIdeal.main_arg1) = m ((c.tc : Thread Cert.GradIdeal.nD Cert.GradIdeal.τ).loc Cert.GradIdeal.main_arg1)
      ∧ m' ((c.tc : Thread Cert.GradRefIdeal.nD Cert.GradRefIdeal.τ).loc Cert.GradRefIdeal.main_arg2) = m ((c.tc : Thread Cert.GradIdeal.nD Cert.GradIdeal.τ).loc Cert.GradIdeal.main_arg2)
      ∧ m' ((c.tc : Thread Cert.GradRefIdeal.nD Cert.GradRefIdeal.τ).loc Cert.GradRefIdeal.main_arg3) = m ((c.tc : Thread Cert.GradIdeal.nD Cert.GradIdeal.τ).loc Cert.GradIdeal.main_arg3)
      ∧ m' ((c.tc : Thread Cert.GradRefIdeal.nD Cert.GradRefIdeal.τ).loc Cert.GradRefIdeal.main_arg4) = m ((c.tc : Thread Cert.GradIdeal.nD Cert.GradIdeal.τ).loc Cert.GradIdeal.main_arg4)
      ∧ m' ((c.tc : Thread Cert.GradRefIdeal.nD Cert.GradRefIdeal.τ).loc Cert.GradRefIdeal.main_arg5) = m ((c.tc : Thread Cert.GradIdeal.nD Cert.GradIdeal.τ).loc Cert.GradIdeal.main_arg5)
      ∧ m' ((c.tc : Thread Cert.GradRefIdeal.nD Cert.GradRefIdeal.τ).loc Cert.GradRefIdeal.main_arg6) = m ((c.tc : Thread Cert.GradIdeal.nD Cert.GradIdeal.τ).loc Cert.GradIdeal.main_arg6)
      ∧ m' ((c.tc : Thread Cert.GradRefIdeal.nD Cert.GradRefIdeal.τ).loc Cert.GradRefIdeal.main_arg7) = m ((c.tc : Thread Cert.GradIdeal.nD Cert.GradIdeal.τ).loc Cert.GradIdeal.main_arg7)
      ∧ m' ((c.tc : Thread Cert.GradRefIdeal.nD Cert.GradRefIdeal.τ).loc Cert.GradRefIdeal.main_arg8) = m ((c.tc : Thread Cert.GradIdeal.nD Cert.GradIdeal.τ).loc Cert.GradIdeal.main_arg8)
      ∧ m' ((c.tc : Thread Cert.GradRefIdeal.nD Cert.GradRefIdeal.τ).loc Cert.GradRefIdeal.main_arg9) = m ((c.tc : Thread Cert.GradIdeal.nD Cert.GradIdeal.τ).loc Cert.GradIdeal.main_arg9)
      ∧ m' ((c.tc : Thread Cert.GradRefIdeal.nD Cert.GradRefIdeal.τ).loc Cert.GradRefIdeal.main_arg10) = m ((c.tc : Thread Cert.GradIdeal.nD Cert.GradIdeal.τ).loc Cert.GradIdeal.main_arg10)
      ∧ m' ((c.tc : Thread Cert.GradRefIdeal.nD Cert.GradRefIdeal.τ).loc Cert.GradRefIdeal.main_arg11) = m ((c.tc : Thread Cert.GradIdeal.nD Cert.GradIdeal.τ).loc Cert.GradIdeal.main_arg11)
      ∧ m' ((c.tc : Thread Cert.GradRefIdeal.nD Cert.GradRefIdeal.τ).loc Cert.GradRefIdeal.main_arg12) = m ((c.tc : Thread Cert.GradIdeal.nD Cert.GradIdeal.τ).loc Cert.GradIdeal.main_arg12)
      ∧ m' ((c.tc : Thread Cert.GradRefIdeal.nD Cert.GradRefIdeal.τ).loc Cert.GradRefIdeal.main_arg13) = m ((c.tc : Thread Cert.GradIdeal.nD Cert.GradIdeal.τ).loc Cert.GradIdeal.main_arg13)
      ∧ m' ((c.tc : Thread Cert.GradRefIdeal.nD Cert.GradRefIdeal.τ).loc Cert.GradRefIdeal.main_arg14) = m ((c.tc : Thread Cert.GradIdeal.nD Cert.GradIdeal.τ).loc Cert.GradIdeal.main_arg14)) →
    ∃ (v0 : (c : Dev Cert.GradIdeal.nD) → Buf (Elt Ideal) ((c.tc : Thread Cert.GradIdeal.nD Cert.GradIdeal.τ).loc Cert.GradIdeal.main_v9_0)) (v1 : (c : Dev Cert.GradIdeal.nD) → Buf (Elt Ideal) ((c.tc : Thread Cert.GradIdeal.nD Cert.GradIdeal.τ).loc Cert.GradIdeal.main_v9_1)) (v2 : (c : Dev Cert.GradIdeal.nD) → Buf (Elt Ideal) ((c.tc : Thread Cert.GradIdeal.nD Cert.GradIdeal.τ).loc Cert.GradIdeal.main_v9_2)) (v3 : (c : Dev Cert.GradIdeal.nD) → Buf (Elt Ideal) ((c.tc : Thread Cert.GradIdeal.nD Cert.GradIdeal.τ).loc Cert.GradIdeal.main_v9_3)) (v4 : (c : Dev Cert.GradIdeal.nD) → Buf (Elt Ideal) ((c.tc : Thread Cert.GradIdeal.nD Cert.GradIdeal.τ).loc Cert.GradIdeal.main_v9_4)) (v5 : (c : Dev Cert.GradIdeal.nD) → Buf (Elt Ideal) ((c.tc : Thread Cert.GradIdeal.nD Cert.GradIdeal.τ).loc Cert.GradIdeal.main_v10)) (v6 : (c : Dev Cert.GradIdeal.nD) → Buf (Elt Ideal) ((c.tc : Thread Cert.GradIdeal.nD Cert.GradIdeal.τ).loc Cert.GradIdeal.main_v9_6)) (v7 : (c : Dev Cert.GradIdeal.nD) → Buf (Elt Ideal) ((c.tc : Thread Cert.GradIdeal.nD Cert.GradIdeal.τ).loc Cert.GradIdeal.main_v9_7)) (v8 : (c : Dev Cert.GradIdeal.nD) → Buf (Elt Ideal) ((c.tc : Thread Cert.GradIdeal.nD Cert.GradIdeal.τ).loc Cert.GradIdeal.main_v9_8)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v9_0) = v0 c
          ∧ r.2.mem ((c.tc : Thread Cert.GradIdeal.nD Cert.GradIdeal.τ).loc Cert.GradIdeal.main_v9_1) = v1 c
          ∧ r.2.mem ((c.tc : Thread Cert.GradIdeal.nD Cert.GradIdeal.τ).loc Cert.GradIdeal.main_v9_2) = v2 c
          ∧ r.2.mem ((c.tc : Thread Cert.GradIdeal.nD Cert.GradIdeal.τ).loc Cert.GradIdeal.main_v9_3) = v3 c
          ∧ r.2.mem ((c.tc : Thread Cert.GradIdeal.nD Cert.GradIdeal.τ).loc Cert.GradIdeal.main_v9_4) = v4 c
          ∧ r.2.mem ((c.tc : Thread Cert.GradIdeal.nD Cert.GradIdeal.τ).loc Cert.GradIdeal.main_v10) = v5 c
          ∧ r.2.mem ((c.tc : Thread Cert.GradIdeal.nD Cert.GradIdeal.τ).loc Cert.GradIdeal.main_v9_6) = v6 c
          ∧ r.2.mem ((c.tc : Thread Cert.GradIdeal.nD Cert.GradIdeal.τ).loc Cert.GradIdeal.main_v9_7) = v7 c
          ∧ r.2.mem ((c.tc : Thread Cert.GradIdeal.nD Cert.GradIdeal.τ).loc Cert.GradIdeal.main_v9_8) = v8 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
          ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
          ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
          ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
          ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
          ∧ r.2.mem ((c.tc : Thread Cert.GradIdeal.nD Cert.GradIdeal.τ).loc Cert.GradIdeal.main_arg9) = m ((c.tc : Thread Cert.GradIdeal.nD Cert.GradIdeal.τ).loc Cert.GradIdeal.main_arg9)
          ∧ r.2.mem ((c.tc : Thread Cert.GradIdeal.nD Cert.GradIdeal.τ).loc Cert.GradIdeal.main_arg10) = m ((c.tc : Thread Cert.GradIdeal.nD Cert.GradIdeal.τ).loc Cert.GradIdeal.main_arg10)
          ∧ r.2.mem ((c.tc : Thread Cert.GradIdeal.nD Cert.GradIdeal.τ).loc Cert.GradIdeal.main_arg11) = m ((c.tc : Thread Cert.GradIdeal.nD Cert.GradIdeal.τ).loc Cert.GradIdeal.main_arg11)
          ∧ r.2.mem ((c.tc : Thread Cert.GradIdeal.nD Cert.GradIdeal.τ).loc Cert.GradIdeal.main_arg12) = m ((c.tc : Thread Cert.GradIdeal.nD Cert.GradIdeal.τ).loc Cert.GradIdeal.main_arg12)
          ∧ r.2.mem ((c.tc : Thread Cert.GradIdeal.nD Cert.GradIdeal.τ).loc Cert.GradIdeal.main_arg13) = m ((c.tc : Thread Cert.GradIdeal.nD Cert.GradIdeal.τ).loc Cert.GradIdeal.main_arg13)
          ∧ r.2.mem ((c.tc : Thread Cert.GradIdeal.nD Cert.GradIdeal.τ).loc Cert.GradIdeal.main_arg14) = m ((c.tc : Thread Cert.GradIdeal.nD Cert.GradIdeal.τ).loc Cert.GradIdeal.main_arg14))
      ∧ θ_run (Cert.GradRefIdeal.defs (F := Ideal)) (onTc (τ := Cert.GradRefIdeal.τ) (Cert.GradRefIdeal.main (F := Ideal))) ⟨m', fun _ => 0, g'⟩ (fun r => ∀ c : Dev Cert.GradRefIdeal.nD,
          r.2.mem ((c.tc : Thread Cert.GradRefIdeal.nD Cert.GradRefIdeal.τ).loc Cert.GradRefIdeal.main_v7_0) = v0 c
          ∧ r.2.mem ((c.tc : Thread Cert.GradRefIdeal.nD Cert.GradRefIdeal.τ).loc Cert.GradRefIdeal.main_v7_1) = v1 c
          ∧ r.2.mem ((c.tc : Thread Cert.GradRefIdeal.nD Cert.GradRefIdeal.τ).loc Cert.GradRefIdeal.main_v7_2) = v2 c
          ∧ r.2.mem ((c.tc : Thread Cert.GradRefIdeal.nD Cert.GradRefIdeal.τ).loc Cert.GradRefIdeal.main_v7_3) = v3 c
          ∧ r.2.mem ((c.tc : Thread Cert.GradRefIdeal.nD Cert.GradRefIdeal.τ).loc Cert.GradRefIdeal.main_v7_4) = v4 c
          ∧ r.2.mem ((c.tc : Thread Cert.GradRefIdeal.nD Cert.GradRefIdeal.τ).loc Cert.GradRefIdeal.main_v7_5) = v5 c
          ∧ r.2.mem ((c.tc : Thread Cert.GradRefIdeal.nD Cert.GradRefIdeal.τ).loc Cert.GradRefIdeal.main_v7_6) = v6 c
          ∧ r.2.mem ((c.tc : Thread Cert.GradRefIdeal.nD Cert.GradRefIdeal.τ).loc Cert.GradRefIdeal.main_v7_7) = v7 c
          ∧ r.2.mem ((c.tc : Thread Cert.GradRefIdeal.nD Cert.GradRefIdeal.τ).loc Cert.GradRefIdeal.main_v7_8) = v8 c
          ∧ r.2.mem ((c.tc : Thread Cert.GradRefIdeal.nD Cert.GradRefIdeal.τ).loc Cert.GradRefIdeal.main_arg0) = m' ((c.tc : Thread Cert.GradRefIdeal.nD Cert.GradRefIdeal.τ).loc Cert.GradRefIdeal.main_arg0)
          ∧ r.2.mem ((c.tc : Thread Cert.GradRefIdeal.nD Cert.GradRefIdeal.τ).loc Cert.GradRefIdeal.main_arg1) = m' ((c.tc : Thread Cert.GradRefIdeal.nD Cert.GradRefIdeal.τ).loc Cert.GradRefIdeal.main_arg1)
          ∧ r.2.mem ((c.tc : Thread Cert.GradRefIdeal.nD Cert.GradRefIdeal.τ).loc Cert.GradRefIdeal.main_arg2) = m' ((c.tc : Thread Cert.GradRefIdeal.nD Cert.GradRefIdeal.τ).loc Cert.GradRefIdeal.main_arg2)
          ∧ r.2.mem ((c.tc : Thread Cert.GradRefIdeal.nD Cert.GradRefIdeal.τ).loc Cert.GradRefIdeal.main_arg3) = m' ((c.tc : Thread Cert.GradRefIdeal.nD Cert.GradRefIdeal.τ).loc Cert.GradRefIdeal.main_arg3)
          ∧ r.2.mem ((c.tc : Thread Cert.GradRefIdeal.nD Cert.GradRefIdeal.τ).loc Cert.GradRefIdeal.main_arg4) = m' ((c.tc : Thread Cert.GradRefIdeal.nD Cert.GradRefIdeal.τ).loc Cert.GradRefIdeal.main_arg4)
          ∧ r.2.mem ((c.tc : Thread Cert.GradRefIdeal.nD Cert.GradRefIdeal.τ).loc Cert.GradRefIdeal.main_arg5) = m' ((c.tc : Thread Cert.GradRefIdeal.nD Cert.GradRefIdeal.τ).loc Cert.GradRefIdeal.main_arg5)
          ∧ r.2.mem ((c.tc : Thread Cert.GradRefIdeal.nD Cert.GradRefIdeal.τ).loc Cert.GradRefIdeal.main_arg6) = m' ((c.tc : Thread Cert.GradRefIdeal.nD Cert.GradRefIdeal.τ).loc Cert.GradRefIdeal.main_arg6)
          ∧ r.2.mem ((c.tc : Thread Cert.GradRefIdeal.nD Cert.GradRefIdeal.τ).loc Cert.GradRefIdeal.main_arg7) = m' ((c.tc : Thread Cert.GradRefIdeal.nD Cert.GradRefIdeal.τ).loc Cert.GradRefIdeal.main_arg7)
          ∧ r.2.mem ((c.tc : Thread Cert.GradRefIdeal.nD Cert.GradRefIdeal.τ).loc Cert.GradRefIdeal.main_arg8) = m' ((c.tc : Thread Cert.GradRefIdeal.nD Cert.GradRefIdeal.τ).loc Cert.GradRefIdeal.main_arg8)
          ∧ r.2.mem ((c.tc : Thread Cert.GradRefIdeal.nD Cert.GradRefIdeal.τ).loc Cert.GradRefIdeal.main_arg9) = m' ((c.tc : Thread Cert.GradRefIdeal.nD Cert.GradRefIdeal.τ).loc Cert.GradRefIdeal.main_arg9)
          ∧ r.2.mem ((c.tc : Thread Cert.GradRefIdeal.nD Cert.GradRefIdeal.τ).loc Cert.GradRefIdeal.main_arg10) = m' ((c.tc : Thread Cert.GradRefIdeal.nD Cert.GradRefIdeal.τ).loc Cert.GradRefIdeal.main_arg10)
          ∧ r.2.mem ((c.tc : Thread Cert.GradRefIdeal.nD Cert.GradRefIdeal.τ).loc Cert.GradRefIdeal.main_arg11) = m' ((c.tc : Thread Cert.GradRefIdeal.nD Cert.GradRefIdeal.τ).loc Cert.GradRefIdeal.main_arg11)
          ∧ r.2.mem ((c.tc : Thread Cert.GradRefIdeal.nD Cert.GradRefIdeal.τ).loc Cert.GradRefIdeal.main_arg12) = m' ((c.tc : Thread Cert.GradRefIdeal.nD Cert.GradRefIdeal.τ).loc Cert.GradRefIdeal.main_arg12)
          ∧ r.2.mem ((c.tc : Thread Cert.GradRefIdeal.nD Cert.GradRefIdeal.τ).loc Cert.GradRefIdeal.main_arg13) = m' ((c.tc : Thread Cert.GradRefIdeal.nD Cert.GradRefIdeal.τ).loc Cert.GradRefIdeal.main_arg13)
          ∧ r.2.mem ((c.tc : Thread Cert.GradRefIdeal.nD Cert.GradRefIdeal.τ).loc Cert.GradRefIdeal.main_arg14) = m' ((c.tc : Thread Cert.GradRefIdeal.nD Cert.GradRefIdeal.τ).loc Cert.GradRefIdeal.main_arg14))

def Claim : Prop :=
  ∃ (hQkv : Cert.Qkv.Facts) (hQkvIdeal : Cert.QkvIdeal.Facts) (hQkvRefIdeal : Cert.QkvRefIdeal.Facts) (hDy : Cert.Dy.Facts) (hDyIdeal : Cert.DyIdeal.Facts) (hDyRefIdeal : Cert.DyRefIdeal.Facts) (hOut : Cert.Out.Facts) (hOutIdeal : Cert.OutIdeal.Facts) (hOutRefIdeal : Cert.OutRefIdeal.Facts) (hGrad : Cert.Grad.Facts) (hGradIdeal : Cert.GradIdeal.Facts) (hGradRefIdeal : Cert.GradRefIdeal.Facts) (hPre_out_scales : Cert.Pre_out_scales.Facts) (hPre_grad_scales : Cert.Pre_grad_scales.Facts),
    quiescent_Qkv (hQkv := hQkv)
    ∧ quiescent_QkvIdeal (hQkvIdeal := hQkvIdeal)
    ∧ quiescent_QkvRefIdeal (hQkvRefIdeal := hQkvRefIdeal)
    ∧ quiescent_Dy (hDy := hDy)
    ∧ quiescent_DyIdeal (hDyIdeal := hDyIdeal)
    ∧ quiescent_DyRefIdeal (hDyRefIdeal := hDyRefIdeal)
    ∧ quiescent_Out (hOut := hOut)
    ∧ quiescent_OutIdeal (hOutIdeal := hOutIdeal)
    ∧ quiescent_OutIdeal_pre_out_scales (hOutIdeal := hOutIdeal) (hPre_out_scales := hPre_out_scales)
    ∧ quiescent_OutRefIdeal (hOutRefIdeal := hOutRefIdeal)
    ∧ quiescent_OutRefIdeal_pre_out_scales (hOutRefIdeal := hOutRefIdeal) (hPre_out_scales := hPre_out_scales)
    ∧ quiescent_Grad (hGrad := hGrad)
    ∧ quiescent_GradIdeal (hGradIdeal := hGradIdeal)
    ∧ quiescent_GradIdeal_pre_grad_scales (hGradIdeal := hGradIdeal) (hPre_grad_scales := hPre_grad_scales)
    ∧ quiescent_GradRefIdeal (hGradRefIdeal := hGradRefIdeal)
    ∧ quiescent_GradRefIdeal_pre_grad_scales (hGradRefIdeal := hGradRefIdeal) (hPre_grad_scales := hPre_grad_scales)
    ∧ preserves_Qkv_QkvIdeal
    ∧ algebraic_QkvIdeal_QkvRefIdeal (hQkvIdeal := hQkvIdeal) (hQkvRefIdeal := hQkvRefIdeal)
    ∧ preserves_Dy_DyIdeal
    ∧ algebraic_DyIdeal_DyRefIdeal (hDyIdeal := hDyIdeal) (hDyRefIdeal := hDyRefIdeal)
    ∧ preserves_Out_OutIdeal
    ∧ algebraic_OutIdeal_OutRefIdeal_pre_out_scales (hOutIdeal := hOutIdeal) (hOutRefIdeal := hOutRefIdeal) (hPre_out_scales := hPre_out_scales)
    ∧ preserves_Grad_GradIdeal
    ∧ algebraic_GradIdeal_GradRefIdeal_pre_grad_scales (hGradIdeal := hGradIdeal) (hGradRefIdeal := hGradRefIdeal) (hPre_grad_scales := hPre_grad_scales)
-- ==== Pre_grad_scales.lean ====
abbrev S8x1536x2048 : Shape := ⟨3, ![8, 1536, 2048]⟩
abbrev S2048 : Shape := ⟨1, ![2048]⟩
abbrev S2048x1024 : Shape := ⟨2, ![2048, 1024]⟩
abbrev S_ : Shape := ⟨0, ![]⟩
abbrev S12288x2048 : Shape := ⟨2, ![12288, 2048]⟩
abbrev S1024x12288 : Shape := ⟨2, ![1024, 12288]⟩
abbrev S3 : Shape := ⟨1, ![3]⟩

class Facts : Prop where
  bcast_S_S3 : S_.BroadcastsInDim S3 (![] : Fin 0 → Fin S3.rank)

variable [Facts]

def fn {F : FTy → Type} [FloatOps F] (main_arg0 : FVec F S8x1536x2048 .bf16) (main_arg1 : FVec F S2048 .f32) (main_arg2 : FVec F S2048x1024 .fp8e4m3) (main_arg3 : FVec F S2048x1024 .fp8e4m3) (main_arg4 : FVec F S2048x1024 .fp8e4m3) (main_arg5 : FVec F S_ .f32) (main_arg6 : FVec F S_ .f32) (main_arg7 : FVec F S_ .f32) (main_arg8 : FVec F S_ .f32) (main_arg9 : FVec F S8x1536x2048 .bf16) (main_arg10 : FVec F S12288x2048 .fp8e4m3) (main_arg11 : FVec F S1024x12288 .f32) (main_arg12 : FVec F S1024x12288 .f32) (main_arg13 : FVec F S1024x12288 .f32) (main_arg14 : FVec F S3 .f32) : IVec S_ 1 × IVec S3 1 :=
  let main_cst : FVec F S_ .f32 := constant S_ .f32 0x00000000#32
  let main_v0 : IVec S_ 1 := cmpf .oge main_arg8 main_cst
  let main_cst_0 : FVec F S_ .f32 := constant S_ .f32 0x7F800000#32
  let main_v1 : IVec S_ 1 := cmpf .olt main_arg8 main_cst_0
  let main_v2 : IVec S_ 1 := andi main_v0 main_v1
  let main_cst_1 : FVec F S_ .f32 := constant S_ .f32 0x00000000#32
  let main_v3 : FVec F S3 .f32 := broadcastInDim S3 ![] bcast_S_S3 main_cst_1
  let main_v4 : IVec S3 1 := cmpf .oge main_arg14 main_v3
  let main_cst_2 : FVec F S_ .f32 := constant S_ .f32 0x7F800000#32
  let main_v5 : FVec F S3 .f32 := broadcastInDim S3 ![] bcast_S_S3 main_cst_2
  let main_v6 : IVec S3 1 := cmpf .olt main_arg14 main_v5
  let main_v7 : IVec S3 1 := andi main_v4 main_v6
  (main_v2, main_v7)
-- ==== Pre_out_scales.lean ====
abbrev S8x1536x2048 : Shape := ⟨3, ![8, 1536, 2048]⟩
abbrev S12288x1024 : Shape := ⟨2, ![12288, 1024]⟩
abbrev S12288x2048 : Shape := ⟨2, ![12288, 2048]⟩
abbrev S1024x2048 : Shape := ⟨2, ![1024, 2048]⟩
abbrev S_ : Shape := ⟨0, ![]⟩

class Facts : Prop where

variable [Facts]

def fn {F : FTy → Type} [FloatOps F] (main_arg0 : FVec F S8x1536x2048 .bf16) (main_arg1 : FVec F S12288x1024 .fp8e4m3) (main_arg2 : FVec F S12288x2048 .fp8e5m2) (main_arg3 : FVec F S1024x2048 .fp8e4m3) (main_arg4 : FVec F S_ .f32) (main_arg5 : FVec F S_ .f32) (main_arg6 : FVec F S_ .f32) : IVec S_ 1 :=
  let main_cst : FVec F S_ .f32 := constant S_ .f32 0x00000000#32
  let main_v0 : IVec S_ 1 := cmpf .oge main_arg5 main_cst
  let main_cst_0 : FVec F S_ .f32 := constant S_ .f32 0x7F800000#32
  let main_v1 : IVec S_ 1 := cmpf .olt main_arg5 main_cst_0
  let main_v2 : IVec S_ 1 := andi main_v0 main_v1
  let main_cst_1 : FVec F S_ .f32 := constant S_ .f32 0x00000000#32
  let main_v3 : IVec S_ 1 := cmpf .oge main_arg6 main_cst_1
  let main_v4 : IVec S_ 1 := andi main_v2 main_v3
  let main_cst_2 : FVec F S_ .f32 := constant S_ .f32 0x7F800000#32
  let main_v5 : IVec S_ 1 := cmpf .olt main_arg6 main_cst_2
  let main_v6 : IVec S_ 1 := andi main_v4 main_v5
  main_v6
-- ==== Qkv.lean ====
abbrev S8x1536x2048 : Shape := ⟨3, ![8, 1536, 2048]⟩
abbrev S2048 : Shape := ⟨1, ![2048]⟩
abbrev S2048x1024 : Shape := ⟨2, ![2048, 1024]⟩
abbrev S_ : Shape := ⟨0, ![]⟩
abbrev S12288x2048 : Shape := ⟨2, ![12288, 2048]⟩
abbrev S1x2048 : Shape := ⟨2, ![1, 2048]⟩
abbrev S1 : Shape := ⟨1, ![1]⟩
abbrev S4 : Shape := ⟨1, ![4]⟩
abbrev S1024x12288 : Shape := ⟨2, ![1024, 12288]⟩
abbrev S12288x1024 : Shape := ⟨2, ![12288, 1024]⟩
abbrev S8x2048 : Shape := ⟨2, ![8, 2048]⟩
abbrev S512x2048 : Shape := ⟨2, ![512, 2048]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩
abbrev S64x8x2048 : Shape := ⟨3, ![64, 8, 2048]⟩

abbrev nBuf : Space → Nat
  | .hbm => 23
  | .vmem => 15
  | .smem => 1
  | _ => 0

abbrev bufTy : (tb : Table) → Fin (tcTables nBuf tb) → BufTy
  | .hbm, ⟨0, _⟩ => ⟨S8x1536x2048, .bf16⟩
  | .hbm, ⟨1, _⟩ => ⟨S2048, .f32⟩
  | .hbm, ⟨2, _⟩ => ⟨S2048x1024, .fp8e4m3⟩
  | .hbm, ⟨3, _⟩ => ⟨S2048x1024, .fp8e4m3⟩
  | .hbm, ⟨4, _⟩ => ⟨S2048x1024, .fp8e4m3⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S12288x2048, .bf16⟩
  | .hbm, ⟨10, _⟩ => ⟨S1x2048, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S4, .f32⟩
  | .hbm, ⟨16, _⟩ => ⟨S12288x2048, .fp8e4m3⟩
  | .hbm, ⟨17, _⟩ => ⟨S1024x12288, .bf16⟩
  | .hbm, ⟨18, _⟩ => ⟨S12288x1024, .bf16⟩
  | .hbm, ⟨19, _⟩ => ⟨S12288x1024, .bf16⟩
  | .hbm, ⟨20, _⟩ => ⟨S8x2048, .f32⟩
  | .hbm, ⟨21, _⟩ => ⟨S_, .f32⟩
  | .hbm, ⟨22, _⟩ => ⟨S_, .f32⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S2048x1024, .fp8e4m3⟩
  | .local _ .vmem, ⟨4, _⟩ => ⟨S2048x1024, .fp8e4m3⟩
  | .local _ .vmem, ⟨5, _⟩ => ⟨S2048x1024, .fp8e4m3⟩
  | .local _ .vmem, ⟨6, _⟩ => ⟨S512x2048, .fp8e4m3⟩
  | .local _ .vmem, ⟨7, _⟩ => ⟨S512x2048, .fp8e4m3⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x2048, .f32⟩
  | .local _ .smem, ⟨0, _⟩ => ⟨S4, .f32⟩
  | _, _ => ⟨S8x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_cst : Ref sig .tc := ⟨.hbm, 21, rfl⟩
abbrev main_v8 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![24], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== QkvRefIdeal.lean ====
abbrev S8x1536x2048 : Shape := ⟨3, ![8, 1536, 2048]⟩
abbrev S2048 : Shape := ⟨1, ![2048]⟩
abbrev S2048x1024 : Shape := ⟨2, ![2048, 1024]⟩
abbrev S_ : Shape := ⟨0, ![]⟩
abbrev S12288x2048 : Shape := ⟨2, ![12288, 2048]⟩
abbrev S12288 : Shape := ⟨1, ![12288]⟩
abbrev S12288x1 : Shape := ⟨2, ![12288, 1]⟩
abbrev S1x2048 : Shape := ⟨2, ![1, 2048]⟩
abbrev S1 : Shape := ⟨1, ![1]⟩
abbrev S1024x12288 : Shape := ⟨2, ![1024, 12288]⟩
abbrev S12288x1024 : Shape := ⟨2, ![12288, 1024]⟩

abbrev nBuf : Space → Nat
  | .hbm => 41
  | .vmem => 8
  | .smem => 4
  | _ => 0

abbrev bufTy : (tb : Table) → Fin (tcTables nBuf tb) → BufTy
  | .hbm, ⟨0, _⟩ => ⟨S8x1536x2048, .bf16⟩
  | .hbm, ⟨1, _⟩ => ⟨S2048, .f32⟩
  | .hbm, ⟨2, _⟩ => ⟨S2048x1024, .fp8e4m3⟩
  | .hbm, ⟨3, _⟩ => ⟨S2048x1024, .fp8e4m3⟩
  | .hbm, ⟨4, _⟩ => ⟨S2048x1024, .fp8e4m3⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S12288x2048, .bf16⟩
  | .hbm, ⟨10, _⟩ => ⟨S12288x2048, .f32⟩
  | .hbm, ⟨11, _⟩ => ⟨S12288x2048, .f32⟩
  | .hbm, ⟨12, _⟩ => ⟨S_, .f32⟩
  | .hbm, ⟨13, _⟩ => ⟨S12288, .f32⟩
  | .hbm, ⟨14, _⟩ => ⟨S12288x1, .f32⟩
  | .hbm, ⟨15, _⟩ => ⟨S_, .f32⟩
  | .hbm, ⟨16, _⟩ => ⟨S12288x1, .f32⟩
  | .hbm, ⟨17, _⟩ => ⟨S12288x1, .f32⟩
  | .hbm, ⟨18, _⟩ => ⟨S_, .f32⟩
  | .hbm, ⟨19, _⟩ => ⟨S12288x1, .f32⟩
  | .hbm, ⟨20, _⟩ => ⟨S12288x1, .f32⟩
  | .hbm, ⟨21, _⟩ => ⟨S12288x1, .f32⟩
  | .hbm, ⟨22, _⟩ => ⟨S_, .f32⟩
  | .hbm, ⟨23, _⟩ => ⟨S12288x1, .f32⟩
  | .hbm, ⟨24, _⟩ => ⟨S12288x1, .f32⟩
  | .hbm, ⟨25, _⟩ => ⟨S12288x2048, .f32⟩
  | .hbm, ⟨26, _⟩ => ⟨S12288x2048, .f32⟩
  | .hbm, ⟨27, _⟩ => ⟨S1x2048, .f32⟩
  | .hbm, ⟨28, _⟩ => ⟨S12288x2048, .f32⟩
  | .hbm, ⟨29, _⟩ => ⟨S12288x2048, .f32⟩
  | .hbm, ⟨30, _⟩ => ⟨S12288x2048, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S1, .f32⟩
  | .hbm, ⟨36, _⟩ => ⟨S1, .f32⟩
  | .hbm, ⟨37, _⟩ => ⟨S12288x2048, .fp8e4m3⟩
  | .hbm, ⟨38, _⟩ => ⟨S1024x12288, .bf16⟩
  | .hbm, ⟨39, _⟩ => ⟨S12288x1024, .bf16⟩
  | .hbm, ⟨40, _⟩ => ⟨S12288x1024, .bf16⟩
  | .local _ .vmem, ⟨0, _⟩ => ⟨S12288x2048, .f32⟩
  | .local _ .vmem, ⟨1, _⟩ => ⟨S2048x1024, .fp8e4m3⟩
  | .local _ .vmem, ⟨2, _⟩ => ⟨S2048x1024, .fp8e4m3⟩
  | .local _ .vmem, ⟨3, _⟩ => ⟨S2048x1024, .fp8e4m3⟩
  | .local _ .vmem, ⟨4, _⟩ => ⟨S12288x2048, .fp8e4m3⟩
  | .local _ .vmem, ⟨5, _⟩ => ⟨S1024x12288, .bf16⟩
  | .local _ .vmem, ⟨6, _⟩ => ⟨S12288x1024, .bf16⟩
  | .local _ .vmem, ⟨7, _⟩ => ⟨S12288x1024, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S8x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev main_v23_3 : Ref sig .tc := ⟨.hbm, 40, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg10_0 : Ref sig .tc := ⟨.vmem, 6, rfl⟩
abbrev cc0_stg11_0 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x12288 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12288x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12288x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Dy.lean ====
abbrev S8x1536x2048 : Shape := ⟨3, ![8, 1536, 2048]⟩
abbrev S1024x2048 : Shape := ⟨2, ![1024, 2048]⟩
abbrev S_ : Shape := ⟨0, ![]⟩
abbrev S12288x2048 : Shape := ⟨2, ![12288, 2048]⟩
abbrev S1 : Shape := ⟨1, ![1]⟩
abbrev S2 : Shape := ⟨1, ![2]⟩
abbrev S1024x12288 : Shape := ⟨2, ![1024, 12288]⟩
abbrev S8x2048 : Shape := ⟨2, ![8, 2048]⟩
abbrev S512x2048 : Shape := ⟨2, ![512, 2048]⟩
abbrev S1024x512 : Shape := ⟨2, ![1024, 512]⟩
abbrev S64x8x2048 : Shape := ⟨3, ![64, 8, 2048]⟩

abbrev nBuf : Space → Nat
  | .hbm => 13
  | .vmem => 8
  | .smem => 1
  | _ => 0

abbrev bufTy : (tb : Table) → Fin (tcTables nBuf tb) → BufTy
  | .hbm, ⟨0, _⟩ => ⟨S8x1536x2048, .bf16⟩
  | .hbm, ⟨1, _⟩ => ⟨S1024x2048, .fp8e4m3⟩
  | .hbm, ⟨2, _⟩ => ⟨S_, .f32⟩
  | .hbm, ⟨3, _⟩ => ⟨S_, .f32⟩
  | .hbm, ⟨4, _⟩ => ⟨S12288x2048, .bf16⟩
  | .hbm, ⟨5, _⟩ => ⟨S1, .f32⟩
  | .hbm, ⟨6, _⟩ => ⟨S1, .f32⟩
  | .hbm, ⟨7, _⟩ => ⟨S2, .f32⟩
  | .hbm, ⟨8, _⟩ => ⟨S12288x2048, .fp8e5m2⟩
  | .hbm, ⟨9, _⟩ => ⟨S1024x12288, .f32⟩
  | .hbm, ⟨10, _⟩ => ⟨S8x2048, .f32⟩
  | .hbm, ⟨11, _⟩ => ⟨S_, .f32⟩
  | .hbm, ⟨12, _⟩ => ⟨S_, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .fp8e4m3⟩
  | .local _ .vmem, ⟨3, _⟩ => ⟨S512x2048, .fp8e5m2⟩
  | .local _ .vmem, ⟨4, _⟩ => ⟨S512x2048, .fp8e5m2⟩
  | .local _ .vmem, ⟨5, _⟩ => ⟨S1024x512, .f32⟩
  | .local _ .vmem, ⟨6, _⟩ => ⟨S1024x512, .f32⟩
  | .local _ .vmem, ⟨7, _⟩ => ⟨S8x2048, .f32⟩
  | .local _ .smem, ⟨0, _⟩ => ⟨S2, .f32⟩
  | _, _ => ⟨S8x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_cst : Ref sig .tc := ⟨.hbm, 11, rfl⟩
abbrev main_v5 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DyRefIdeal.lean ====
abbrev S8x1536x2048 : Shape := ⟨3, ![8, 1536, 2048]⟩
abbrev S1024x2048 : Shape := ⟨2, ![1024, 2048]⟩
abbrev S_ : Shape := ⟨0, ![]⟩
abbrev S12288x2048 : Shape := ⟨2, ![12288, 2048]⟩
abbrev S1 : Shape := ⟨1, ![1]⟩
abbrev S1024x12288 : Shape := ⟨2, ![1024, 12288]⟩
abbrev S12288x1024 : Shape := ⟨2, ![12288, 1024]⟩

abbrev nBuf : Space → Nat
  | .hbm => 13
  | .vmem => 4
  | .smem => 2
  | _ => 0

abbrev bufTy : (tb : Table) → Fin (tcTables nBuf tb) → BufTy
  | .hbm, ⟨0, _⟩ => ⟨S8x1536x2048, .bf16⟩
  | .hbm, ⟨1, _⟩ => ⟨S1024x2048, .fp8e4m3⟩
  | .hbm, ⟨2, _⟩ => ⟨S_, .f32⟩
  | .hbm, ⟨3, _⟩ => ⟨S_, .f32⟩
  | .hbm, ⟨4, _⟩ => ⟨S12288x2048, .bf16⟩
  | .hbm, ⟨5, _⟩ => ⟨S12288x2048, .f32⟩
  | .hbm, ⟨6, _⟩ => ⟨S12288x2048, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S12288x2048, .fp8e5m2⟩
  | .hbm, ⟨12, _⟩ => ⟨S1024x12288, .f32⟩
  | .local _ .vmem, ⟨0, _⟩ => ⟨S12288x2048, .f32⟩
  | .local _ .vmem, ⟨1, _⟩ => ⟨S1024x2048, .fp8e4m3⟩
  | .local _ .vmem, ⟨2, _⟩ => ⟨S12288x2048, .fp8e5m2⟩
  | .local _ .vmem, ⟨3, _⟩ => ⟨S1024x12288, .f32⟩
  | .local _ .smem, ⟨0, _⟩ => ⟨S1, .f32⟩
  | .local _ .smem, ⟨1, _⟩ => ⟨S1, .f32⟩
  | _, _ => ⟨S8x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x2048 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Out.lean ====
abbrev S8x1536x2048 : Shape := ⟨3, ![8, 1536, 2048]⟩
abbrev S12288x1024 : Shape := ⟨2, ![12288, 1024]⟩
abbrev S12288x2048 : Shape := ⟨2, ![12288, 2048]⟩
abbrev S1024x2048 : Shape := ⟨2, ![1024, 2048]⟩
abbrev S_ : Shape := ⟨0, ![]⟩
abbrev S1 : Shape := ⟨1, ![1]⟩
abbrev S3 : Shape := ⟨1, ![3]⟩
abbrev S512x2048 : Shape := ⟨2, ![512, 2048]⟩
abbrev S512x1024 : Shape := ⟨2, ![512, 1024]⟩

abbrev nBuf : Space → Nat
  | .hbm => 14
  | .vmem => 10
  | .smem => 1
  | _ => 0

abbrev bufTy : (tb : Table) → Fin (tcTables nBuf tb) → BufTy
  | .hbm, ⟨0, _⟩ => ⟨S8x1536x2048, .bf16⟩
  | .hbm, ⟨1, _⟩ => ⟨S12288x1024, .fp8e4m3⟩
  | .hbm, ⟨2, _⟩ => ⟨S12288x2048, .fp8e5m2⟩
  | .hbm, ⟨3, _⟩ => ⟨S1024x2048, .fp8e4m3⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S12288x2048, .bf16⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S3, .f32⟩
  | .hbm, ⟨12, _⟩ => ⟨S12288x2048, .bf16⟩
  | .hbm, ⟨13, _⟩ => ⟨S1024x2048, .f32⟩
  | .local _ .vmem, ⟨0, _⟩ => ⟨S512x2048, .bf16⟩
  | .local _ .vmem, ⟨1, _⟩ => ⟨S512x2048, .bf16⟩
  | .local _ .vmem, ⟨2, _⟩ => ⟨S512x1024, .fp8e4m3⟩
  | .local _ .vmem, ⟨3, _⟩ => ⟨S512x1024, .fp8e4m3⟩
  | .local _ .vmem, ⟨4, _⟩ => ⟨S512x2048, .fp8e5m2⟩
  | .local _ .vmem, ⟨5, _⟩ => ⟨S512x2048, .fp8e5m2⟩
  | .local _ .vmem, ⟨6, _⟩ => ⟨S1024x2048, .fp8e4m3⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .smem, ⟨0, _⟩ => ⟨S3, .f32⟩
  | _, _ => ⟨S8x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![24], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutRefIdeal.lean ====
abbrev S8x1536x2048 : Shape := ⟨3, ![8, 1536, 2048]⟩
abbrev S12288x1024 : Shape := ⟨2, ![12288, 1024]⟩
abbrev S12288x2048 : Shape := ⟨2, ![12288, 2048]⟩
abbrev S1024x2048 : Shape := ⟨2, ![1024, 2048]⟩
abbrev S_ : Shape := ⟨0, ![]⟩
abbrev S1 : Shape := ⟨1, ![1]⟩

abbrev nBuf : Space → Nat
  | .hbm => 14
  | .vmem => 6
  | .smem => 3
  | _ => 0

abbrev bufTy : (tb : Table) → Fin (tcTables nBuf tb) → BufTy
  | .hbm, ⟨0, _⟩ => ⟨S8x1536x2048, .bf16⟩
  | .hbm, ⟨1, _⟩ => ⟨S12288x1024, .fp8e4m3⟩
  | .hbm, ⟨2, _⟩ => ⟨S12288x2048, .fp8e5m2⟩
  | .hbm, ⟨3, _⟩ => ⟨S1024x2048, .fp8e4m3⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S12288x2048, .bf16⟩
  | .hbm, ⟨8, _⟩ => ⟨S12288x2048, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S12288x2048, .bf16⟩
  | .hbm, ⟨13, _⟩ => ⟨S1024x2048, .f32⟩
  | .local _ .vmem, ⟨0, _⟩ => ⟨S12288x2048, .f32⟩
  | .local _ .vmem, ⟨1, _⟩ => ⟨S12288x1024, .fp8e4m3⟩
  | .local _ .vmem, ⟨2, _⟩ => ⟨S12288x2048, .fp8e5m2⟩
  | .local _ .vmem, ⟨3, _⟩ => ⟨S1024x2048, .fp8e4m3⟩
  | .local _ .vmem, ⟨4, _⟩ => ⟨S12288x2048, .bf16⟩
  | .local _ .vmem, ⟨5, _⟩ => ⟨S1024x2048, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S8x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x2048 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Grad.lean ====
abbrev S8x1536x2048 : Shape := ⟨3, ![8, 1536, 2048]⟩
abbrev S2048 : Shape := ⟨1, ![2048]⟩
abbrev S2048x1024 : Shape := ⟨2, ![2048, 1024]⟩
abbrev S_ : Shape := ⟨0, ![]⟩
abbrev S12288x2048 : Shape := ⟨2, ![12288, 2048]⟩
abbrev S1024x12288 : Shape := ⟨2, ![1024, 12288]⟩
abbrev S3 : Shape := ⟨1, ![3]⟩
abbrev S1x2048 : Shape := ⟨2, ![1, 2048]⟩
abbrev S1 : Shape := ⟨1, ![1]⟩
abbrev S4 : Shape := ⟨1, ![4]⟩
abbrev S7 : Shape := ⟨1, ![7]⟩
abbrev S12288x1024 : Shape := ⟨2, ![12288, 1024]⟩
abbrev S8x2048 : Shape := ⟨2, ![8, 2048]⟩
abbrev S256x2048 : Shape := ⟨2, ![256, 2048]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S32x8x2048 : Shape := ⟨3, ![32, 8, 2048]⟩

abbrev nBuf : Space → Nat
  | .hbm => 35
  | .vmem => 30
  | .smem => 1
  | _ => 0

abbrev bufTy : (tb : Table) → Fin (tcTables nBuf tb) → BufTy
  | .hbm, ⟨0, _⟩ => ⟨S8x1536x2048, .bf16⟩
  | .hbm, ⟨1, _⟩ => ⟨S2048, .f32⟩
  | .hbm, ⟨2, _⟩ => ⟨S2048x1024, .fp8e4m3⟩
  | .hbm, ⟨3, _⟩ => ⟨S2048x1024, .fp8e4m3⟩
  | .hbm, ⟨4, _⟩ => ⟨S2048x1024, .fp8e4m3⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x1536x2048, .bf16⟩
  | .hbm, ⟨10, _⟩ => ⟨S12288x2048, .fp8e4m3⟩
  | .hbm, ⟨11, _⟩ => ⟨S1024x12288, .f32⟩
  | .hbm, ⟨12, _⟩ => ⟨S1024x12288, .f32⟩
  | .hbm, ⟨13, _⟩ => ⟨S1024x12288, .f32⟩
  | .hbm, ⟨14, _⟩ => ⟨S3, .f32⟩
  | .hbm, ⟨15, _⟩ => ⟨S12288x2048, .bf16⟩
  | .hbm, ⟨16, _⟩ => ⟨S12288x2048, .bf16⟩
  | .hbm, ⟨17, _⟩ => ⟨S1x2048, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S4, .f32⟩
  | .hbm, ⟨23, _⟩ => ⟨S7, .f32⟩
  | .hbm, ⟨24, _⟩ => ⟨S12288x2048, .bf16⟩
  | .hbm, ⟨25, _⟩ => ⟨S12288x2048, .bf16⟩
  | .hbm, ⟨26, _⟩ => ⟨S12288x1024, .fp8e5m2⟩
  | .hbm, ⟨27, _⟩ => ⟨S12288x1024, .fp8e5m2⟩
  | .hbm, ⟨28, _⟩ => ⟨S12288x1024, .fp8e5m2⟩
  | .hbm, ⟨29, _⟩ => ⟨S8x2048, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .fp8e4m3⟩
  | .local _ .vmem, ⟨6, _⟩ => ⟨S256x2048, .fp8e4m3⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S2048x1024, .fp8e4m3⟩
  | .local _ .vmem, ⟨14, _⟩ => ⟨S2048x1024, .fp8e4m3⟩
  | .local _ .vmem, ⟨15, _⟩ => ⟨S2048x1024, .fp8e4m3⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x1024, .fp8e5m2⟩
  | .local _ .vmem, ⟨21, _⟩ => ⟨S256x1024, .fp8e5m2⟩
  | .local _ .vmem, ⟨22, _⟩ => ⟨S256x1024, .fp8e5m2⟩
  | .local _ .vmem, ⟨23, _⟩ => ⟨S256x1024, .fp8e5m2⟩
  | .local _ .vmem, ⟨24, _⟩ => ⟨S256x1024, .fp8e5m2⟩
  | .local _ .vmem, ⟨25, _⟩ => ⟨S256x1024, .fp8e5m2⟩
  | .local _ .vmem, ⟨26, _⟩ => ⟨S8x2048, .f32⟩
  | .local _ .vmem, ⟨27, _⟩ => ⟨S2048x1024, .f32⟩
  | .local _ .vmem, ⟨28, _⟩ => ⟨S2048x1024, .f32⟩
  | .local _ .vmem, ⟨29, _⟩ => ⟨S2048x1024, .f32⟩
  | .local _ .smem, ⟨0, _⟩ => ⟨S7, .f32⟩
  | _, _ => ⟨S8x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev main_v9_7 : Ref sig .tc := ⟨.hbm, 31, rfl⟩
abbrev main_v9_8 : Ref sig .tc := ⟨.hbm, 32, rfl⟩
abbrev main_cst : Ref sig .tc := ⟨.hbm, 33, rfl⟩
abbrev main_v10 : Ref sig .tc := ⟨.hbm, 34, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30

abbrev nD : Nat := 1
abbrev τ : Topo := Topo.v7x

variable {F : FTy → Type} [FloatOps F]

abbrev grid0 : Pipeline.Grid := ⟨1, ![48], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .fp8e5m2 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .fp8e5m2 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2048x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2048x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2048x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== GradRefIdeal.lean ====
abbrev S8x1536x2048 : Shape := ⟨3, ![8, 1536, 2048]⟩
abbrev S2048 : Shape := ⟨1, ![2048]⟩
abbrev S2048x1024 : Shape := ⟨2, ![2048, 1024]⟩
abbrev S_ : Shape := ⟨0, ![]⟩
abbrev S12288x2048 : Shape := ⟨2, ![12288, 2048]⟩
abbrev S1024x12288 : Shape := ⟨2, ![1024, 12288]⟩
abbrev S3 : Shape := ⟨1, ![3]⟩
abbrev S1 : Shape := ⟨1, ![1]⟩
abbrev S1x2048 : Shape := ⟨2, ![1, 2048]⟩
abbrev S12288x1024 : Shape := ⟨2, ![12288, 1024]⟩
abbrev S12288 : Shape := ⟨1, ![12288]⟩
abbrev S12288x1 : Shape := ⟨2, ![12288, 1]⟩

abbrev nBuf : Space → Nat
  | .hbm => 31
  | .vmem => 19
  | .smem => 5
  | _ => 0

abbrev bufTy : (tb : Table) → Fin (tcTables nBuf tb) → BufTy
  | .hbm, ⟨0, _⟩ => ⟨S8x1536x2048, .bf16⟩
  | .hbm, ⟨1, _⟩ => ⟨S2048, .f32⟩
  | .hbm, ⟨2, _⟩ => ⟨S2048x1024, .fp8e4m3⟩
  | .hbm, ⟨3, _⟩ => ⟨S2048x1024, .fp8e4m3⟩
  | .hbm, ⟨4, _⟩ => ⟨S2048x1024, .fp8e4m3⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x1536x2048, .bf16⟩
  | .hbm, ⟨10, _⟩ => ⟨S12288x2048, .fp8e4m3⟩
  | .hbm, ⟨11, _⟩ => ⟨S1024x12288, .f32⟩
  | .hbm, ⟨12, _⟩ => ⟨S1024x12288, .f32⟩
  | .hbm, ⟨13, _⟩ => ⟨S1024x12288, .f32⟩
  | .hbm, ⟨14, _⟩ => ⟨S3, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S12288x2048, .bf16⟩
  | .hbm, ⟨20, _⟩ => ⟨S1x2048, .f32⟩
  | .hbm, ⟨21, _⟩ => ⟨S12288x2048, .bf16⟩
  | .hbm, ⟨22, _⟩ => ⟨S12288x2048, .bf16⟩
  | .hbm, ⟨23, _⟩ => ⟨S12288x2048, .bf16⟩
  | .hbm, ⟨24, _⟩ => ⟨S12288x1024, .fp8e5m2⟩
  | .hbm, ⟨25, _⟩ => ⟨S12288x1024, .fp8e5m2⟩
  | .hbm, ⟨26, _⟩ => ⟨S12288x1024, .fp8e5m2⟩
  | .hbm, ⟨27, _⟩ => ⟨S2048, .f32⟩
  | .hbm, ⟨28, _⟩ => ⟨S2048x1024, .f32⟩
  | .hbm, ⟨29, _⟩ => ⟨S2048x1024, .f32⟩
  | .hbm, ⟨30, _⟩ => ⟨S2048x1024, .f32⟩
  | .local _ .vmem, ⟨0, _⟩ => ⟨S12288x2048, .bf16⟩
  | .local _ .vmem, ⟨1, _⟩ => ⟨S1x2048, .f32⟩
  | .local _ .vmem, ⟨2, _⟩ => ⟨S2048x1024, .fp8e4m3⟩
  | .local _ .vmem, ⟨3, _⟩ => ⟨S2048x1024, .fp8e4m3⟩
  | .local _ .vmem, ⟨4, _⟩ => ⟨S2048x1024, .fp8e4m3⟩
  | .local _ .vmem, ⟨5, _⟩ => ⟨S12288x2048, .bf16⟩
  | .local _ .vmem, ⟨6, _⟩ => ⟨S12288x2048, .fp8e4m3⟩
  | .local _ .vmem, ⟨7, _⟩ => ⟨S1024x12288, .f32⟩
  | .local _ .vmem, ⟨8, _⟩ => ⟨S1024x12288, .f32⟩
  | .local _ .vmem, ⟨9, _⟩ => ⟨S1024x12288, .f32⟩
  | .local _ .vmem, ⟨10, _⟩ => ⟨S12288x2048, .bf16⟩
  | .local _ .vmem, ⟨11, _⟩ => ⟨S12288x2048, .bf16⟩
  | .local _ .vmem, ⟨12, _⟩ => ⟨S12288x1024, .fp8e5m2⟩
  | .local _ .vmem, ⟨13, _⟩ => ⟨S12288x1024, .fp8e5m2⟩
  | .local _ .vmem, ⟨14, _⟩ => ⟨S12288x1024, .fp8e5m2⟩
  | .local _ .vmem, ⟨15, _⟩ => ⟨S2048, .f32⟩
  | .local _ .vmem, ⟨16, _⟩ => ⟨S2048x1024, .f32⟩
  | .local _ .vmem, ⟨17, _⟩ => ⟨S2048x1024, .f32⟩
  | .local _ .vmem, ⟨18, _⟩ => ⟨S2048x1024, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S3, .f32⟩
  | _, _ => ⟨S8x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev main_v7_4 : Ref sig .tc := ⟨.hbm, 26, rfl⟩
abbrev main_v7_5 : Ref sig .tc := ⟨.hbm, 27, rfl⟩
abbrev main_v7_6 : Ref sig .tc := ⟨.hbm, 28, rfl⟩
abbrev main_v7_7 : Ref sig .tc := ⟨.hbm, 29, rfl⟩
abbrev main_v7_8 : Ref sig .tc := ⟨.hbm, 30, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_stg11_0 : Ref sig .tc := ⟨.vmem, 6, rfl⟩
abbrev cc0_stg12_0 : Ref sig .tc := ⟨.vmem, 7, rfl⟩
abbrev cc0_stg13_0 : Ref sig .tc := ⟨.vmem, 8, rfl⟩
abbrev cc0_stg14_0 : Ref sig .tc := ⟨.vmem, 9, rfl⟩
abbrev cc0_stg15_0 : Ref sig .tc := ⟨.vmem, 10, rfl⟩
abbrev cc0_stg16_0 : Ref sig .tc := ⟨.vmem, 11, rfl⟩
abbrev cc0_stg17_0 : Ref sig .tc := ⟨.vmem, 12, rfl⟩
abbrev cc0_stg18_0 : Ref sig .tc := ⟨.vmem, 13, rfl⟩
abbrev cc0_stg19_0 : Ref sig .tc := ⟨.vmem, 14, rfl⟩
abbrev cc0_stg20_0 : Ref sig .tc := ⟨.vmem, 15, rfl⟩
abbrev cc0_stg21_0 : Ref sig .tc := ⟨.vmem, 16, rfl⟩
abbrev cc0_stg22_0 : Ref sig .tc := ⟨.vmem, 17, rfl⟩
abbrev cc0_stg23_0 : Ref sig .tc := ⟨.vmem, 18, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12288x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12288x2048 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x12288 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x12288 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x12288 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S12288x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S12288x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S12288x1024 .fp8e5m2 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S12288x1024 .fp8e5m2 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S12288x1024 .fp8e5m2 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2048x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2048x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2048x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Proof.Common.lean ====
/- Facts that every program's run uses: a whole-block store read back, and a word of an SMEM block. -/
module

public import Idealize.ShloMosaic.Lib.Pipeline.ValueKit
public import Idealize.ShloMosaic.Lib.Pipeline.Value
public import Idealize.ShloMosaic.Lib.Pointwise

@[expose] public section

set_option maxRecDepth 16384

namespace Cert.Common

open Idealize.ShloMosaic Idealize.SL.Sem

/-- One store of a whole block, read back, is the vector stored. -/
theorem read_store {Val : EltTy → Type} [∀ e, Nonempty (Val e)] {sig : RefSig} {κ : Kind} {sp : Space} {S : Shape}
    {e : EltTy} (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ fun y => ⟨_, List.mem_singleton_self _, View.mem_set_unit_zero h inb y⟩,
    View.canon_unit_zero h]

/-- The two zero offsets of a matrix, as a constant function. -/
theorem zeros₂ : (![0, 0] : Fin 2 → Nat) = fun _ => 0 := by decide

/-- The zero offset of a vector, as a constant function. -/
theorem zeros₁ : (![0] : Fin 1 → Nat) = fun _ => 0 := by decide

/-- Word `k` of a block of `n` words. -/
theorem ld_word {Val : EltTy → Type} {e : EltTy} {n : Nat} (x : (⟨1, ![n]⟩ : Shape).Idx → Val e) (k : Nat) (hk : k < n)
    (inb : ∀ a, (![k] : Fin 1 → Nat) a + (![1] : Fin 1 → Nat) a ≤ (⟨1, ![n]⟩ : Shape).size a)
    (i : (Rect.unit (s := ⟨1, ![n]⟩) ![k] ![1] inb).shape.Idx) :
    View.ld x (Rect.unit (s := ⟨1, ![n]⟩) ![k] ![1] inb) i = x (ix1 ⟨k, hk⟩) := by
  refine congrArg x (funext fun a => Fin.ext ?_)
  have h0 : a = 0 := Subsingleton.elim _ _
  subst h0
  have h1 : (i 0).val < 1 := (i 0).isLt
  show k + 1 * (i 0).val = k
  omega

end Cert.Common

end
-- ==== Proof.QkvRun.lean ====
/- The run of the call that normalises, quantises and projects as printed for the extended reals: what each grid point leaves in the output
   buffers, the proof data of the pipeline, the launch, and the frame. Everything is stated for any float values. -/
module

public import proofs.«01_k».proof.Proof.Gen.QkvIdeal.Frame
public import proofs.«01_k».proof.Proof.Gen.QkvIdeal.Skeleton
public import Idealize.ShloMosaic.Lib.Claim
public import proofs.«01_k».proof.Proof.Common

@[expose] public section

set_option maxRecDepth 16384
set_option maxHeartbeats 4000000

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- On whole blocks, the body leaves in the per-block outputs their payloads, and in each block that is carried from
    point to point the payload over what was there before. -/
theorem kernelRun0 (c : Dev nD) (i : grid0.Coords) (arg1 : Memref sig .tc .smem S4 .f32) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S2048x1024 .fp8e4m3) (harg4 : arg4.IsWhole) (arg5 : Memref sig .tc .vmem S2048x1024 .fp8e4m3) (harg5 : arg5.IsWhole) (arg6 : Memref sig .tc .vmem S2048x1024 .fp8e4m3) (harg6 : arg6.IsWhole) (arg7 : Memref sig .tc .vmem S512x2048 .fp8e4m3) (harg7 : arg7.IsWhole) (arg8 : Memref sig .tc .vmem S1024x512 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S8x2048 .f32) (harg11 : arg11.IsWhole)
    (x0 : Vec F S4 .f32) (x1 : Vec F S512x2048 .bf16) (x2 : Vec F S1x2048 .f32) (x3 : Vec F S2048x1024 .fp8e4m3) (x4 : Vec F S2048x1024 .fp8e4m3) (x5 : Vec F S2048x1024 .fp8e4m3)
    (y10 : Vec F S8x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare y10
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare (k0_pay6 x1 x2 (x0 (ix1 0)))
              ∗ owns (c : Thread nD τ) arg8 fullShare (k0_pay1 (x0 (ix1 0)) (k0_pay6 x1 x2 (x0 (ix1 0))) x3 (x0 (ix1 1)))
              ∗ owns (c : Thread nD τ) arg9 fullShare (k0_pay2 (x0 (ix1 0)) (k0_pay6 x1 x2 (x0 (ix1 0))) x4 (x0 (ix1 2)))
              ∗ owns (c : Thread nD τ) arg10 fullShare (k0_pay3 (x0 (ix1 0)) (k0_pay6 x1 x2 (x0 (ix1 0))) x5 (x0 (ix1 3)))
              ∗ owns (c : Thread nD τ) arg11 fullShare (k0_pay5 i x1 x2 y10)) -∗ K ⟨⟩))
          ⊢ wp frame (wpE (defs₀ (F := F)) Variants.none c none) E (cc0_norm_qkv i arg1 harg1 arg2 harg2 arg3 harg3 arg4 harg4 arg5 harg5 arg6 harg6 arg7 harg7 arg8 harg8 arg9 harg9 arg10 harg10 arg11 harg11) K := by
    intro E K
    simp only [cc0_norm_qkv_eq_skeleton]; unfold cc0_norm_qkv_skel
    simp only [k0_part1_eq_skeleton]
    unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (Common.read_store _ _ Common.zeros₂ _ _).trans ?_
      frame_out
      rw [Common.ld_word (Val := Elt F) (e := .f32) (n := 4) x0 0 (by decide)]; rfl
    isplitl [H7]
    · iexists _; isplitr; swap; · iexact H7
      ipureintro
      refine (Common.read_store _ _ Common.zeros₂ _ _).trans ?_
      frame_out
      rw [Common.ld_word (Val := Elt F) (e := .f32) (n := 4) x0 0 (by decide), Common.ld_word (Val := Elt F) (e := .f32) (n := 4) x0 1 (by decide)]; rfl
    isplitl [H8]
    · iexists _; isplitr; swap; · iexact H8
      ipureintro
      refine (Common.read_store _ _ Common.zeros₂ _ _).trans ?_
      frame_out
      rw [Common.ld_word (Val := Elt F) (e := .f32) (n := 4) x0 0 (by decide), Common.ld_word (Val := Elt F) (e := .f32) (n := 4) x0 2 (by decide)]; rfl
    isplitl [H9]
    · iexists _; isplitr; swap; · iexact H9
      ipureintro
      refine (Common.read_store _ _ Common.zeros₂ _ _).trans ?_
      frame_out
      rw [Common.ld_word (Val := Elt F) (e := .f32) (n := 4) x0 0 (by decide), Common.ld_word (Val := Elt F) (e := .f32) (n := 4) x0 3 (by decide)]; rfl
    iexists _; isplitr; swap; · iexact H10
    ipureintro
    refine (Common.read_store _ _ Common.zeros₂ _ _).trans ?_
    frame_out

/-- The grid has one axis: the coordinate is the point's number. -/
theorem coord0 : ∀ t : Fin cfg0.N, (grid0.coords t 0).val = t.val :=
  (by decide +kernel : ∀ t : Fin grid0.N, (grid0.coords t 0).val = t.val)

/-- What window 10's block holds after point `n`. -/
def acc10 (c : Dev nD) : (n : Nat) → n < cfg0.N → Vec F S8x2048 .f32
  | 0, h => k0_pay5 (grid0.coords ⟨0, h⟩) (iblk m c 1 ⟨0, h⟩) (iblk m c 2 ⟨0, h⟩) (constant S8x2048 .f32 0x00000000#32)
  | n + 1, h => k0_pay5 (grid0.coords ⟨n + 1, h⟩) (iblk m c 1 ⟨n + 1, h⟩) (iblk m c 2 ⟨n + 1, h⟩) (acc10 c n (Nat.lt_of_succ_lt h))

/-- The proof data of the one pipeline on core `c`: the arrays as the region finds them; after the body at point `t`
    each input's buffer at its block, the outputs' at the payloads; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay6 (iblk m c 1 t) (iblk m c 2 t) ((iblk m c 0 t : Vec F S4 .f32) (ix1 0))
    | ⟨7, _⟩ => k0_pay1 ((iblk m c 0 t : Vec F S4 .f32) (ix1 0)) (k0_pay6 (iblk m c 1 t) (iblk m c 2 t) ((iblk m c 0 t : Vec F S4 .f32) (ix1 0))) (iblk m c 3 t) ((iblk m c 0 t : Vec F S4 .f32) (ix1 1))
    | ⟨8, _⟩ => k0_pay2 ((iblk m c 0 t : Vec F S4 .f32) (ix1 0)) (k0_pay6 (iblk m c 1 t) (iblk m c 2 t) ((iblk m c 0 t : Vec F S4 .f32) (ix1 0))) (iblk m c 4 t) ((iblk m c 0 t : Vec F S4 .f32) (ix1 2))
    | ⟨9, _⟩ => k0_pay3 ((iblk m c 0 t : Vec F S4 .f32) (ix1 0)) (k0_pay6 (iblk m c 1 t) (iblk m c 2 t) ((iblk m c 0 t : Vec F S4 .f32) (ix1 0))) (iblk m c 5 t) ((iblk m c 0 t : Vec F S4 .f32) (ix1 3))
    | ⟨10, _⟩ => acc10 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay6 (iblk m c 1 t) (iblk m c 2 t) ((iblk m c 0 t : Vec F S4 .f32) (ix1 0)) := by dsimp only [dats]
theorem after0_7 (c : Dev nD) (t : Fin cfg0.N) : (dats m 0 c).after 7 t = k0_pay1 ((iblk m c 0 t : Vec F S4 .f32) (ix1 0)) (k0_pay6 (iblk m c 1 t) (iblk m c 2 t) ((iblk m c 0 t : Vec F S4 .f32) (ix1 0))) (iblk m c 3 t) ((iblk m c 0 t : Vec F S4 .f32) (ix1 1)) := by dsimp only [dats]
theorem after0_8 (c : Dev nD) (t : Fin cfg0.N) : (dats m 0 c).after 8 t = k0_pay2 ((iblk m c 0 t : Vec F S4 .f32) (ix1 0)) (k0_pay6 (iblk m c 1 t) (iblk m c 2 t) ((iblk m c 0 t : Vec F S4 .f32) (ix1 0))) (iblk m c 4 t) ((iblk m c 0 t : Vec F S4 .f32) (ix1 2)) := by dsimp only [dats]
theorem after0_9 (c : Dev nD) (t : Fin cfg0.N) : (dats m 0 c).after 9 t = k0_pay3 ((iblk m c 0 t : Vec F S4 .f32) (ix1 0)) (k0_pay6 (iblk m c 1 t) (iblk m c 2 t) ((iblk m c 0 t : Vec F S4 .f32) (ix1 0))) (iblk m c 5 t) ((iblk m c 0 t : Vec F S4 .f32) (ix1 3)) := by dsimp only [dats]
theorem after0_10 (c : Dev nD) (t : Fin cfg0.N) : (dats m 0 c).after 10 t = acc10 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At the first point window 10's payload does not depend on what the block held, -/
theorem first10 (c : Dev nD) (t : Fin cfg0.N) (h : t.val = 0) (y y' : Vec F S8x2048 .f32) :
    k0_pay5 (grid0.coords t) (iblk m c 1 t) (iblk m c 2 t) y = k0_pay5 (grid0.coords t) (iblk m c 1 t) (iblk m c 2 t) y' := by
  unfold k0_pay5
  rw [coord0, h]
  rfl

/-- so its payload over what the buffer holds before the point is what it holds after. -/
theorem step10 (c : Dev nD) (t : Fin cfg0.N) (d) :
    k0_pay5 (grid0.coords t) (iblk m c 1 t) (iblk m c 2 t) ((dats m 0 c).before 10 t d) = acc10 m c t.val t.isLt := by
  obtain ⟨n, hn⟩ := t
  cases n with
  | zero => exact first10 m c ⟨0, hn⟩ rfl _ _
  | succ n =>
    have hfl : (cfg0.win 10).flush ⟨n, Nat.lt_of_succ_lt hn⟩ = false := by
      rw [Bool.eq_false_iff]
      intro h
      have h1 := (flush0_10 ⟨n, Nat.lt_of_succ_lt hn⟩).mp h
      have h2 : n + 1 < 24 := lt_of_lt_of_eq hn N_0
      simp only at h1
      omega
    rw [(dats m 0 c).before_out_kept 10 rfl ⟨n + 1, hn⟩ (Nat.succ_ne_zero n) hfl (fun _ => rfl) (fun _ _ => rfl) d, after0_10]
    rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelRun0 c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 10 t d10) Set.univ _)
  rw [step10 m c t d10]
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline at what the library computes from the proof data, every other buffer as the
    host lines leave it, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.QkvIdeal.Gen

end
-- ==== Proof.QkvBits.lean ====
/- The first call on machine words leaves its arguments as they were: its program is the one over the extended reals, at the
   other element type, so the frame shown for every element type applies. -/
module

public import proofs.«01_k».proof.Proof.Gen.Qkv.Frame
public import proofs.«01_k».proof.Proof.QkvRun

@[expose] public section

set_option maxRecDepth 16384
set_option maxHeartbeats 8000000

noncomputable section

namespace Cert.Qkv.Gen

open Idealize.ShloMosaic Idealize.ShloMosaic.TcCoe Idealize.SL.Sem

variable {F : FTy → Type} [FloatOps F]

/-- The two programs have the same kernel body. -/
theorem bodies : (defs₀ : Defs nD τ sig (Elt F) Λ₀) = Cert.QkvIdeal.defs₀ := by
  unfold defs₀ Cert.QkvIdeal.defs₀
  refine congrArg Defs.onTc (funext fun l => funext fun x => ?_)
  obtain ⟨n, h⟩ := l
  cases n with
  | zero => rfl
  | succ n => exact absurd h (Nat.not_lt.2 (Nat.le_add_left _ _))

/-- Every run ends with the arguments unchanged and every semaphore at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  unfold defs
  rw [bodies]
  exact Cert.QkvIdeal.Gen.frame m ρ

end Cert.Qkv.Gen

end
-- ==== Proof.QkvRef.lean ====
/- What the first call's reference leaves in its arrays, over its arguments. -/
module

public import proofs.«01_k».proof.Proof.Gen.QkvRefIdeal.Value
public import proofs.«01_k».proof.Proof.Common
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

namespace Cert.QkvRefIdeal.Final

open Idealize.ShloMosaic Idealize.ShloMosaic.TcCoe Idealize.SL.Sem
open Idealize.ShloMosaic.Pipeline (Dat)
open Cert.QkvRefIdeal Cert.QkvRefIdeal.Gen

variable (m : (ℓ : Loc nD τ sig) → Buf (Elt Ideal) ℓ)

/-- The one point's block of every window is its whole array. -/
theorem idx_val : ∀ t : Fin cfg0.N, win0_0.index t = ![0] ∧ win0_1.index t = ![0] ∧ win0_2.index t = ![0] ∧ win0_3.index t = ![0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

/-- The blocks of the inputs are their arrays. -/
theorem block0 (c : Dev nD) : iblk m c 0 t0_0 = V m c main_v19 := by blk_ext! [iblk, V, idx_val t0_0]
theorem block1 (c : Dev nD) : iblk m c 1 t0_0 = V m c main_v20 := by blk_ext! [iblk, V, idx_val t0_0]
theorem block2 (c : Dev nD) : iblk m c 2 t0_0 = V m c main_v21 := by blk_ext! [iblk, V, idx_val t0_0]
theorem block3 (c : Dev nD) : iblk m c 3 t0_0 = V m c main_v22 := by blk_ext! [iblk, V, idx_val t0_0]
theorem block4 (c : Dev nD) : iblk m c 4 t0_0 = V m c main_v16 := by blk_ext! [iblk, V, idx_val t0_0]
theorem block5 (c : Dev nD) : iblk m c 5 t0_0 = V m c main_arg2 := by blk_ext! [iblk, V, idx_val t0_0]
theorem block6 (c : Dev nD) : iblk m c 6 t0_0 = V m c main_arg3 := by blk_ext! [iblk, V, idx_val t0_0]
theorem block7 (c : Dev nD) : iblk m c 7 t0_0 = V m c main_arg4 := by blk_ext! [iblk, V, idx_val t0_0]

/-- The scales as the host hands them over. -/
theorem scale_xn (c : Dev nD) : (V m c main_v19 : Vec Ideal S1 .f32) (ix1 0) = (m ((c : Thread nD τ).loc main_arg8) : Vec Ideal S_ .f32) ix0 := by
  change StableHlo.after hostOps0 (fun b => m (c, b)) (Proc.devRef .tc main_v19) (ix1 0) = _
  after_reads_simp
  pointwise []

theorem scale_q (c : Dev nD) : (V m c main_v20 : Vec Ideal S1 .f32) (ix1 0) = (m ((c : Thread nD τ).loc main_arg5) : Vec Ideal S_ .f32) ix0 := by
  change StableHlo.after hostOps0 (fun b => m (c, b)) (Proc.devRef .tc main_v20) (ix1 0) = _
  after_reads_simp
  pointwise []

theorem scale_k (c : Dev nD) : (V m c main_v21 : Vec Ideal S1 .f32) (ix1 0) = (m ((c : Thread nD τ).loc main_arg6) : Vec Ideal S_ .f32) ix0 := by
  change StableHlo.after hostOps0 (fun b => m (c, b)) (Proc.devRef .tc main_v21) (ix1 0) = _
  after_reads_simp
  pointwise []

theorem scale_v (c : Dev nD) : (V m c main_v22 : Vec Ideal S1 .f32) (ix1 0) = (m ((c : Thread nD τ).loc main_arg7) : Vec Ideal S_ .f32) ix0 := by
  change StableHlo.after hostOps0 (fun b => m (c, b)) (Proc.devRef .tc main_v22) (ix1 0) = _
  after_reads_simp
  pointwise []
/-- The tokens as the host hands them over. -/
theorem tokens (c : Dev nD) : V m c main_v1 = extf (F := Ideal) (φ := .bf16) .f32
    (shapeCast S12288x2048 (m ((c : Thread nD τ).loc main_arg0) : Vec Ideal S8x1536x2048 .bf16) shapeCasts_S8x1536x2048_S12288x2048) bitsLt_bf16_f32 := by
  change StableHlo.after hostOps0 (fun b => m (c, b)) (Proc.devRef .tc main_v1) = _
  after_reads_simp
  rfl

/-- The normalised tokens: each divided by the root of its mean square, and weighted. -/
def normOf (x : FVec Ideal S12288x2048 .f32) (w : FVec Ideal S2048 .f32) : FVec Ideal S12288x2048 .f32 :=
  mulf (mulf x (broadcastInDim S12288x2048 ![0, 1] bcast_S12288x1_S12288x2048_0_1
      (Host.divf (broadcastInDim S12288x1 ![] bcast_S_S12288x1 (constant S_ .f32 0x3F800000#32))
        (Host.sqrt (addf
          (Host.divf (broadcastInDim S12288x1 ![0] bcast_S12288_S12288x1_0 (Host.reduceAdd (mulf x x) (constant S_ .f32 0x00000000#32) reducesTo_S12288x2048_S12288_d1 h_S_))
            (broadcastInDim S12288x1 ![] bcast_S_S12288x1 (constant S_ .f32 0x45000000#32)))
          (broadcastInDim S12288x1 ![] bcast_S_S12288x1 (constant S_ .f32 0x358637BD#32)))))))
    (broadcastInDim S12288x2048 ![0, 1] bcast_S1x2048_S12288x2048_0_1 (broadcastInDim S1x2048 ![1] bcast_S2048_S1x2048_1 w))

/-- The host's normalised tokens, and the largest of their magnitudes. -/
theorem normed (c : Dev nD) : V m c main_v16 = normOf (V m c main_v1) (m ((c : Thread nD τ).loc main_arg1) : Vec Ideal S2048 .f32) := by
  rw [tokens]
  change StableHlo.after hostOps0 (fun b => m (c, b)) (Proc.devRef .tc main_v16) = _
  after_reads_simp
  rfl
theorem maximum (c : Dev nD) : V m c main_v18 = Host.reduce (FloatOps.maximumf (F := Ideal) (φ := .f32)) (Host.absf (V m c main_v16))
    (constant S_ .f32 0xFF800000#32) reducesTo_S12288x2048_S_d0_1 h_S_ := by
  rw [normed, tokens]
  change StableHlo.after hostOps0 (fun b => m (c, b)) (Proc.devRef .tc main_v18) = _
  after_reads_simp
  rfl

/-- The normalised tokens' codes. -/
theorem codes (c : Dev nD) :
    (dats m 0 c).arrAt 8 cfg0.N = k0_pay2 (F := Ideal) (V m c main_v16) ((V m c main_v19 : Vec Ideal S1 .f32) (ix1 0)) := by
  refine (dats m 0 c).arrAt_eq_of_after_last 8 t0_0 (by decide +kernel) _ fun j => ?_
  blk_simp
  rw [after0_8]
  unfold outsAt0
  generalize hs0_0 t0_0 = h0
  generalize ms0_0 t0_0 = a0 at h0
  generalize hs0_4 t0_0 = h4
  generalize ms0_4 t0_0 = a4 at h4
  rw [block0, block4]
  frame_out
  rw [Cert.Common.ld_word (Val := Elt Ideal) (e := .f32) (n := 1) _ 0 (by decide)]
  rfl

/-- The queries. -/
theorem queries (c : Dev nD) :
    (dats m 0 c).arrAt 9 cfg0.N = k0_pay3 (F := Ideal) (V m c main_v16) ((V m c main_v19 : Vec Ideal S1 .f32) (ix1 0)) (V m c main_arg2) ((V m c main_v19 : Vec Ideal S1 .f32) (ix1 0)) ((V m c main_v20 : Vec Ideal S1 .f32) (ix1 0)) := by
  refine (dats m 0 c).arrAt_eq_of_after_last 9 t0_0 (by decide +kernel) _ fun j => ?_
  blk_simp
  rw [after0_9]
  unfold outsAt0
  generalize hs0_0 t0_0 = h0
  generalize ms0_0 t0_0 = a0 at h0
  generalize hs0_1 t0_0 = h1
  generalize ms0_1 t0_0 = a1 at h1
  generalize hs0_4 t0_0 = h4
  generalize ms0_4 t0_0 = a4 at h4
  generalize hs0_5 t0_0 = h5
  generalize ms0_5 t0_0 = a5 at h5
  rw [block0, block1, block4, block5]
  frame_out
  rw [Cert.Common.ld_word (Val := Elt Ideal) (e := .f32) (n := 1) _ 0 (by decide)]
  rw [Cert.Common.ld_word (Val := Elt Ideal) (e := .f32) (n := 1) _ 0 (by decide)]
  rfl

/-- The keys. -/
theorem keys (c : Dev nD) :
    (dats m 0 c).arrAt 10 cfg0.N = k0_pay4 (F := Ideal) (V m c main_v16) ((V m c main_v19 : Vec Ideal S1 .f32) (ix1 0)) (V m c main_arg3) ((V m c main_v19 : Vec Ideal S1 .f32) (ix1 0)) ((V m c main_v21 : Vec Ideal S1 .f32) (ix1 0)) := by
  refine (dats m 0 c).arrAt_eq_of_after_last 10 t0_0 (by decide +kernel) _ fun j => ?_
  blk_simp
  rw [after0_10]
  unfold outsAt0
  generalize hs0_0 t0_0 = h0
  generalize ms0_0 t0_0 = a0 at h0
  generalize hs0_2 t0_0 = h2
  generalize ms0_2 t0_0 = a2 at h2
  generalize hs0_4 t0_0 = h4
  generalize ms0_4 t0_0 = a4 at h4
  generalize hs0_6 t0_0 = h6
  generalize ms0_6 t0_0 = a6 at h6
  rw [block0, block2, block4, block6]
  frame_out
  rw [Cert.Common.ld_word (Val := Elt Ideal) (e := .f32) (n := 1) _ 0 (by decide)]
  rw [Cert.Common.ld_word (Val := Elt Ideal) (e := .f32) (n := 1) _ 0 (by decide)]
  rfl

/-- The values. -/
theorem values (c : Dev nD) :
    (dats m 0 c).arrAt 11 cfg0.N = k0_pay1 (F := Ideal) (k0_pay2 (F := Ideal) (V m c main_v16) ((V m c main_v19 : Vec Ideal S1 .f32) (ix1 0))) (V m c main_arg4) ((V m c main_v19 : Vec Ideal S1 .f32) (ix1 0)) ((V m c main_v22 : Vec Ideal S1 .f32) (ix1 0)) := by
  refine (dats m 0 c).arrAt_eq_of_after_last 11 t0_0 (by decide +kernel) _ fun j => ?_
  blk_simp
  rw [after0_11]
  unfold outsAt0
  generalize hs0_0 t0_0 = h0
  generalize ms0_0 t0_0 = a0 at h0
  generalize hs0_3 t0_0 = h3
  generalize ms0_3 t0_0 = a3 at h3
  generalize hs0_4 t0_0 = h4
  generalize ms0_4 t0_0 = a4 at h4
  generalize hs0_7 t0_0 = h7
  generalize ms0_7 t0_0 = a7 at h7
  rw [block0, block3, block4, block7]
  frame_out
  rw [Cert.Common.ld_word (Val := Elt Ideal) (e := .f32) (n := 1) _ 0 (by decide)]
  rw [Cert.Common.ld_word (Val := Elt Ideal) (e := .f32) (n := 1) _ 0 (by decide)]
  rfl

end Cert.QkvRefIdeal.Final

end
-- ==== Proof.QkvValue.lean ====
/- What the first call leaves in its four tiled arrays, as the reference's own terms over the arguments. -/
module

public import proofs.«01_k».proof.Proof.QkvRun
public import proofs.«01_k».proof.Proof.QkvRef
public import Idealize.ShloMosaic.Lib.Claim
public import Idealize.ShloMosaic.Lib.StableHlo.RunRead

@[expose] public section

set_option maxRecDepth 16384

noncomputable section

namespace Cert.QkvIdeal.Final

open Idealize.ShloMosaic Idealize.ShloMosaic.TcCoe Idealize.SL.Sem
open Idealize.ShloMosaic.Pipeline (Dat)
open Cert.QkvIdeal Cert.QkvIdeal.Gen

variable (m : (ℓ : Loc nD τ sig) → Buf (Elt Ideal) ℓ)

/-- Which block of its array each window holds at point `t`. -/
theorem idx_val : ∀ t : Fin cfg0.N, win0_0.index t = ![0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![0, t.val] ∧ win0_8.index t = ![t.val, 0] ∧ win0_9.index t = ![t.val, 0] ∧ win0_10.index t = ![0, 0] :=
  (by decide +kernel : ∀ t : Fin grid0.N, _)

/-- The blocks of the untiled inputs are their arrays. -/
theorem block0 (c : Dev nD) (t : Fin cfg0.N) : iblk m c 0 t = V m c main_v6 := by blk_ext! [iblk, V, idx_val t]
theorem block2 (c : Dev nD) (t : Fin cfg0.N) : iblk m c 2 t = V m c main_v1 := by blk_ext! [iblk, V, idx_val t]
theorem block3 (c : Dev nD) (t : Fin cfg0.N) : iblk m c 3 t = V m c main_arg2 := by blk_ext! [iblk, V, idx_val t]
theorem block4 (c : Dev nD) (t : Fin cfg0.N) : iblk m c 4 t = V m c main_arg3 := by blk_ext! [iblk, V, idx_val t]
theorem block5 (c : Dev nD) (t : Fin cfg0.N) : iblk m c 5 t = V m c main_arg4 := by blk_ext! [iblk, V, idx_val t]

/-- The stacked scales, word by word. -/
theorem scale0 (c : Dev nD) : (V m c main_v6 : Vec Ideal S4 .f32) (ix1 0) = (m ((c : Thread nD τ).loc main_arg8) : Vec Ideal S_ .f32) ix0 := by
  change StableHlo.after hostOps0 (fun b => m (c, b)) (Proc.devRef .tc main_v6) (ix1 0) = _
  after_reads_simp
  pointwise []
  rw [StableHlo.unary_result]
  after_reads_simp
  pointwise []
theorem scale1 (c : Dev nD) : (V m c main_v6 : Vec Ideal S4 .f32) (ix1 1) = (m ((c : Thread nD τ).loc main_arg5) : Vec Ideal S_ .f32) ix0 := by
  change StableHlo.after hostOps0 (fun b => m (c, b)) (Proc.devRef .tc main_v6) (ix1 1) = _
  after_reads_simp
  pointwise []
  rw [StableHlo.unary_result]
  after_reads_simp
  pointwise []
theorem scale2 (c : Dev nD) : (V m c main_v6 : Vec Ideal S4 .f32) (ix1 2) = (m ((c : Thread nD τ).loc main_arg6) : Vec Ideal S_ .f32) ix0 := by
  change StableHlo.after hostOps0 (fun b => m (c, b)) (Proc.devRef .tc main_v6) (ix1 2) = _
  after_reads_simp
  pointwise []
  rw [StableHlo.unary_result]
  after_reads_simp
  pointwise []
theorem scale3 (c : Dev nD) : (V m c main_v6 : Vec Ideal S4 .f32) (ix1 3) = (m ((c : Thread nD τ).loc main_arg7) : Vec Ideal S_ .f32) ix0 := by
  change StableHlo.after hostOps0 (fun b => m (c, b)) (Proc.devRef .tc main_v6) (ix1 3) = _
  after_reads_simp
  pointwise []
  rw [StableHlo.unary_result]
  after_reads_simp
  pointwise []

/-- The tokens and the norm's weight as the call gets them. -/
theorem tokens (c : Dev nD) : V m c main_v0
    = shapeCast S12288x2048 (m ((c : Thread nD τ).loc main_arg0) : Vec Ideal S8x1536x2048 .bf16) shapeCasts_S8x1536x2048_S12288x2048 := by
  change StableHlo.after hostOps0 (fun b => m (c, b)) (Proc.devRef .tc main_v0) = _
  after_reads_simp
  rfl
theorem weight (c : Dev nD) : V m c main_v1
    = shapeCast S1x2048 (m ((c : Thread nD τ).loc main_arg1) : Vec Ideal S2048 .f32) shapeCasts_S2048_S1x2048 := by
  change StableHlo.after hostOps0 (fun b => m (c, b)) (Proc.devRef .tc main_v1) = _
  after_reads_simp
  rfl

/-- The tokens, all sequences in one axis, in single precision, and normalised as the reference does it. -/
def xf (c : Dev nD) : FVec Ideal S12288x2048 .f32 := extf (F := Ideal) .f32 (V m c main_v0 : FVec Ideal S12288x2048 .bf16) bitsLt_bf16_f32
def xn (c : Dev nD) : FVec Ideal S12288x2048 .f32 :=
  Cert.QkvRefIdeal.Final.normOf (xf m c) (m ((c : Thread nD τ).loc main_arg1) : Vec Ideal S2048 .f32)

/-- A tile's normalised tokens are those of its rows. -/
theorem tile (c : Dev nD) (s : Fin cfg0.N) (r : Fin 512) (R : Fin 12288) (j : Fin 2048) (e : R.val = s.val * 512 + r.val) :
    k0_pay4 (F := Ideal) (iblk m c 1 s) (iblk m c 2 s) (ix2 r j) = xn m c (ix2 R j) := by
  rw [block2, weight]
  pointwise [k0_pay4, xn, xf, Cert.QkvRefIdeal.Final.normOf]
  blk_point [iblk, V, idx_val s]

/-- The rows of the normalised tokens that tile `s` holds. -/
def rows (c : Dev nD) (s : Fin cfg0.N) : FVec Ideal S512x2048 .f32 := fun y =>
  xn m c (ix2 ⟨s.val * 512 + (y 0).val, by have h1 : s.val < 24 := lt_of_lt_of_eq s.isLt N_0; have h2 : (y 0).val < 512 := (y 0).isLt; omega⟩ (y 1))

theorem tile_rows (c : Dev nD) (s : Fin cfg0.N) : k0_pay4 (F := Ideal) (iblk m c 1 s) (iblk m c 2 s) = rows m c s := by
  funext y
  idx_vars y
  exact tile m c s y0 _ y1 rfl

/-- The normalised tokens' codes: the reference's term. -/
theorem codes (c : Dev nD) :
    (dats m 0 c).arrAt 6 cfg0.N = Cert.QkvRefIdeal.Gen.k0_pay2 (F := Ideal) (xn m c) ((V m c main_v6 : Vec Ideal S4 .f32) (ix1 0)) := by
  refine (dats m 0 c).arrAt_eq_of_covers 6 _ (by decide +kernel) fun t hf y => ?_
  blk_simp
  rw [after0_6, block0]
  unfold k0_pay6
  rw [tile_rows]
  pointwise [Cert.QkvRefIdeal.Gen.k0_pay2, rows]
  blk_point [iblk, V, idx_val t]

/-- The queries, the keys and the values: the reference's terms. -/
theorem queries (c : Dev nD) :
    (dats m 0 c).arrAt 7 cfg0.N = Cert.QkvRefIdeal.Gen.k0_pay3 (F := Ideal) (xn m c) ((V m c main_v6 : Vec Ideal S4 .f32) (ix1 0)) (V m c main_arg2)
      ((V m c main_v6 : Vec Ideal S4 .f32) (ix1 0)) ((V m c main_v6 : Vec Ideal S4 .f32) (ix1 1)) := by
  refine (dats m 0 c).arrAt_eq_of_covers 7 _ (by decide +kernel) fun t hf y => ?_
  blk_simp
  rw [after0_7, block0, block3]
  unfold k0_pay6
  rw [tile_rows]
  pointwise [k0_pay1, Cert.QkvRefIdeal.Gen.k0_pay2, Cert.QkvRefIdeal.Gen.k0_pay3, rows]
  blk_point [iblk, V, idx_val t]
theorem keys (c : Dev nD) :
    (dats m 0 c).arrAt 8 cfg0.N = Cert.QkvRefIdeal.Gen.k0_pay4 (F := Ideal) (xn m c) ((V m c main_v6 : Vec Ideal S4 .f32) (ix1 0)) (V m c main_arg3)
      ((V m c main_v6 : Vec Ideal S4 .f32) (ix1 0)) ((V m c main_v6 : Vec Ideal S4 .f32) (ix1 2)) := by
  refine (dats m 0 c).arrAt_eq_of_covers 8 _ (by decide +kernel) fun t hf y => ?_
  blk_simp
  rw [after0_8, block0, block4]
  unfold k0_pay6
  rw [tile_rows]
  pointwise [k0_pay2, Cert.QkvRefIdeal.Gen.k0_pay2, Cert.QkvRefIdeal.Gen.k0_pay4, rows]
  blk_point [iblk, V, idx_val t]
theorem values (c : Dev nD) :
    (dats m 0 c).arrAt 9 cfg0.N = Cert.QkvRefIdeal.Gen.k0_pay1 (F := Ideal) (Cert.QkvRefIdeal.Gen.k0_pay2 (F := Ideal) (xn m c) ((V m c main_v6 : Vec Ideal S4 .f32) (ix1 0)))
      (V m c main_arg4) ((V m c main_v6 : Vec Ideal S4 .f32) (ix1 0)) ((V m c main_v6 : Vec Ideal S4 .f32) (ix1 3)) := by
  refine (dats m 0 c).arrAt_eq_of_covers 9 _ (by decide +kernel) fun t hf y => ?_
  blk_simp
  rw [after0_9, block0, block5]
  unfold k0_pay6
  rw [tile_rows]
  pointwise [k0_pay3, Cert.QkvRefIdeal.Gen.k0_pay1, Cert.QkvRefIdeal.Gen.k0_pay2, rows]
  blk_point [iblk, V, idx_val t]

end Cert.QkvIdeal.Final

end
-- ==== Proof.Extremes.lean ====
/- Maxima and sums over the extended reals: what a running maximum, a folded maximum and a scaled sum are bounded by or
   equal to, for every program. -/
module

public import Idealize.ShloMosaic.Lib.Claim
public import Idealize.ShloMosaic.Lib.Pipeline.ValueKit
public import Idealize.ShloMosaic.Lib.Pipeline.Value
public import Idealize.ShloMosaic.Lib.Pointwise

@[expose] public section

set_option maxRecDepth 16384

noncomputable section

namespace Cert.Common

open Idealize.ShloMosaic Idealize.SL.Sem

/-- "Is this grid point the first?", as the kernels ask it. -/
theorem first_word : ∀ t : Fin 48, Scalar.cmpi .eq (BitVec.ofNat 32 t.val) 0#32 = if t.val = 0 then 1#1 else 0#1 := by
  decide +kernel

/-- The maximum of all elements is at most `b` exactly when the initial value and every element are. -/
theorem reduce_max_le {s t u : Shape} {axes : List (Fin s.rank)} (ht : t.rank = 0) (x : s.Idx → EReal) (init : u.Idx → EReal)
    (h : s.ReducesTo axes t) (hu : 0 < u.numel) (j : t.Idx) (b : EReal) :
    Host.reduce (FloatOps.maximumf (F := Ideal) (φ := .f32)) x init h hu j ≤ b ↔ init (Shape.Idx.first hu) ≤ b ∧ ∀ i, x i ≤ b := by
  have hsub : ∀ a b : t.Idx, a = b := fun a b => funext fun i => absurd i.isLt (by omega)
  show Host.reduce (max : EReal → EReal → EReal) x init h hu j ≤ b ↔ _
  rw [Host.reduce_eq_fold, Finset.fold_max_le]
  exact and_congr Iff.rfl ⟨fun H i => H i (Finset.mem_filter.2 ⟨Finset.mem_univ _, hsub _ _⟩), fun H i _ => H i⟩

/-- A running maximum, started at the first term, is at most `b` exactly when every term is. -/
theorem running_max_le {N : Nat} {ι : Type} (f : (n : Nat) → n < N → ι → EReal) (g : Fin N → ι → EReal)
    (h0 : ∀ h i, f 0 h i = g ⟨0, h⟩ i) (hs : ∀ n h i, f (n + 1) h i = max (f n (Nat.lt_of_succ_lt h) i) (g ⟨n + 1, h⟩ i))
    (n : Nat) (h : n < N) (i : ι) (b : EReal) : f n h i ≤ b ↔ ∀ s : Fin N, s.val ≤ n → g s i ≤ b := by
  induction n with
  | zero =>
    rw [h0]
    refine ⟨fun H s hs => ?_, fun H => H _ (le_refl _)⟩
    have e : s = ⟨0, h⟩ := Fin.ext (Nat.le_zero.1 hs)
    rw [e]; exact H
  | succ n ih =>
    rw [hs, max_le_iff, ih]
    refine ⟨fun H s hs => ?_, fun H => ⟨fun s hs => H s (Nat.le_succ_of_le hs), H _ (le_refl _)⟩⟩
    rcases Nat.lt_or_ge s.val (n + 1) with hl | hl
    · exact H.1 s (Nat.le_of_lt_succ hl)
    · have e : s = ⟨n + 1, h⟩ := Fin.ext (Nat.le_antisymm hs hl)
      rw [e]; exact H.2

/-- A tile of 512 rows folded to 8 rows by maxima. -/
theorem folded_le (v : FVec Ideal ⟨2, ![512, 2048]⟩ .f32) (hc : (⟨2, ![512, 2048]⟩ : Shape).ShapeCasts ⟨3, ![64, 8, 2048]⟩)
    (hr : (⟨3, ![64, 8, 2048]⟩ : Shape).Reduces [0] ⟨2, ![8, 2048]⟩) (h₁) (h₂) (y : (⟨2, ![8, 2048]⟩ : Shape).Idx) (b : EReal) :
    multiReduction (F := Ideal) (φ := .f32) .maximumf [0] ⟨2, ![8, 2048]⟩ (shapeCast ⟨3, ![64, 8, 2048]⟩ v hc) 0xFF800000#32 hr h₁ h₂ y ≤ b
      ↔ (FloatOps.ofBits .f32 0xFF800000#32 : Ideal .f32) ≤ b
        ∧ ∀ (k : Fin 64) (r : Fin 512), r.val = k.val * 8 + (y 0).val → (v (ix2 r (y 1)) : EReal) ≤ b := by
  pointwise []
  rw [Finset.fold_max_le]
  refine and_congr Iff.rfl ⟨fun H k r e => ?_, fun H k _ => H k _ rfl⟩
  have e' : r = ⟨k.val * 8 + (y 0).val, lt_of_eq_of_lt e.symm r.isLt⟩ := Fin.ext e
  rw [e']
  exact H k (Finset.mem_univ _)

/-- Every element of 24 tiles of 512 rows, each row reached as a group of eight and a place in it, is every element of
    the 12288 rows. -/
theorem all_rows {N : Nat} (hN : N = 24) (X : (⟨2, ![12288, 2048]⟩ : Shape).Idx → EReal)
    (tile : Fin N → (⟨2, ![512, 2048]⟩ : Shape).Idx → EReal)
    (ht : ∀ (s : Fin N) (r : Fin 512) (R : Fin 12288) (j : Fin 2048), R.val = s.val * 512 + r.val → tile s (ix2 r j) = X (ix2 R j))
    (b : EReal) :
    (∀ (y : (⟨2, ![8, 2048]⟩ : Shape).Idx) (s : Fin N) (k : Fin 64) (r : Fin 512), r.val = k.val * 8 + (y 0).val → tile s (ix2 r (y 1)) ≤ b)
      ↔ ∀ i, X i ≤ b := by
  subst hN
  constructor
  · intro H i
    idx_vars i
    have key : ∀ (a : Fin 8) (j : Fin 2048) (s : Fin 24) (k : Fin 64) (r : Fin 512), r.val = k.val * 8 + a.val →
        tile s (ix2 r j) ≤ b := fun a j => H (ix2 a j)
    obtain ⟨s, k, a, r, e1, e2⟩ : ∃ (s : Fin 24) (k : Fin 64) (a : Fin 8) (r : Fin 512),
        i0.val = s.val * 512 + r.val ∧ r.val = k.val * 8 + a.val := by
      have hr := i0.isLt
      exact ⟨⟨i0.val / 512, by omega⟩, ⟨i0.val % 512 / 8, by omega⟩, ⟨i0.val % 8, by omega⟩, ⟨i0.val % 512, by omega⟩,
        by show i0.val = i0.val / 512 * 512 + i0.val % 512; omega,
        by show i0.val % 512 = i0.val % 512 / 8 * 8 + i0.val % 8; omega⟩
    exact le_of_eq_of_le (ht s r i0 i1 e1).symm (key a i1 s k r e2)
  · intro H y s k r hr
    have h1 := s.isLt
    have h2 := r.isLt
    exact le_of_eq_of_le (ht s r ⟨s.val * 512 + r.val, by omega⟩ _ rfl) (H _)

/-- A sum scaled by two scales that are at least zero and finite is the sum of the scaled terms. -/
theorem sum_scaled {ι : Type} (S : Finset ι) (f : ι → EReal) (a b : EReal) (ha : 0 ≤ a) (ha' : a ≠ ⊤) (hb : 0 ≤ b) (hb' : b ≠ ⊤) :
    (∑ i ∈ S, f i) * a * b = ∑ i ∈ S, f i * a * b := by
  classical
  induction S using Finset.induction_on with
  | empty => simp
  | insert i S hi ih =>
    rw [Finset.sum_insert hi, Finset.sum_insert hi, ← ih, EReal.right_distrib_of_nonneg_of_ne_top ha ha',
      EReal.right_distrib_of_nonneg_of_ne_top hb hb']

/-- The word the scales are compared with is plus infinity. -/
theorem infinity : (FloatOps.ofBits .f32 0x7F800000#32 : Ideal .f32) = (⊤ : EReal) := by
  show Ideal.ieee 8 23 0x7F800000#32 = ⊤
  unfold Ideal.ieee
  rw [if_pos (by decide)]
  rw [if_pos (by decide), if_neg (by decide)]

end Cert.Common

end
-- ==== Proof.QkvMax.lean ====
/- The first call's largest magnitude: the running maximum over the tiles, reduced by the host, is the maximum over
   all tokens. -/
module

public import proofs.«01_k».proof.Proof.QkvValue
public import proofs.«01_k».proof.Proof.Extremes

@[expose] public section

set_option maxRecDepth 16384

noncomputable section

namespace Cert.QkvIdeal.Final

open Idealize.ShloMosaic Idealize.ShloMosaic.TcCoe Idealize.SL.Sem
open Idealize.ShloMosaic.Pipeline (Dat)
open Cert.QkvIdeal Cert.QkvIdeal.Gen Cert.Common

variable (m : (ℓ : Loc nD τ sig) → Buf (Elt Ideal) ℓ)

/-- A tile's magnitudes folded to eight rows by maxima. -/
def tileMax (v0 : FVec Ideal S512x2048 .f32) : FVec Ideal S8x2048 .f32 :=
  multiReduction .maximumf [0] S8x2048 (shapeCast S64x8x2048 (absf v0) shapeCasts_S512x2048_S64x8x2048)
    0xFF800000#32 reduces_S64x8x2048_S8x2048 (.inl rfl) rfl

theorem point_lt (t : Fin cfg0.N) : t.val < 24 := lt_of_lt_of_eq t.isLt N_0

theorem first_word_at (t : Fin cfg0.N) :
    Scalar.cmpi .eq (BitVec.ofNat 32 (grid0.coords t 0).val) 0#32 = if t.val = 0 then 1#1 else 0#1 := by
  rw [coord0]
  exact first_word ⟨t.val, by have := point_lt t; omega⟩

/-- The block's new contents: the tile's maxima at the first point, the greater of the two later. -/
theorem pay (t : Fin cfg0.N) (v0 : Vec Ideal S512x2048 .bf16) (v15 : Vec Ideal S1x2048 .f32) (v23 : Vec Ideal S8x2048 .f32) :
    k0_pay5 (F := Ideal) (grid0.coords t) v0 v15 v23
      = Scalar.select (if t.val = 0 then 1#1 else 0#1) (tileMax (k0_pay4 (F := Ideal) v0 v15))
          (maximumf (shapeCast S8x2048 v23 shapeCasts_S8x2048_S8x2048) (tileMax (k0_pay4 (F := Ideal) v0 v15))) := by
  rw [← first_word_at]
  rfl

theorem first_pay (t : Fin cfg0.N) (h : t.val = 0) (v0 : Vec Ideal S512x2048 .bf16) (v15 : Vec Ideal S1x2048 .f32) (v23 : Vec Ideal S8x2048 .f32) :
    k0_pay5 (F := Ideal) (grid0.coords t) v0 v15 v23 = tileMax (k0_pay4 (F := Ideal) v0 v15) := by
  rw [pay, if_pos h]
  rfl

theorem next_pay (t : Fin cfg0.N) (h : ¬t.val = 0) (v0 : Vec Ideal S512x2048 .bf16) (v15 : Vec Ideal S1x2048 .f32) (v23 : Vec Ideal S8x2048 .f32) (y : S8x2048.Idx) :
    k0_pay5 (F := Ideal) (grid0.coords t) v0 v15 v23 y = max (v23 y : EReal) (tileMax (k0_pay4 (F := Ideal) v0 v15) y) := by
  rw [pay, if_neg h]
  show max (shapeCast S8x2048 v23 shapeCasts_S8x2048_S8x2048 y : EReal) _ = _
  pointwise []

/-- The running maximum after point `n`. -/
theorem acc_le (c : Dev nD) (n : Nat) (h : n < cfg0.N) (y : S8x2048.Idx) (b : EReal) :
    acc10 m c n h y ≤ b ↔ ∀ s : Fin cfg0.N, s.val ≤ n → (tileMax (rows m c s) y : EReal) ≤ b :=
  running_max_le (fun n h y => acc10 m c n h y) (fun s y => tileMax (rows m c s) y)
    (fun h i => congrFun ((first_pay ⟨0, h⟩ rfl _ _ _).trans (congrArg tileMax (tile_rows m c ⟨0, h⟩))) i)
    (fun n h i => (next_pay ⟨n + 1, h⟩ (Nat.succ_ne_zero n) _ _ _ i).trans (by rw [tile_rows])) n h y b

/-- The maxima the call leaves are the last point's. -/
theorem maxima (c : Dev nD) (h : 23 < cfg0.N) : (dats m 0 c).arrAt 10 cfg0.N = acc10 m c 23 h := by
  refine (dats m 0 c).arrAt_eq_of_covers 10 _ (by decide +kernel) fun t hf y => ?_
  have h1 : t.val = 23 := by
    have := (flush0_10 t).mp hf
    have := point_lt t
    omega
  have h2 : ∀ n (hn : n < cfg0.N), n = 23 → acc10 m c n hn = acc10 m c 23 h := by
    rintro n hn rfl
    rfl
  blk_simp
  rw [after0_10, h2 _ _ h1]
  blk_ext [idx_val t]

/-- The host's maximum of those maxima is the maximum over all tokens. -/
theorem largest (c : Dev nD) :
    Host.reduce (FloatOps.maximumf (F := Ideal) (φ := .f32)) ((dats m 0 c).arrAt 10 cfg0.N : FVec Ideal S8x2048 .f32) (constant S_ .f32 0xFF800000#32) reducesTo_S8x2048_S_d0_1 h_S_
      = Host.reduce (FloatOps.maximumf (F := Ideal) (φ := .f32)) (Host.absf (xn m c)) (constant S_ .f32 0xFF800000#32) Cert.QkvRefIdeal.Gen.facts.reducesTo_S12288x2048_S_d0_1 h_S_ := by
  have h23 : 23 < cfg0.N := lt_of_lt_of_eq (by decide) N_0.symm
  funext j
  refine eq_of_forall_ge_iff fun b => ?_
  rw [reduce_max_le rfl, reduce_max_le rfl, maxima m c h23]
  refine and_congr_right fun hb => ?_
  have ht : ∀ (s : Fin cfg0.N) (r : Fin 512) (R : Fin 12288) (j : Fin 2048), R.val = s.val * 512 + r.val →
      (absf (rows m c s) (ix2 r j) : EReal) = Host.absf (xn m c) (ix2 R j) := by
    intro s r R j e
    rw [← tile_rows]
    pointwise []
    rw [tile m c s r R j e]
  rw [← all_rows N_0 (Host.absf (xn m c)) (fun s => absf (rows m c s)) ht]
  refine forall_congr' fun y => ?_
  rw [acc_le]
  refine ⟨fun H s k r e => ((folded_le _ _ _ _ _ y b).1 (H s (Nat.le_of_lt_succ (point_lt s)))).2 k r e,
    fun H s _ => (folded_le _ _ _ _ _ y b).2 ⟨hb, H s⟩⟩

end Cert.QkvIdeal.Final

end
-- ==== Proof.QkvClaim.lean ====
/- The first call and its reference end with the same five results. -/
module

public import proofs.«01_k».proof.Defs
public import proofs.«01_k».proof.Proof.QkvMax
public import proofs.«01_k».proof.Proof.QkvRef

@[expose] public section

set_option maxRecDepth 16384

noncomputable section

namespace Cert.QkvIdeal.Final

open Idealize.ShloMosaic Idealize.ShloMosaic.TcCoe Idealize.SL.Sem
open Idealize.ShloMosaic.Pipeline (Dat)

/-- The host's last line after the call: the maximum of the maxima. -/
theorem tail (m : (ℓ : Loc nD τ sig) → Buf (Elt Ideal) ℓ) (c : Dev nD) :
    Pipeline.afterTail₀ cfgs (Gen.dats m) 0 (Gen.V0 m) [Gen.hostOps1] c main_v8
      = Host.reduce (FloatOps.maximumf (F := Ideal) (φ := .f32)) ((Gen.dats m 0 c).arrAt 10 cfg0.N : FVec Ideal S8x2048 .f32)
          (constant S_ .f32 0xFF800000#32) Gen.reducesTo_S8x2048_S_d0_1 Gen.h_S_ := by
  unfold Pipeline.afterTail₀
  simp only [List.flatten_cons, List.flatten_nil, List.append_nil]
  after_reads_simp
  exact congrArg (fun x => Host.reduce (FloatOps.maximumf (F := Ideal) (φ := .f32)) x (constant S_ .f32 0xFF800000#32) Gen.reducesTo_S8x2048_S_d0_1 Gen.h_S_)
    (Pipeline.withArrays_arr spec0 (by exact (by decide : ∀ a b, Pipeline.arrRef spec0 a = Pipeline.arrRef spec0 b → a = b)) c _ _ 10)

/-- From equal arguments the normalised tokens are equal. -/
theorem normed_eq (m : (ℓ : Loc nD τ sig) → Buf (Elt Ideal) ℓ)
    (m' : (ℓ : Loc Cert.QkvRefIdeal.nD Cert.QkvRefIdeal.τ Cert.QkvRefIdeal.sig) → Buf (Elt Ideal) ℓ) (c : Dev nD)
    (h0 : m' ((c.tc : Thread Cert.QkvRefIdeal.nD Cert.QkvRefIdeal.τ).loc Cert.QkvRefIdeal.main_arg0) = m ((c.tc : Thread nD τ).loc main_arg0))
    (h1 : m' ((c.tc : Thread Cert.QkvRefIdeal.nD Cert.QkvRefIdeal.τ).loc Cert.QkvRefIdeal.main_arg1) = m ((c.tc : Thread nD τ).loc main_arg1)) :
    Cert.QkvRefIdeal.Gen.V m' c Cert.QkvRefIdeal.main_v16 = xn m c := by
  rw [Cert.QkvRefIdeal.Final.normed, Cert.QkvRefIdeal.Final.tokens, h0, h1]
  unfold xn xf
  rw [tokens]

/-- From equal arguments the results are equal. -/
theorem codes_eq (m : (ℓ : Loc nD τ sig) → Buf (Elt Ideal) ℓ)
    (m' : (ℓ : Loc Cert.QkvRefIdeal.nD Cert.QkvRefIdeal.τ Cert.QkvRefIdeal.sig) → Buf (Elt Ideal) ℓ) (c : Dev nD)
    (h0 : m' ((c.tc : Thread Cert.QkvRefIdeal.nD Cert.QkvRefIdeal.τ).loc Cert.QkvRefIdeal.main_arg0) = m ((c.tc : Thread nD τ).loc main_arg0))
    (h1 : m' ((c.tc : Thread Cert.QkvRefIdeal.nD Cert.QkvRefIdeal.τ).loc Cert.QkvRefIdeal.main_arg1) = m ((c.tc : Thread nD τ).loc main_arg1))
    (h8 : m' ((c.tc : Thread Cert.QkvRefIdeal.nD Cert.QkvRefIdeal.τ).loc Cert.QkvRefIdeal.main_arg8) = m ((c.tc : Thread nD τ).loc main_arg8)) :
    (Cert.QkvRefIdeal.Gen.dats m' 0 c).arrAt 8 Cert.QkvRefIdeal.cfg0.N = (Gen.dats m 0 c).arrAt 6 cfg0.N := by
  have e8 := (Cert.QkvRefIdeal.Final.scale_xn m' c).trans ((congrFun h8 ix0).trans (scale0 m c).symm)
  rw [Cert.QkvRefIdeal.Final.codes, normed_eq m m' c h0 h1, e8]
  exact (codes m c).symm
theorem queries_eq (m : (ℓ : Loc nD τ sig) → Buf (Elt Ideal) ℓ)
    (m' : (ℓ : Loc Cert.QkvRefIdeal.nD Cert.QkvRefIdeal.τ Cert.QkvRefIdeal.sig) → Buf (Elt Ideal) ℓ) (c : Dev nD)
    (h0 : m' ((c.tc : Thread Cert.QkvRefIdeal.nD Cert.QkvRefIdeal.τ).loc Cert.QkvRefIdeal.main_arg0) = m ((c.tc : Thread nD τ).loc main_arg0))
    (h1 : m' ((c.tc : Thread Cert.QkvRefIdeal.nD Cert.QkvRefIdeal.τ).loc Cert.QkvRefIdeal.main_arg1) = m ((c.tc : Thread nD τ).loc main_arg1))
    (h2 : m' ((c.tc : Thread Cert.QkvRefIdeal.nD Cert.QkvRefIdeal.τ).loc Cert.QkvRefIdeal.main_arg2) = m ((c.tc : Thread nD τ).loc main_arg2))
    (h5 : m' ((c.tc : Thread Cert.QkvRefIdeal.nD Cert.QkvRefIdeal.τ).loc Cert.QkvRefIdeal.main_arg5) = m ((c.tc : Thread nD τ).loc main_arg5))
    (h8 : m' ((c.tc : Thread Cert.QkvRefIdeal.nD Cert.QkvRefIdeal.τ).loc Cert.QkvRefIdeal.main_arg8) = m ((c.tc : Thread nD τ).loc main_arg8)) :
    (Cert.QkvRefIdeal.Gen.dats m' 0 c).arrAt 9 Cert.QkvRefIdeal.cfg0.N = (Gen.dats m 0 c).arrAt 7 cfg0.N := by
  have e2 := (Cert.QkvRefIdeal.Gen.V_main_arg2 m' c).trans (h2.trans (Gen.V_main_arg2 m c).symm)
  have e5 := (Cert.QkvRefIdeal.Final.scale_q m' c).trans ((congrFun h5 ix0).trans (scale1 m c).symm)
  have e8 := (Cert.QkvRefIdeal.Final.scale_xn m' c).trans ((congrFun h8 ix0).trans (scale0 m c).symm)
  rw [Cert.QkvRefIdeal.Final.queries, normed_eq m m' c h0 h1, e8, e2, e5]
  exact (queries m c).symm
theorem keys_eq (m : (ℓ : Loc nD τ sig) → Buf (Elt Ideal) ℓ)
    (m' : (ℓ : Loc Cert.QkvRefIdeal.nD Cert.QkvRefIdeal.τ Cert.QkvRefIdeal.sig) → Buf (Elt Ideal) ℓ) (c : Dev nD)
    (h0 : m' ((c.tc : Thread Cert.QkvRefIdeal.nD Cert.QkvRefIdeal.τ).loc Cert.QkvRefIdeal.main_arg0) = m ((c.tc : Thread nD τ).loc main_arg0))
    (h1 : m' ((c.tc : Thread Cert.QkvRefIdeal.nD Cert.QkvRefIdeal.τ).loc Cert.QkvRefIdeal.main_arg1) = m ((c.tc : Thread nD τ).loc main_arg1))
    (h3 : m' ((c.tc : Thread Cert.QkvRefIdeal.nD Cert.QkvRefIdeal.τ).loc Cert.QkvRefIdeal.main_arg3) = m ((c.tc : Thread nD τ).loc main_arg3))
    (h6 : m' ((c.tc : Thread Cert.QkvRefIdeal.nD Cert.QkvRefIdeal.τ).loc Cert.QkvRefIdeal.main_arg6) = m ((c.tc : Thread nD τ).loc main_arg6))
    (h8 : m' ((c.tc : Thread Cert.QkvRefIdeal.nD Cert.QkvRefIdeal.τ).loc Cert.QkvRefIdeal.main_arg8) = m ((c.tc : Thread nD τ).loc main_arg8)) :
    (Cert.QkvRefIdeal.Gen.dats m' 0 c).arrAt 10 Cert.QkvRefIdeal.cfg0.N = (Gen.dats m 0 c).arrAt 8 cfg0.N := by
  have e3 := (Cert.QkvRefIdeal.Gen.V_main_arg3 m' c).trans (h3.trans (Gen.V_main_arg3 m c).symm)
  have e6 := (Cert.QkvRefIdeal.Final.scale_k m' c).trans ((congrFun h6 ix0).trans (scale2 m c).symm)
  have e8 := (Cert.QkvRefIdeal.Final.scale_xn m' c).trans ((congrFun h8 ix0).trans (scale0 m c).symm)
  rw [Cert.QkvRefIdeal.Final.keys, normed_eq m m' c h0 h1, e8, e3, e6]
  exact (keys m c).symm
theorem values_eq (m : (ℓ : Loc nD τ sig) → Buf (Elt Ideal) ℓ)
    (m' : (ℓ : Loc Cert.QkvRefIdeal.nD Cert.QkvRefIdeal.τ Cert.QkvRefIdeal.sig) → Buf (Elt Ideal) ℓ) (c : Dev nD)
    (h0 : m' ((c.tc : Thread Cert.QkvRefIdeal.nD Cert.QkvRefIdeal.τ).loc Cert.QkvRefIdeal.main_arg0) = m ((c.tc : Thread nD τ).loc main_arg0))
    (h1 : m' ((c.tc : Thread Cert.QkvRefIdeal.nD Cert.QkvRefIdeal.τ).loc Cert.QkvRefIdeal.main_arg1) = m ((c.tc : Thread nD τ).loc main_arg1))
    (h4 : m' ((c.tc : Thread Cert.QkvRefIdeal.nD Cert.QkvRefIdeal.τ).loc Cert.QkvRefIdeal.main_arg4) = m ((c.tc : Thread nD τ).loc main_arg4))
    (h7 : m' ((c.tc : Thread Cert.QkvRefIdeal.nD Cert.QkvRefIdeal.τ).loc Cert.QkvRefIdeal.main_arg7) = m ((c.tc : Thread nD τ).loc main_arg7))
    (h8 : m' ((c.tc : Thread Cert.QkvRefIdeal.nD Cert.QkvRefIdeal.τ).loc Cert.QkvRefIdeal.main_arg8) = m ((c.tc : Thread nD τ).loc main_arg8)) :
    (Cert.QkvRefIdeal.Gen.dats m' 0 c).arrAt 11 Cert.QkvRefIdeal.cfg0.N = (Gen.dats m 0 c).arrAt 9 cfg0.N := by
  have e4 := (Cert.QkvRefIdeal.Gen.V_main_arg4 m' c).trans (h4.trans (Gen.V_main_arg4 m c).symm)
  have e7 := (Cert.QkvRefIdeal.Final.scale_v m' c).trans ((congrFun h7 ix0).trans (scale3 m c).symm)
  have e8 := (Cert.QkvRefIdeal.Final.scale_xn m' c).trans ((congrFun h8 ix0).trans (scale0 m c).symm)
  rw [Cert.QkvRefIdeal.Final.values, normed_eq m m' c h0 h1, e8, e4, e7]
  exact (values m c).symm
set_option maxHeartbeats 4000000 in
theorem algebraic : Cert.algebraic_QkvIdeal_QkvRefIdeal (hQkvIdeal := Cert.QkvIdeal.Gen.facts) (hQkvRefIdeal := Cert.QkvRefIdeal.Gen.facts) := by
  pair_intro
  · run_from Cert.QkvIdeal.Gen.run_main m g
    · exact Gen.W_main_arg0 m _ c
    · exact Gen.W_main_arg1 m _ c
    · exact Gen.W_main_arg5 m _ c
    · exact Gen.W_main_arg6 m _ c
    · exact Gen.W_main_arg7 m _ c
    · exact Gen.W_main_arg8 m _ c
  · run_from Cert.QkvRefIdeal.Gen.run_main m' g'
    · obtain ⟨h0, h1, h2, h3, h4, h5, h6, h7, h8⟩ := hagree c
      exact codes_eq m m' c h0 h1 h8
    · obtain ⟨h0, h1, h2, h3, h4, h5, h6, h7, h8⟩ := hagree c
      exact queries_eq m m' c h0 h1 h2 h5 h8
    · obtain ⟨h0, h1, h2, h3, h4, h5, h6, h7, h8⟩ := hagree c
      exact keys_eq m m' c h0 h1 h3 h6 h8
    · obtain ⟨h0, h1, h2, h3, h4, h5, h6, h7, h8⟩ := hagree c
      exact values_eq m m' c h0 h1 h4 h7 h8
    · rw [tail, largest]
      unfold xn xf Cert.QkvRefIdeal.Final.normOf
      rw [tokens]
      rfl

end Cert.QkvIdeal.Final

end
-- ==== Proof.DyRun.lean ====
/- The run of the cotangent's call as printed for the extended reals: what each grid point leaves in the output
   buffers, the proof data of the pipeline, the launch, and the frame. Everything is stated for any float values. -/
module

public import proofs.«01_k».proof.Proof.Gen.DyIdeal.Frame
public import proofs.«01_k».proof.Proof.Gen.DyIdeal.Skeleton
public import Idealize.ShloMosaic.Lib.Claim
public import proofs.«01_k».proof.Proof.Common

@[expose] public section

set_option maxRecDepth 16384
set_option maxHeartbeats 4000000

noncomputable section

namespace Cert.DyIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- On whole blocks, the body leaves in the per-block outputs their payloads, and in each block that is carried from
    point to point the payload over what was there before. -/
theorem kernelRun0 (c : Dev nD) (i : grid0.Coords) (arg1 : Memref sig .tc .smem S2 .f32) (harg1 : arg1.IsWhole) (arg2 : Memref sig .tc .vmem S512x2048 .bf16) (harg2 : arg2.IsWhole) (arg3 : Memref sig .tc .vmem S1024x2048 .fp8e4m3) (harg3 : arg3.IsWhole) (arg4 : Memref sig .tc .vmem S512x2048 .fp8e5m2) (harg4 : arg4.IsWhole) (arg5 : Memref sig .tc .vmem S1024x512 .f32) (harg5 : arg5.IsWhole) (arg6 : Memref sig .tc .vmem S8x2048 .f32) (harg6 : arg6.IsWhole)
    (x0 : Vec F S2 .f32) (x1 : Vec F S512x2048 .bf16) (x2 : Vec F S1024x2048 .fp8e4m3)
    (y5 : Vec F S8x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare y5
            ∗ (iprop(owns (c : Thread nD τ) arg1 fullShare x0
              ∗ owns (c : Thread nD τ) arg2 fullShare x1
              ∗ owns (c : Thread nD τ) arg3 fullShare x2
              ∗ owns (c : Thread nD τ) arg4 fullShare (k0_pay3 x1 (x0 (ix1 0)))
              ∗ owns (c : Thread nD τ) arg5 fullShare (k0_pay4 x1 (x0 (ix1 0)) x2 (x0 (ix1 0)) (x0 (ix1 1)))
              ∗ owns (c : Thread nD τ) arg6 fullShare (k0_pay2 i x1 y5)) -∗ K ⟨⟩))
          ⊢ wp frame (wpE (defs₀ (F := F)) Variants.none c none) E (cc0_dy_dgrad i arg1 harg1 arg2 harg2 arg3 harg3 arg4 harg4 arg5 harg5 arg6 harg6) K := by
    intro E K
    simp only [cc0_dy_dgrad_eq_skeleton]; unfold cc0_dy_dgrad_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
    obtain rfl := harg1.eq_unread hf0; obtain rfl := harg2.eq_unread hf1; obtain rfl := harg3.eq_unread hf2; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      refine (Common.read_store _ _ Common.zeros₂ _ _).trans ?_
      frame_out
      rw [Common.ld_word (Val := Elt F) (e := .f32) (n := 2) x0 0 (by decide)]; rfl
    isplitl [H4]
    · iexists _; isplitr; swap; · iexact H4
      ipureintro
      refine (Common.read_store _ _ Common.zeros₂ _ _).trans ?_
      frame_out
      rw [Common.ld_word (Val := Elt F) (e := .f32) (n := 2) x0 0 (by decide), Common.ld_word (Val := Elt F) (e := .f32) (n := 2) x0 1 (by decide)]; rfl
    iexists _; isplitr; swap; · iexact H5
    ipureintro
    refine (Common.read_store _ _ Common.zeros₂ _ _).trans ?_
    frame_out

/-- The grid has one axis: the coordinate is the point's number. -/
theorem coord0 : ∀ t : Fin cfg0.N, (grid0.coords t 0).val = t.val :=
  (by decide +kernel : ∀ t : Fin grid0.N, (grid0.coords t 0).val = t.val)

/-- What window 5's block holds after point `n`. -/
def acc5 (c : Dev nD) : (n : Nat) → n < cfg0.N → Vec F S8x2048 .f32
  | 0, h => k0_pay2 (grid0.coords ⟨0, h⟩) (iblk m c 1 ⟨0, h⟩) (constant S8x2048 .f32 0x00000000#32)
  | n + 1, h => k0_pay2 (grid0.coords ⟨n + 1, h⟩) (iblk m c 1 ⟨n + 1, h⟩) (acc5 c n (Nat.lt_of_succ_lt h))

/-- The proof data of the one pipeline on core `c`: the arrays as the region finds them; after the body at point `t`
    each input's buffer at its block, the outputs' at the payloads; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (iblk m c 1 t) ((iblk m c 0 t : Vec F S2 .f32) (ix1 0))
    | ⟨4, _⟩ => k0_pay4 (iblk m c 1 t) ((iblk m c 0 t : Vec F S2 .f32) (ix1 0)) (iblk m c 2 t) ((iblk m c 0 t : Vec F S2 .f32) (ix1 0)) ((iblk m c 0 t : Vec F S2 .f32) (ix1 1))
    | ⟨5, _⟩ => acc5 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay3 (iblk m c 1 t) ((iblk m c 0 t : Vec F S2 .f32) (ix1 0)) := by dsimp only [dats]
theorem after0_4 (c : Dev nD) (t : Fin cfg0.N) : (dats m 0 c).after 4 t = k0_pay4 (iblk m c 1 t) ((iblk m c 0 t : Vec F S2 .f32) (ix1 0)) (iblk m c 2 t) ((iblk m c 0 t : Vec F S2 .f32) (ix1 0)) ((iblk m c 0 t : Vec F S2 .f32) (ix1 1)) := by dsimp only [dats]
theorem after0_5 (c : Dev nD) (t : Fin cfg0.N) : (dats m 0 c).after 5 t = acc5 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At the first point window 5's payload does not depend on what the block held, -/
theorem first5 (c : Dev nD) (t : Fin cfg0.N) (h : t.val = 0) (y y' : Vec F S8x2048 .f32) :
    k0_pay2 (grid0.coords t) (iblk m c 1 t) y = k0_pay2 (grid0.coords t) (iblk m c 1 t) y' := by
  unfold k0_pay2
  rw [coord0, h]
  rfl

/-- so its payload over what the buffer holds before the point is what it holds after. -/
theorem step5 (c : Dev nD) (t : Fin cfg0.N) (d) :
    k0_pay2 (grid0.coords t) (iblk m c 1 t) ((dats m 0 c).before 5 t d) = acc5 m c t.val t.isLt := by
  obtain ⟨n, hn⟩ := t
  cases n with
  | zero => exact first5 m c ⟨0, hn⟩ rfl _ _
  | succ n =>
    have hfl : (cfg0.win 5).flush ⟨n, Nat.lt_of_succ_lt hn⟩ = false := by
      rw [Bool.eq_false_iff]
      intro h
      have h1 := (flush0_5 ⟨n, Nat.lt_of_succ_lt hn⟩).mp h
      have h2 : n + 1 < 24 := lt_of_lt_of_eq hn N_0
      simp only at h1
      omega
    rw [(dats m 0 c).before_out_kept 5 rfl ⟨n + 1, hn⟩ (Nat.succ_ne_zero n) hfl (fun _ => rfl) (fun _ _ => rfl) d, after0_5]
    rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (kernelRun0 c (grid0.coords t) _ _ _ _ _ _ _ _ _ _ _ _ (iblk m c 0 t) (iblk m c 1 t) (iblk m c 2 t) ((dats m 0 c).before 5 t d5) Set.univ _)
  rw [step5 m c t d5]
  isplitl [H0]; · iexact H0
  isplitl [H1]; · iexact H1
  isplitl [H2]; · iexact H2
  isplitl [H3]; · iexists _; iexact H3
  isplitl [H4]; · iexists _; iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline at what the library computes from the proof data, every other buffer as the
    host lines leave it, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.DyIdeal.Gen

end
-- ==== Proof.DyBits.lean ====
/- The cotangent call on machine words leaves its arguments as they were: its program is the one over the extended reals, at the
   other element type, so the frame shown for every element type applies. -/
module

public import proofs.«01_k».proof.Proof.Gen.Dy.Frame
public import proofs.«01_k».proof.Proof.DyRun

@[expose] public section

set_option maxRecDepth 16384

noncomputable section

namespace Cert.Dy.Gen

open Idealize.ShloMosaic Idealize.ShloMosaic.TcCoe Idealize.SL.Sem

variable {F : FTy → Type} [FloatOps F]

/-- The two programs have the same kernel body. -/
theorem bodies : (defs₀ : Defs nD τ sig (Elt F) Λ₀) = Cert.DyIdeal.defs₀ := by
  unfold defs₀ Cert.DyIdeal.defs₀
  refine congrArg Defs.onTc (funext fun l => funext fun x => ?_)
  obtain ⟨n, h⟩ := l
  cases n with
  | zero => rfl
  | succ n => exact absurd h (Nat.not_lt.2 (Nat.le_add_left _ _))

/-- Every run ends with the arguments unchanged and every semaphore at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  unfold defs
  rw [bodies]
  exact Cert.DyIdeal.Gen.frame m ρ

end Cert.Dy.Gen

end
-- ==== Proof.DyValue.lean ====
/- What the cotangent call leaves in its two tiled arrays, as the reference's own terms over the arguments. -/
module

public import proofs.«01_k».proof.Proof.DyRun
public import proofs.«01_k».proof.Proof.Gen.DyRefIdeal.Skeleton
public import Idealize.ShloMosaic.Lib.Claim
public import Idealize.ShloMosaic.Lib.StableHlo.RunRead

@[expose] public section

set_option maxRecDepth 16384

noncomputable section

namespace Cert.DyIdeal.Final

open Idealize.ShloMosaic Idealize.ShloMosaic.TcCoe Idealize.SL.Sem
open Idealize.ShloMosaic.Pipeline (Dat)
open Cert.DyIdeal Cert.DyIdeal.Gen

variable (m : (ℓ : Loc nD τ sig) → Buf (Elt Ideal) ℓ)

/-- Which block of its array each window holds at point `t`. -/
theorem idx_val : ∀ t : Fin cfg0.N, win0_0.index t = ![0] ∧ win0_1.index t = ![t.val, 0] ∧ win0_2.index t = ![0, 0]
    ∧ win0_3.index t = ![t.val, 0] ∧ win0_4.index t = ![0, t.val] ∧ win0_5.index t = ![0, 0] :=
  (by decide +kernel : ∀ t : Fin grid0.N, _)

/-- The scales' block is the whole array of scales, the weight's the whole weight. -/
theorem block0 (c : Dev nD) (t : Fin cfg0.N) : iblk m c 0 t = V m c main_v3 := by blk_ext! [iblk, V, idx_val t]
theorem block2 (c : Dev nD) (t : Fin cfg0.N) : iblk m c 2 t = V m c main_arg1 := by blk_ext! [iblk, V, idx_val t]

/-- The stacked scales, word by word. -/
theorem scale0 (c : Dev nD) : (V m c main_v3 : Vec Ideal S2 .f32) (ix1 0) = (m ((c : Thread nD τ).loc main_arg3) : Vec Ideal S_ .f32) ix0 := by
  change StableHlo.after hostOps0 (fun b => m (c, b)) (Proc.devRef .tc main_v3) (ix1 0) = _
  after_reads_simp
  pointwise []
theorem scale1 (c : Dev nD) : (V m c main_v3 : Vec Ideal S2 .f32) (ix1 1) = (m ((c : Thread nD τ).loc main_arg2) : Vec Ideal S_ .f32) ix0 := by
  change StableHlo.after hostOps0 (fun b => m (c, b)) (Proc.devRef .tc main_v3) (ix1 1) = _
  after_reads_simp
  pointwise []

/-- The tokens' cotangent as the call gets it. -/
theorem tokens (c : Dev nD) : V m c main_v0
    = shapeCast S12288x2048 (m ((c : Thread nD τ).loc main_arg0) : Vec Ideal S8x1536x2048 .bf16) shapeCasts_S8x1536x2048_S12288x2048 := by
  change StableHlo.after hostOps0 (fun b => m (c, b)) (Proc.devRef .tc main_v0) = _
  after_reads_simp
  rfl

/-- The tokens' cotangent, all sequences in one axis, in single precision. -/
def dyf (c : Dev nD) : FVec Ideal S12288x2048 .f32 := extf (F := Ideal) .f32 (V m c main_v0 : FVec Ideal S12288x2048 .bf16) bitsLt_bf16_f32

/-- The cotangent's codes: the reference's term. -/
theorem codes (c : Dev nD) :
    (dats m 0 c).arrAt 3 cfg0.N = Cert.DyRefIdeal.Gen.k0_pay1 (F := Ideal) (dyf m c) ((V m c main_v3 : Vec Ideal S2 .f32) (ix1 0)) := by
  refine (dats m 0 c).arrAt_eq_of_covers 3 _ (by decide +kernel) fun t hf y => ?_
  blk_simp
  rw [after0_3, block0]
  pointwise [k0_pay3, k0_pay1, Cert.DyRefIdeal.Gen.k0_pay1, dyf]
  blk_point [iblk, V, idx_val t]

/-- The cotangent's product with the output weight: the reference's term. -/
theorem product (c : Dev nD) :
    (dats m 0 c).arrAt 4 cfg0.N = Cert.DyRefIdeal.Gen.k0_pay2 (F := Ideal) (dyf m c) ((V m c main_v3 : Vec Ideal S2 .f32) (ix1 0)) (V m c main_arg1)
      ((V m c main_v3 : Vec Ideal S2 .f32) (ix1 0)) ((V m c main_v3 : Vec Ideal S2 .f32) (ix1 1)) := by
  refine (dats m 0 c).arrAt_eq_of_covers 4 _ (by decide +kernel) fun t hf y => ?_
  blk_simp
  rw [after0_4, block0, block2]
  pointwise [k0_pay4, k0_pay3, k0_pay1, Cert.DyRefIdeal.Gen.k0_pay1, Cert.DyRefIdeal.Gen.k0_pay2, dyf]
  blk_point [iblk, V, idx_val t]

end Cert.DyIdeal.Final

end
-- ==== Proof.DyMax.lean ====
/- The cotangent call's largest magnitude: the running maximum over the tiles, reduced by the host, is the maximum over
   all tokens. -/
module

public import proofs.«01_k».proof.Proof.DyValue
public import proofs.«01_k».proof.Proof.Extremes

@[expose] public section

set_option maxRecDepth 16384

noncomputable section

namespace Cert.DyIdeal.Final

open Idealize.ShloMosaic Idealize.ShloMosaic.TcCoe Idealize.SL.Sem
open Idealize.ShloMosaic.Pipeline (Dat)
open Cert.DyIdeal Cert.DyIdeal.Gen Cert.Common

variable (m : (ℓ : Loc nD τ sig) → Buf (Elt Ideal) ℓ)

/-- A tile's magnitudes folded to eight rows by maxima. -/
def tileMax (v0 : Vec Ideal S512x2048 .bf16) : FVec Ideal S8x2048 .f32 :=
  multiReduction .maximumf [0] S8x2048 (shapeCast S64x8x2048 (absf (k0_pay1 (F := Ideal) v0)) shapeCasts_S512x2048_S64x8x2048)
    0xFF800000#32 reduces_S64x8x2048_S8x2048 (.inl rfl) rfl

theorem point_lt (t : Fin cfg0.N) : t.val < 24 := lt_of_lt_of_eq t.isLt N_0

theorem first_word_at (t : Fin cfg0.N) :
    Scalar.cmpi .eq (BitVec.ofNat 32 (grid0.coords t 0).val) 0#32 = if t.val = 0 then 1#1 else 0#1 := by
  rw [coord0]
  exact first_word ⟨t.val, by have := point_lt t; omega⟩

/-- The block's new contents: the tile's maxima at the first point, the greater of the two later. -/
theorem pay (t : Fin cfg0.N) (v0 : Vec Ideal S512x2048 .bf16) (v7 : Vec Ideal S8x2048 .f32) :
    k0_pay2 (F := Ideal) (grid0.coords t) v0 v7
      = Scalar.select (if t.val = 0 then 1#1 else 0#1) (tileMax v0) (maximumf (shapeCast S8x2048 v7 shapeCasts_S8x2048_S8x2048) (tileMax v0)) := by
  rw [← first_word_at]
  rfl

theorem first_pay (t : Fin cfg0.N) (h : t.val = 0) (v0 : Vec Ideal S512x2048 .bf16) (v7 : Vec Ideal S8x2048 .f32) :
    k0_pay2 (F := Ideal) (grid0.coords t) v0 v7 = tileMax v0 := by
  rw [pay, if_pos h]
  rfl

theorem next_pay (t : Fin cfg0.N) (h : ¬t.val = 0) (v0 : Vec Ideal S512x2048 .bf16) (v7 : Vec Ideal S8x2048 .f32) (y : S8x2048.Idx) :
    k0_pay2 (F := Ideal) (grid0.coords t) v0 v7 y = max (v7 y : EReal) (tileMax v0 y) := by
  rw [pay, if_neg h]
  show max (shapeCast S8x2048 v7 shapeCasts_S8x2048_S8x2048 y : EReal) _ = _
  pointwise []

/-- The running maximum after point `n`. -/
theorem acc_le (c : Dev nD) (n : Nat) (h : n < cfg0.N) (y : S8x2048.Idx) (b : EReal) :
    acc5 m c n h y ≤ b ↔ ∀ s : Fin cfg0.N, s.val ≤ n → (tileMax (iblk m c 1 s) y : EReal) ≤ b :=
  running_max_le (fun n h y => acc5 m c n h y) (fun s y => tileMax (iblk m c 1 s) y)
    (fun h i => congrFun (first_pay ⟨0, h⟩ rfl _ _) i)
    (fun n h i => next_pay ⟨n + 1, h⟩ (Nat.succ_ne_zero n) _ _ i) n h y b

/-- The maxima the call leaves are the last point's. -/
theorem maxima (c : Dev nD) (h : 23 < cfg0.N) : (dats m 0 c).arrAt 5 cfg0.N = acc5 m c 23 h := by
  refine (dats m 0 c).arrAt_eq_of_covers 5 _ (by decide +kernel) fun t hf y => ?_
  have h1 : t.val = 23 := by
    have := (flush0_5 t).mp hf
    have := point_lt t
    omega
  have h2 : ∀ n (hn : n < cfg0.N), n = 23 → acc5 m c n hn = acc5 m c 23 h := by
    rintro n hn rfl
    rfl
  blk_simp
  rw [after0_5, h2 _ _ h1]
  blk_ext [idx_val t]

/-- The host's maximum of those maxima is the maximum over all tokens. -/
theorem largest (c : Dev nD) :
    Host.reduce (FloatOps.maximumf (F := Ideal) (φ := .f32)) ((dats m 0 c).arrAt 5 cfg0.N : FVec Ideal S8x2048 .f32) (constant S_ .f32 0xFF800000#32) reducesTo_S8x2048_S_d0_1 h_S_
      = Host.reduce (FloatOps.maximumf (F := Ideal) (φ := .f32)) (Host.absf (dyf m c)) (constant S_ .f32 0xFF800000#32) Cert.DyRefIdeal.Gen.facts.reducesTo_S12288x2048_S_d0_1 h_S_ := by
  have h23 : 23 < cfg0.N := lt_of_lt_of_eq (by decide) N_0.symm
  funext j
  refine eq_of_forall_ge_iff fun b => ?_
  rw [reduce_max_le rfl, reduce_max_le rfl, maxima m c h23]
  refine and_congr_right fun hb => ?_
  have ht : ∀ (s : Fin cfg0.N) (r : Fin 512) (R : Fin 12288) (j : Fin 2048), R.val = s.val * 512 + r.val →
      (absf (k0_pay1 (F := Ideal) (iblk m c 1 s)) (ix2 r j) : EReal) = Host.absf (dyf m c) (ix2 R j) := by
    intro s r R j e
    pointwise [k0_pay1, dyf]
    blk_point [iblk, V, idx_val s]
  rw [← all_rows N_0 (Host.absf (dyf m c)) (fun s => absf (k0_pay1 (F := Ideal) (iblk m c 1 s))) ht]
  refine forall_congr' fun y => ?_
  rw [acc_le]
  refine ⟨fun H s k r e => ((folded_le _ _ _ _ _ y b).1 (H s (Nat.le_of_lt_succ (point_lt s)))).2 k r e,
    fun H s _ => (folded_le _ _ _ _ _ y b).2 ⟨hb, H s⟩⟩

end Cert.DyIdeal.Final

end
-- ==== Proof.DyRef.lean ====
/- What the cotangent call's reference leaves in its arrays, over its arguments, read at an index. -/
module

public import proofs.«01_k».proof.Proof.Gen.DyRefIdeal.Value
public import proofs.«01_k».proof.Proof.Common
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

namespace Cert.DyRefIdeal.Final

open Idealize.ShloMosaic Idealize.ShloMosaic.TcCoe Idealize.SL.Sem
open Idealize.ShloMosaic.Pipeline (Dat)
open Cert.DyRefIdeal Cert.DyRefIdeal.Gen

variable (m : (ℓ : Loc nD τ sig) → Buf (Elt Ideal) ℓ)

/-- The one point's block of every window is its whole array. -/
theorem idx_val : ∀ t : Fin cfg0.N, win0_0.index t = ![0] ∧ win0_1.index t = ![0] ∧ win0_2.index t = ![0, 0] ∧ win0_3.index t = ![0, 0] ∧ win0_4.index t = ![0, 0] ∧ win0_5.index t = ![0, 0] :=
  (by decide +kernel : ∀ t : Fin grid0.N, _)

/-- The blocks of the inputs are their arrays. -/
theorem block0 (c : Dev nD) : iblk m c 0 t0_0 = V m c main_v4 := by blk_ext! [iblk, V, idx_val t0_0]
theorem block1 (c : Dev nD) : iblk m c 1 t0_0 = V m c main_v5 := by blk_ext! [iblk, V, idx_val t0_0]
theorem block2 (c : Dev nD) : iblk m c 2 t0_0 = V m c main_v1 := by blk_ext! [iblk, V, idx_val t0_0]
theorem block3 (c : Dev nD) : iblk m c 3 t0_0 = V m c main_arg1 := by blk_ext! [iblk, V, idx_val t0_0]

/-- The scales and the tokens as the host hands them over. -/
theorem scale_dy (c : Dev nD) : (V m c main_v4 : Vec Ideal S1 .f32) (ix1 0) = (m ((c : Thread nD τ).loc main_arg3) : Vec Ideal S_ .f32) ix0 := by
  change StableHlo.after hostOps0 (fun b => m (c, b)) (Proc.devRef .tc main_v4) (ix1 0) = _
  after_reads_simp
  pointwise []
theorem scale_wo (c : Dev nD) : (V m c main_v5 : Vec Ideal S1 .f32) (ix1 0) = (m ((c : Thread nD τ).loc main_arg2) : Vec Ideal S_ .f32) ix0 := by
  change StableHlo.after hostOps0 (fun b => m (c, b)) (Proc.devRef .tc main_v5) (ix1 0) = _
  after_reads_simp
  pointwise []
theorem tokens (c : Dev nD) : V m c main_v1 = extf (F := Ideal) (φ := .bf16) .f32
    (shapeCast S12288x2048 (m ((c : Thread nD τ).loc main_arg0) : Vec Ideal S8x1536x2048 .bf16) shapeCasts_S8x1536x2048_S12288x2048) bitsLt_bf16_f32 := by
  change StableHlo.after hostOps0 (fun b => m (c, b)) (Proc.devRef .tc main_v1) = _
  after_reads_simp
  rfl
/-- The host's own maximum. -/
theorem maximum (c : Dev nD) : V m c main_v3 = Host.reduce (FloatOps.maximumf (F := Ideal) (φ := .f32)) (Host.absf (V m c main_v1))
    (constant S_ .f32 0xFF800000#32) reducesTo_S12288x2048_S_d0_1 h_S_ := by
  rw [tokens]
  change StableHlo.after hostOps0 (fun b => m (c, b)) (Proc.devRef .tc main_v3) = _
  after_reads_simp
  rfl

/-- The cotangent's codes. -/
theorem codes (c : Dev nD) :
    (dats m 0 c).arrAt 4 cfg0.N = k0_pay1 (F := Ideal) (V m c main_v1) ((V m c main_v4 : Vec Ideal S1 .f32) (ix1 0)) := by
  refine (dats m 0 c).arrAt_eq_of_after_last 4 t0_0 (by decide +kernel) _ fun j => ?_
  blk_simp
  rw [after0_4]
  unfold outsAt0
  generalize hs0_0 t0_0 = h0
  generalize ms0_0 t0_0 = a0 at h0
  generalize hs0_2 t0_0 = h2
  generalize ms0_2 t0_0 = a2 at h2
  rw [block0, block2]
  frame_out
  rw [Cert.Common.ld_word (Val := Elt Ideal) (e := .f32) (n := 1) _ 0 (by decide)]
  rfl

/-- The cotangent's product with the output weight. -/
theorem product (c : Dev nD) :
    (dats m 0 c).arrAt 5 cfg0.N = k0_pay2 (F := Ideal) (V m c main_v1) ((V m c main_v4 : Vec Ideal S1 .f32) (ix1 0)) (V m c main_arg1)
      ((V m c main_v4 : Vec Ideal S1 .f32) (ix1 0)) ((V m c main_v5 : Vec Ideal S1 .f32) (ix1 0)) := by
  refine (dats m 0 c).arrAt_eq_of_after_last 5 t0_0 (by decide +kernel) _ fun j => ?_
  blk_simp
  rw [after0_5]
  unfold outsAt0
  generalize hs0_0 t0_0 = h0
  generalize ms0_0 t0_0 = a0 at h0
  generalize hs0_1 t0_0 = h1
  generalize ms0_1 t0_0 = a1 at h1
  generalize hs0_2 t0_0 = h2
  generalize ms0_2 t0_0 = a2 at h2
  generalize hs0_3 t0_0 = h3
  generalize ms0_3 t0_0 = a3 at h3
  rw [block0, block1, block2, block3]
  frame_out
  rw [Cert.Common.ld_word (Val := Elt Ideal) (e := .f32) (n := 1) _ 0 (by decide)]
  rw [Cert.Common.ld_word (Val := Elt Ideal) (e := .f32) (n := 1) _ 0 (by decide)]
  rfl

end Cert.DyRefIdeal.Final

end
-- ==== Proof.DyClaim.lean ====
/- The cotangent call and its reference end with the same three results. -/
module

public import proofs.«01_k».proof.Defs
public import proofs.«01_k».proof.Proof.DyMax
public import proofs.«01_k».proof.Proof.DyRef

@[expose] public section

set_option maxRecDepth 16384

noncomputable section

namespace Cert.DyIdeal.Final

open Idealize.ShloMosaic Idealize.ShloMosaic.TcCoe Idealize.SL.Sem
open Idealize.ShloMosaic.Pipeline (Dat)

/-- The host's last line after the call: the maximum of the maxima. -/
theorem tail (m : (ℓ : Loc nD τ sig) → Buf (Elt Ideal) ℓ) (c : Dev nD) :
    Pipeline.afterTail₀ cfgs (Gen.dats m) 0 (Gen.V0 m) [Gen.hostOps1] c main_v5
      = Host.reduce (FloatOps.maximumf (F := Ideal) (φ := .f32)) ((Gen.dats m 0 c).arrAt 5 cfg0.N : FVec Ideal S8x2048 .f32)
          (constant S_ .f32 0xFF800000#32) Gen.reducesTo_S8x2048_S_d0_1 Gen.h_S_ := by
  unfold Pipeline.afterTail₀
  simp only [List.flatten_cons, List.flatten_nil, List.append_nil]
  after_reads_simp
  exact congrArg (fun x => Host.reduce (FloatOps.maximumf (F := Ideal) (φ := .f32)) x (constant S_ .f32 0xFF800000#32) Gen.reducesTo_S8x2048_S_d0_1 Gen.h_S_)
    (Pipeline.withArrays_arr spec0 (by exact (by decide : ∀ a b, Pipeline.arrRef spec0 a = Pipeline.arrRef spec0 b → a = b)) c _ _ 5)

/-- From equal arguments the tokens in single precision are equal. -/
theorem tokens_eq (m : (ℓ : Loc nD τ sig) → Buf (Elt Ideal) ℓ)
    (m' : (ℓ : Loc Cert.DyRefIdeal.nD Cert.DyRefIdeal.τ Cert.DyRefIdeal.sig) → Buf (Elt Ideal) ℓ) (c : Dev nD)
    (h : m' ((c.tc : Thread Cert.DyRefIdeal.nD Cert.DyRefIdeal.τ).loc Cert.DyRefIdeal.main_arg0) = m ((c.tc : Thread nD τ).loc main_arg0)) :
    Cert.DyRefIdeal.Gen.V m' c Cert.DyRefIdeal.main_v1 = dyf m c := by
  rw [Cert.DyRefIdeal.Final.tokens, h]
  unfold dyf
  rw [tokens]

theorem algebraic : Cert.algebraic_DyIdeal_DyRefIdeal (hDyIdeal := Cert.DyIdeal.Gen.facts) (hDyRefIdeal := Cert.DyRefIdeal.Gen.facts) := by
  pair_intro
  · run_from Cert.DyIdeal.Gen.run_main m g
    · exact Gen.W_main_arg0 m _ c
    · exact Gen.W_main_arg2 m _ c
    · exact Gen.W_main_arg3 m _ c
  · run_from Cert.DyRefIdeal.Gen.run_main m' g'
    · rw [Cert.DyRefIdeal.Final.codes, tokens_eq m m' c (hagree c).1, Cert.DyRefIdeal.Final.scale_dy, (hagree c).2.2.2, ← scale0 m c]
      exact (codes m c).symm
    · rw [Cert.DyRefIdeal.Final.product, tokens_eq m m' c (hagree c).1, Cert.DyRefIdeal.Final.scale_dy, Cert.DyRefIdeal.Final.scale_wo,
        Cert.DyRefIdeal.Gen.V_main_arg1, (hagree c).2.1, (hagree c).2.2.1, (hagree c).2.2.2, ← scale0 m c, ← scale1 m c, ← Gen.V_main_arg1 m c]
      exact (product m c).symm
    · rw [tail, largest]
      unfold dyf
      rw [tokens]
      rfl

end Cert.DyIdeal.Final

end
-- ==== Proof.OutRun.lean ====
/- The run of the output projection's call as printed for the extended reals: what each grid point leaves in the output
   buffers, the proof data of the pipeline, the launch, and the frame. Everything is stated for any float values. -/
module

public import proofs.«01_k».proof.Proof.Gen.OutIdeal.Frame
public import proofs.«01_k».proof.Proof.Gen.OutIdeal.Skeleton
public import Idealize.ShloMosaic.Lib.Claim
public import proofs.«01_k».proof.Proof.Common

@[expose] public section

set_option maxRecDepth 16384
set_option maxHeartbeats 4000000

noncomputable section

namespace Cert.OutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- On whole blocks, the body leaves in the per-block outputs their payloads, and in each block that is carried from
    point to point the payload over what was there before. -/
theorem kernelRun0 (c : Dev nD) (i : grid0.Coords) (arg1 : Memref sig .tc .smem S3 .f32) (harg1 : arg1.IsWhole) (arg2 : Memref sig .tc .vmem S512x2048 .bf16) (harg2 : arg2.IsWhole) (arg3 : Memref sig .tc .vmem S512x1024 .fp8e4m3) (harg3 : arg3.IsWhole) (arg4 : Memref sig .tc .vmem S512x2048 .fp8e5m2) (harg4 : arg4.IsWhole) (arg5 : Memref sig .tc .vmem S1024x2048 .fp8e4m3) (harg5 : arg5.IsWhole) (arg6 : Memref sig .tc .vmem S512x2048 .bf16) (harg6 : arg6.IsWhole) (arg7 : Memref sig .tc .vmem S1024x2048 .f32) (harg7 : arg7.IsWhole)
    (x0 : Vec F S3 .f32) (x1 : Vec F S512x2048 .bf16) (x2 : Vec F S512x1024 .fp8e4m3) (x3 : Vec F S512x2048 .fp8e5m2) (x4 : Vec F S1024x2048 .fp8e4m3)
    (y6 : Vec F S1024x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare (k0_pay1 x2 x1 x4 (x0 (ix1 0)) (x0 (ix1 1)))
              ∗ owns (c : Thread nD τ) arg7 fullShare (k0_pay2 i x2 x3 (x0 (ix1 0)) (x0 (ix1 2)) y6)) -∗ K ⟨⟩))
          ⊢ wp frame (wpE (defs₀ (F := F)) Variants.none c none) E (cc0_out_proj i arg1 harg1 arg2 harg2 arg3 harg3 arg4 harg4 arg5 harg5 arg6 harg6 arg7 harg7) K := by
    intro E K
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (Common.read_store _ _ Common.zeros₂ _ _).trans ?_
      frame_out
      rw [Common.ld_word (Val := Elt F) (e := .f32) (n := 3) x0 0 (by decide), Common.ld_word (Val := Elt F) (e := .f32) (n := 3) x0 1 (by decide)]; rfl
    iexists _; isplitr; swap; · iexact H6
    ipureintro
    refine (Common.read_store _ _ Common.zeros₂ _ _).trans ?_
    frame_out
    rw [Common.ld_word (Val := Elt F) (e := .f32) (n := 3) x0 0 (by decide), Common.ld_word (Val := Elt F) (e := .f32) (n := 3) x0 2 (by decide)]; rfl

/-- The grid has one axis: the coordinate is the point's number. -/
theorem coord0 : ∀ t : Fin cfg0.N, (grid0.coords t 0).val = t.val :=
  (by decide +kernel : ∀ t : Fin grid0.N, (grid0.coords t 0).val = t.val)

/-- What window 6's block holds after point `n`. -/
def acc6 (c : Dev nD) : (n : Nat) → n < cfg0.N → Vec F S1024x2048 .f32
  | 0, h => k0_pay2 (grid0.coords ⟨0, h⟩) (iblk m c 2 ⟨0, h⟩) (iblk m c 3 ⟨0, h⟩) ((iblk m c 0 ⟨0, h⟩ : Vec F S3 .f32) (ix1 0)) ((iblk m c 0 ⟨0, h⟩ : Vec F S3 .f32) (ix1 2)) (constant S1024x2048 .f32 0x00000000#32)
  | n + 1, h => k0_pay2 (grid0.coords ⟨n + 1, h⟩) (iblk m c 2 ⟨n + 1, h⟩) (iblk m c 3 ⟨n + 1, h⟩) ((iblk m c 0 ⟨n + 1, h⟩ : Vec F S3 .f32) (ix1 0)) ((iblk m c 0 ⟨n + 1, h⟩ : Vec F S3 .f32) (ix1 2)) (acc6 c n (Nat.lt_of_succ_lt h))

/-- The proof data of the one pipeline on core `c`: the arrays as the region finds them; after the body at point `t`
    each input's buffer at its block, the outputs' at the payloads; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (iblk m c 2 t) (iblk m c 1 t) (iblk m c 4 t) ((iblk m c 0 t : Vec F S3 .f32) (ix1 0)) ((iblk m c 0 t : Vec F S3 .f32) (ix1 1))
    | ⟨6, _⟩ => acc6 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay1 (iblk m c 2 t) (iblk m c 1 t) (iblk m c 4 t) ((iblk m c 0 t : Vec F S3 .f32) (ix1 0)) ((iblk m c 0 t : Vec F S3 .f32) (ix1 1)) := by dsimp only [dats]
theorem after0_6 (c : Dev nD) (t : Fin cfg0.N) : (dats m 0 c).after 6 t = acc6 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At the first point window 6's payload does not depend on what the block held, -/
theorem first6 (c : Dev nD) (t : Fin cfg0.N) (h : t.val = 0) (y y' : Vec F S1024x2048 .f32) :
    k0_pay2 (grid0.coords t) (iblk m c 2 t) (iblk m c 3 t) ((iblk m c 0 t : Vec F S3 .f32) (ix1 0)) ((iblk m c 0 t : Vec F S3 .f32) (ix1 2)) y = k0_pay2 (grid0.coords t) (iblk m c 2 t) (iblk m c 3 t) ((iblk m c 0 t : Vec F S3 .f32) (ix1 0)) ((iblk m c 0 t : Vec F S3 .f32) (ix1 2)) y' := by
  unfold k0_pay2
  rw [coord0, h]
  rfl

/-- so its payload over what the buffer holds before the point is what it holds after. -/
theorem step6 (c : Dev nD) (t : Fin cfg0.N) (d) :
    k0_pay2 (grid0.coords t) (iblk m c 2 t) (iblk m c 3 t) ((iblk m c 0 t : Vec F S3 .f32) (ix1 0)) ((iblk m c 0 t : Vec F S3 .f32) (ix1 2)) ((dats m 0 c).before 6 t d) = acc6 m c t.val t.isLt := by
  obtain ⟨n, hn⟩ := t
  cases n with
  | zero => exact first6 m c ⟨0, hn⟩ rfl _ _
  | succ n =>
    have hfl : (cfg0.win 6).flush ⟨n, Nat.lt_of_succ_lt hn⟩ = false := by
      rw [Bool.eq_false_iff]
      intro h
      have h1 := (flush0_6 ⟨n, Nat.lt_of_succ_lt hn⟩).mp h
      have h2 : n + 1 < 24 := lt_of_lt_of_eq hn N_0
      simp only at h1
      omega
    rw [(dats m 0 c).before_out_kept 6 rfl ⟨n + 1, hn⟩ (Nat.succ_ne_zero n) hfl (fun _ => rfl) (fun _ _ => rfl) d, after0_6]
    rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernelRun0 c (grid0.coords t) _ _ _ _ _ _ _ _ _ _ _ _ _ _ (iblk m c 0 t) (iblk m c 1 t) (iblk m c 2 t) (iblk m c 3 t) (iblk m c 4 t) ((dats m 0 c).before 6 t d6) Set.univ _)
  rw [step6 m c t d6]
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline at what the library computes from the proof data, every other buffer as the
    host lines leave it, and every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ)
    (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.OutIdeal.Gen

end
-- ==== Proof.OutBits.lean ====
/- The output projection on machine words leaves its arguments as they were: its program is the one over the extended reals, at the
   other element type, so the frame shown for every element type applies. -/
module

public import proofs.«01_k».proof.Proof.Gen.Out.Frame
public import proofs.«01_k».proof.Proof.OutRun

@[expose] public section

set_option maxRecDepth 16384

noncomputable section

namespace Cert.Out.Gen

open Idealize.ShloMosaic Idealize.ShloMosaic.TcCoe Idealize.SL.Sem

variable {F : FTy → Type} [FloatOps F]

/-- The two programs have the same kernel body. -/
theorem bodies : (defs₀ : Defs nD τ sig (Elt F) Λ₀) = Cert.OutIdeal.defs₀ := by
  unfold defs₀ Cert.OutIdeal.defs₀
  refine congrArg Defs.onTc (funext fun l => funext fun x => ?_)
  obtain ⟨n, h⟩ := l
  cases n with
  | zero => rfl
  | succ n => exact absurd h (Nat.not_lt.2 (Nat.le_add_left _ _))

/-- Every run ends with the arguments unchanged and every semaphore at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  unfold defs
  rw [bodies]
  exact Cert.OutIdeal.Gen.frame m ρ

end Cert.Out.Gen

end
-- ==== Proof.Sums.lean ====
/- Sums kept tile by tile: a running sum is the sum of its terms, and the scaled products of the tiles add up to the
   scaled product of the whole, for scales that are at least zero and finite. -/
module

public import proofs.«01_k».proof.Proof.Extremes

@[expose] public section

set_option maxRecDepth 16384

noncomputable section

namespace Cert.Common

open Idealize.ShloMosaic Idealize.SL.Sem

/-- A running sum, started at the first term, is the sum of the terms so far. -/
theorem running_sum {N : Nat} {ι : Type} (f : (n : Nat) → n < N → ι → EReal) (g : Fin N → ι → EReal)
    (h0 : ∀ h i, f 0 h i = g ⟨0, h⟩ i) (hs : ∀ n h i, f (n + 1) h i = f n (Nat.lt_of_succ_lt h) i + g ⟨n + 1, h⟩ i)
    (n : Nat) (h : n < N) (i : ι) : f n h i = ∑ s ∈ Finset.univ.filter (fun s : Fin N => s.val ≤ n), g s i := by
  induction n with
  | zero =>
    have e : Finset.univ.filter (fun s : Fin N => s.val ≤ 0) = {⟨0, h⟩} := by
      ext s
      simp only [Finset.mem_filter, Finset.mem_univ, true_and, Finset.mem_singleton, Nat.le_zero, Fin.ext_iff]
    rw [h0, e, Finset.sum_singleton]
  | succ n ih =>
    have e : Finset.univ.filter (fun s : Fin N => s.val ≤ n + 1)
        = insert ⟨n + 1, h⟩ (Finset.univ.filter (fun s : Fin N => s.val ≤ n)) := by
      ext s
      simp only [Finset.mem_filter, Finset.mem_univ, true_and, Finset.mem_insert, Fin.ext_iff]
      omega
    have hn : (⟨n + 1, h⟩ : Fin N) ∉ Finset.univ.filter (fun s : Fin N => s.val ≤ n) := by
      simp only [Finset.mem_filter, Finset.mem_univ, true_and]
      omega
    rw [hs, ih, e, Finset.sum_insert hn, add_comm]

/-- The terms up to the last point, each a sum over a tile, are the sum over all positions. -/
theorem tiled_sum {N J n T : Nat} (hN : N = J) (hT : J * n = T) (last : Nat) (hl : last + 1 = J) (f : Fin N → EReal)
    (p : Fin N → Fin n → EReal) (q : Fin T → EReal) (hp : ∀ (s : Fin N) (k : Fin n) (K : Fin T), K.val = s.val * n + k.val → p s k = q K)
    (hf : ∀ s, f s = ∑ k : Fin n, p s k) :
    ∑ s ∈ Finset.univ.filter (fun s : Fin N => s.val ≤ last), f s = ∑ K : Fin T, q K := by
  subst hN
  have e : Finset.univ.filter (fun s : Fin N => s.val ≤ last) = Finset.univ := by
    ext s
    have := s.isLt
    simp only [Finset.mem_filter, Finset.mem_univ, true_and, iff_true]
    omega
  rw [e, Fin.sum_univ_tiles N n hT]
  exact Finset.sum_congr rfl fun s _ => (hf s).trans (Finset.sum_congr rfl fun k _ => hp s k _ rfl)

/-- The tiles' scaled products add up to the scaled product of the whole. -/
theorem tiled_product {N J n T : Nat} (hN : N = J) (hT : J * n = T) (last : Nat) (hl : last + 1 = J) (f : Fin N → EReal) (G : EReal)
    (p : Fin N → Fin n → EReal) (q : Fin T → EReal) (a b : EReal) (ha : 0 ≤ a) (ha' : a ≠ ⊤) (hb : 0 ≤ b) (hb' : b ≠ ⊤)
    (hp : ∀ (s : Fin N) (k : Fin n) (K : Fin T), K.val = s.val * n + k.val → p s k = q K)
    (hf : ∀ s, f s = (∑ k : Fin n, p s k) * a * b) (hG : G = (∑ K : Fin T, q K) * a * b) :
    ∑ s ∈ Finset.univ.filter (fun s : Fin N => s.val ≤ last), f s = G := by
  rw [hG, Finset.sum_congr rfl fun s _ => hf s, ← sum_scaled _ _ a b ha ha' hb hb',
    tiled_sum hN hT last hl (fun s => ∑ k : Fin n, p s k) p q hp fun _ => rfl]

end Cert.Common

end
-- ==== Proof.OutValue.lean ====
/- What the output projection leaves in its arrays, as the reference's own terms over the arguments. The weight's gradient
   is summed over 24 tiles of tokens, each tile's product scaled before it is added; the reference scales the whole sum. -/
module

public import proofs.«01_k».proof.Proof.OutRun
public import proofs.«01_k».proof.Proof.Sums
public import proofs.«01_k».proof.Proof.Gen.OutRefIdeal.Skeleton
public import Idealize.ShloMosaic.Lib.Claim
public import Idealize.ShloMosaic.Lib.StableHlo.RunRead

@[expose] public section

set_option maxRecDepth 16384

noncomputable section

namespace Cert.OutIdeal.Final

open Idealize.ShloMosaic Idealize.ShloMosaic.TcCoe Idealize.SL.Sem
open Idealize.ShloMosaic.Pipeline (Dat)
open Cert.OutIdeal Cert.OutIdeal.Gen Cert.Common

variable (m : (ℓ : Loc nD τ sig) → Buf (Elt Ideal) ℓ)

/-- Which block of its array each window holds at point `t`. -/
theorem idx_val : ∀ t : Fin cfg0.N, win0_0.index t = ![0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The scales' block is the whole array of scales, the weight's the whole weight. -/
theorem block0 (c : Dev nD) (t : Fin cfg0.N) : iblk m c 0 t = V m c main_v4 := by blk_ext! [iblk, V, idx_val t]
theorem block4 (c : Dev nD) (t : Fin cfg0.N) : iblk m c 4 t = V m c main_arg3 := by blk_ext! [iblk, V, idx_val t]

/-- The stacked scales, word by word. -/
theorem scale0 (c : Dev nD) : (V m c main_v4 : Vec Ideal S3 .f32) (ix1 0) = (m ((c : Thread nD τ).loc main_arg5) : Vec Ideal S_ .f32) ix0 := by
  change StableHlo.after hostOps0 (fun b => m (c, b)) (Proc.devRef .tc main_v4) (ix1 0) = _
  after_reads_simp
  pointwise []
  rw [StableHlo.unary_result]
  after_reads_simp
  pointwise []
theorem scale1 (c : Dev nD) : (V m c main_v4 : Vec Ideal S3 .f32) (ix1 1) = (m ((c : Thread nD τ).loc main_arg4) : Vec Ideal S_ .f32) ix0 := by
  change StableHlo.after hostOps0 (fun b => m (c, b)) (Proc.devRef .tc main_v4) (ix1 1) = _
  after_reads_simp
  pointwise []
  rw [StableHlo.unary_result]
  after_reads_simp
  pointwise []
theorem scale2 (c : Dev nD) : (V m c main_v4 : Vec Ideal S3 .f32) (ix1 2) = (m ((c : Thread nD τ).loc main_arg6) : Vec Ideal S_ .f32) ix0 := by
  change StableHlo.after hostOps0 (fun b => m (c, b)) (Proc.devRef .tc main_v4) (ix1 2) = _
  after_reads_simp
  pointwise []
  rw [StableHlo.unary_result]
  after_reads_simp
  pointwise []

/-- The tokens as the call gets them. -/
theorem tokens (c : Dev nD) : V m c main_v0
    = shapeCast S12288x2048 (m ((c : Thread nD τ).loc main_arg0) : Vec Ideal S8x1536x2048 .bf16) shapeCasts_S8x1536x2048_S12288x2048 := by
  change StableHlo.after hostOps0 (fun b => m (c, b)) (Proc.devRef .tc main_v0) = _
  after_reads_simp
  rfl

/-- The tokens, all sequences in one axis, in single precision. -/
def xf (c : Dev nD) : FVec Ideal S12288x2048 .f32 := extf (F := Ideal) .f32 (V m c main_v0 : FVec Ideal S12288x2048 .bf16) bitsLt_bf16_f32

/-- The tokens with the projected context added: the reference's term. -/
theorem output (c : Dev nD) :
    (dats m 0 c).arrAt 5 cfg0.N = Cert.OutRefIdeal.Gen.k0_pay1 (F := Ideal) (xf m c) (V m c main_arg1) (V m c main_arg3)
      ((V m c main_v4 : Vec Ideal S3 .f32) (ix1 0)) ((V m c main_v4 : Vec Ideal S3 .f32) (ix1 1)) := by
  refine (dats m 0 c).arrAt_eq_of_covers 5 _ (by decide +kernel) fun t hf y => ?_
  blk_simp
  rw [after0_5, block0, block4]
  pointwise [k0_pay1, Cert.OutRefIdeal.Gen.k0_pay1, xf]
  blk_point [iblk, V, idx_val t]

/-- One tile's product with its two scales. -/
def part (v0 : FVec Ideal S512x1024 .fp8e4m3) (v15 : FVec Ideal S512x2048 .fp8e5m2) (a b : Ideal .f32) : FVec Ideal S1024x2048 .f32 :=
  mulf (mulf (matmul dot_S512x1024_S512x2048_S1024x2048_0_0_1_1_n_n none v0 v15 (constant S1024x2048 .f32 0x00000000#32))
    (broadcast S1024x2048 a)) (broadcast S1024x2048 b)

theorem point_lt (t : Fin cfg0.N) : t.val < 24 := lt_of_lt_of_eq t.isLt N_0

theorem first_word_at (t : Fin cfg0.N) :
    Scalar.cmpi .eq (BitVec.ofNat 32 (grid0.coords t 0).val) 0#32 = if t.val = 0 then 1#1 else 0#1 := by
  rw [coord0]
  exact first_word ⟨t.val, by have := point_lt t; omega⟩

/-- The block's new contents: the tile's part at the first point, the old contents and the part later. -/
theorem pay (t : Fin cfg0.N) (v0 : FVec Ideal S512x1024 .fp8e4m3) (v15 : FVec Ideal S512x2048 .fp8e5m2) (a b : Ideal .f32) (y : Vec Ideal S1024x2048 .f32) :
    k0_pay2 (F := Ideal) (grid0.coords t) v0 v15 a b y
      = Scalar.select (if t.val = 0 then 1#1 else 0#1) (part v0 v15 a b) (addf (shapeCast S1024x2048 y shapeCasts_S1024x2048_S1024x2048) (part v0 v15 a b)) := by
  rw [← first_word_at]
  rfl

theorem first_pay (t : Fin cfg0.N) (h : t.val = 0) (v0 : FVec Ideal S512x1024 .fp8e4m3) (v15 : FVec Ideal S512x2048 .fp8e5m2) (a b : Ideal .f32) (y : Vec Ideal S1024x2048 .f32) :
    k0_pay2 (F := Ideal) (grid0.coords t) v0 v15 a b y = part v0 v15 a b := by
  rw [pay, if_pos h]
  rfl

theorem next_pay (t : Fin cfg0.N) (h : ¬t.val = 0) (v0 : FVec Ideal S512x1024 .fp8e4m3) (v15 : FVec Ideal S512x2048 .fp8e5m2) (a b : Ideal .f32) (y : Vec Ideal S1024x2048 .f32) (i : S1024x2048.Idx) :
    k0_pay2 (F := Ideal) (grid0.coords t) v0 v15 a b y i = (y i + part v0 v15 a b i : EReal) := by
  rw [pay, if_neg h]
  show (shapeCast S1024x2048 y shapeCasts_S1024x2048_S1024x2048 i + _ : EReal) = _
  pointwise []

/-- The call's operands: a tile of each, the whole of each, and the two scales. -/
def ctxTile (c : Dev nD) (s : Fin cfg0.N) : FVec Ideal S512x1024 .fp8e4m3 := iblk m c 2 s
def dyTile (c : Dev nD) (s : Fin cfg0.N) : FVec Ideal S512x2048 .fp8e5m2 := iblk m c 3 s
def ctx (c : Dev nD) : FVec Ideal S12288x1024 .fp8e4m3 := V m c main_arg1
def dy (c : Dev nD) : FVec Ideal S12288x2048 .fp8e5m2 := V m c main_arg2
def sCtx (c : Dev nD) : Ideal .f32 := (V m c main_v4 : Vec Ideal S3 .f32) (ix1 0)
def sDy (c : Dev nD) : Ideal .f32 := (V m c main_v4 : Vec Ideal S3 .f32) (ix1 2)

/-- The part the call adds at point `s`. -/
def term (c : Dev nD) (s : Fin cfg0.N) : FVec Ideal S1024x2048 .f32 :=
  part (ctxTile m c s) (dyTile m c s) (sCtx m c) (sDy m c)

/-- The running sum after point `n` is the sum of the parts so far. -/
theorem acc_eq (c : Dev nD) (n : Nat) (h : n < cfg0.N) (i : S1024x2048.Idx) :
    (acc6 m c n h i : EReal) = ∑ s ∈ Finset.univ.filter (fun s : Fin cfg0.N => s.val ≤ n), (term m c s i : EReal) :=
  running_sum (fun n h i => acc6 m c n h i) (fun s i => term m c s i)
    (fun h i => (congrFun (first_pay ⟨0, h⟩ rfl _ _ _ _ _) i).trans (by unfold term sCtx sDy; rw [block0]; rfl))
    (fun n h i => (next_pay ⟨n + 1, h⟩ (Nat.succ_ne_zero n) _ _ _ _ _ i).trans (by unfold term sCtx sDy; rw [block0]; rfl)) n h i

/-- The sum the call leaves is the last point's. -/
theorem total (c : Dev nD) (h : 23 < cfg0.N) : (dats m 0 c).arrAt 6 cfg0.N = acc6 m c 23 h := by
  refine (dats m 0 c).arrAt_eq_of_covers 6 _ (by decide +kernel) fun t hf y => ?_
  have h1 : t.val = 23 := by
    have := (flush0_6 t).mp hf
    have := point_lt t
    omega
  have h2 : ∀ n (hn : n < cfg0.N), n = 23 → acc6 m c n hn = acc6 m c 23 h := by
    rintro n hn rfl
    rfl
  blk_simp
  rw [after0_6, h2 _ _ h1]
  blk_ext [idx_val t]

/-- The output weight's gradient: the reference's term, for scales that are at least zero and finite. -/
theorem gradient (c : Dev nD) (ha : (0 : EReal) ≤ sCtx m c) (ha' : sCtx m c ≠ (⊤ : EReal)) (hb : (0 : EReal) ≤ sDy m c) (hb' : sDy m c ≠ (⊤ : EReal)) :
    (dats m 0 c).arrAt 6 cfg0.N = Cert.OutRefIdeal.Gen.k0_pay2 (F := Ideal) (ctx m c) (dy m c) (sCtx m c) (sDy m c) := by
  have h23 : 23 < cfg0.N := lt_of_lt_of_eq (by decide) N_0.symm
  rw [total m c h23]
  funext i
  refine (acc_eq m c 23 h23 i).trans ?_
  idx_vars i
  refine tiled_product N_0 (n := 512) (T := 12288) rfl 23 rfl _ _ (fun s k => (ctxTile m c s (ix2 k i0) : EReal) * dyTile m c s (ix2 k i1))
    (fun k => (ctx m c (ix2 k i0) : EReal) * dy m c (ix2 k i1)) (sCtx m c) (sDy m c) ha ha' hb hb' ?_ ?_ ?_
  · intro s k K e
    refine congrArg₂ (fun a b : EReal => a * b) ?_ ?_
    · unfold ctxTile ctx
      blk_point [iblk, V, idx_val s]
    · unfold dyTile dy
      blk_point [iblk, V, idx_val s]
  · intro s
    pointwise [term, part]
  · pointwise [Cert.OutRefIdeal.Gen.k0_pay2]

end Cert.OutIdeal.Final

end
-- ==== Proof.OutRef.lean ====
/- What the output projection's reference leaves in its arrays, over its arguments. -/
module

public import proofs.«01_k».proof.Proof.Gen.OutRefIdeal.Value
public import proofs.«01_k».proof.Proof.Common
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

namespace Cert.OutRefIdeal.Final

open Idealize.ShloMosaic Idealize.ShloMosaic.TcCoe Idealize.SL.Sem
open Idealize.ShloMosaic.Pipeline (Dat)
open Cert.OutRefIdeal Cert.OutRefIdeal.Gen

variable (m : (ℓ : Loc nD τ sig) → Buf (Elt Ideal) ℓ)

/-- The one point's block of every window is its whole array. -/
theorem idx_val : ∀ t : Fin cfg0.N, win0_0.index t = ![0] ∧ win0_1.index t = ![0] ∧ win0_2.index t = ![0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- The blocks of the inputs are their arrays. -/
theorem block0 (c : Dev nD) : iblk m c 0 t0_0 = V m c main_v2 := by blk_ext! [iblk, V, idx_val t0_0]
theorem block1 (c : Dev nD) : iblk m c 1 t0_0 = V m c main_v3 := by blk_ext! [iblk, V, idx_val t0_0]
theorem block2 (c : Dev nD) : iblk m c 2 t0_0 = V m c main_v4 := by blk_ext! [iblk, V, idx_val t0_0]
theorem block3 (c : Dev nD) : iblk m c 3 t0_0 = V m c main_v1 := by blk_ext! [iblk, V, idx_val t0_0]
theorem block4 (c : Dev nD) : iblk m c 4 t0_0 = V m c main_arg1 := by blk_ext! [iblk, V, idx_val t0_0]
theorem block5 (c : Dev nD) : iblk m c 5 t0_0 = V m c main_arg2 := by blk_ext! [iblk, V, idx_val t0_0]
theorem block6 (c : Dev nD) : iblk m c 6 t0_0 = V m c main_arg3 := by blk_ext! [iblk, V, idx_val t0_0]

/-- The scales as the host hands them over. -/
theorem scale_wo (c : Dev nD) : (V m c main_v2 : Vec Ideal S1 .f32) (ix1 0) = (m ((c : Thread nD τ).loc main_arg4) : Vec Ideal S_ .f32) ix0 := by
  change StableHlo.after hostOps0 (fun b => m (c, b)) (Proc.devRef .tc main_v2) (ix1 0) = _
  after_reads_simp
  pointwise []

theorem scale_ctx (c : Dev nD) : (V m c main_v3 : Vec Ideal S1 .f32) (ix1 0) = (m ((c : Thread nD τ).loc main_arg5) : Vec Ideal S_ .f32) ix0 := by
  change StableHlo.after hostOps0 (fun b => m (c, b)) (Proc.devRef .tc main_v3) (ix1 0) = _
  after_reads_simp
  pointwise []

theorem scale_dy (c : Dev nD) : (V m c main_v4 : Vec Ideal S1 .f32) (ix1 0) = (m ((c : Thread nD τ).loc main_arg6) : Vec Ideal S_ .f32) ix0 := by
  change StableHlo.after hostOps0 (fun b => m (c, b)) (Proc.devRef .tc main_v4) (ix1 0) = _
  after_reads_simp
  pointwise []
/-- The tokens as the host hands them over. -/
theorem tokens (c : Dev nD) : V m c main_v1 = extf (F := Ideal) (φ := .bf16) .f32
    (shapeCast S12288x2048 (m ((c : Thread nD τ).loc main_arg0) : Vec Ideal S8x1536x2048 .bf16) shapeCasts_S8x1536x2048_S12288x2048) bitsLt_bf16_f32 := by
  change StableHlo.after hostOps0 (fun b => m (c, b)) (Proc.devRef .tc main_v1) = _
  after_reads_simp
  rfl

/-- The projected context added to the tokens. -/
theorem output (c : Dev nD) :
    (dats m 0 c).arrAt 7 cfg0.N = k0_pay1 (F := Ideal) (V m c main_v1) (V m c main_arg1) (V m c main_arg3) ((V m c main_v3 : Vec Ideal S1 .f32) (ix1 0)) ((V m c main_v2 : Vec Ideal S1 .f32) (ix1 0)) := by
  refine (dats m 0 c).arrAt_eq_of_after_last 7 t0_0 (by decide +kernel) _ fun j => ?_
  blk_simp
  rw [after0_7]
  unfold outsAt0
  generalize hs0_0 t0_0 = h0
  generalize ms0_0 t0_0 = a0 at h0
  generalize hs0_1 t0_0 = h1
  generalize ms0_1 t0_0 = a1 at h1
  generalize hs0_3 t0_0 = h3
  generalize ms0_3 t0_0 = a3 at h3
  generalize hs0_4 t0_0 = h4
  generalize ms0_4 t0_0 = a4 at h4
  generalize hs0_6 t0_0 = h6
  generalize ms0_6 t0_0 = a6 at h6
  rw [block0, block1, block3, block4, block6]
  frame_out
  rw [Cert.Common.ld_word (Val := Elt Ideal) (e := .f32) (n := 1) _ 0 (by decide)]
  rw [Cert.Common.ld_word (Val := Elt Ideal) (e := .f32) (n := 1) _ 0 (by decide)]
  rfl

/-- The output weight's gradient. -/
theorem gradient (c : Dev nD) :
    (dats m 0 c).arrAt 8 cfg0.N = k0_pay2 (F := Ideal) (V m c main_arg1) (V m c main_arg2) ((V m c main_v3 : Vec Ideal S1 .f32) (ix1 0)) ((V m c main_v4 : Vec Ideal S1 .f32) (ix1 0)) := by
  refine (dats m 0 c).arrAt_eq_of_after_last 8 t0_0 (by decide +kernel) _ fun j => ?_
  blk_simp
  rw [after0_8]
  unfold outsAt0
  generalize hs0_1 t0_0 = h1
  generalize ms0_1 t0_0 = a1 at h1
  generalize hs0_2 t0_0 = h2
  generalize ms0_2 t0_0 = a2 at h2
  generalize hs0_4 t0_0 = h4
  generalize ms0_4 t0_0 = a4 at h4
  generalize hs0_5 t0_0 = h5
  generalize ms0_5 t0_0 = a5 at h5
  rw [block1, block2, block4, block5]
  frame_out
  rw [Cert.Common.ld_word (Val := Elt Ideal) (e := .f32) (n := 1) _ 0 (by decide)]
  rw [Cert.Common.ld_word (Val := Elt Ideal) (e := .f32) (n := 1) _ 0 (by decide)]
  rfl

end Cert.OutRefIdeal.Final

end
-- ==== Proof.Scales.lean ====
/- What the preconditions on the scales say: a scale is at least zero and finite. -/
module

public import proofs.«01_k».proof.Defs
public import proofs.«01_k».proof.Proof.Extremes

@[expose] public section

noncomputable section

namespace Cert.Common

open Idealize.ShloMosaic Idealize.SL.Sem

/-- One bit is set when both are. -/
theorem and_bits : ∀ a b : BitVec 1, a &&& b = 1#1 → a = 1#1 ∧ b = 1#1 := by decide

/-- "At least zero and less than infinity", as the preconditions ask it. -/
theorem of_comparisons (x : EReal) (h0 : Ideal.cmp .oge x (FloatOps.ofBits .f32 0x00000000#32 : Ideal .f32) = 1#1)
    (h1 : Ideal.cmp .olt x (FloatOps.ofBits .f32 0x7F800000#32 : Ideal .f32) = 1#1) : 0 ≤ x ∧ x ≠ ⊤ := by
  rw [infinity] at h1
  have z : (FloatOps.ofBits .f32 0x00000000#32 : Ideal .f32) = (0 : EReal) := by
    pointwise []
  rw [z] at h0
  unfold Ideal.cmp at h0 h1
  constructor
  · by_contra hn
    simp [hn] at h0
  · rintro rfl
    simp at h1

/-- The output projection's precondition, of the two scales it speaks of. -/
theorem out_scales (m : (ℓ : Loc Cert.OutIdeal.nD Cert.OutIdeal.τ Cert.OutIdeal.sig) → Buf (Elt Ideal) ℓ)
    (h : Cert.Pre_OutIdeal_out_scales (hPre_out_scales := ⟨⟩) m) (c : Dev Cert.OutIdeal.nD) (a b : EReal)
    (ea : a = (m ((c.tc : Thread Cert.OutIdeal.nD Cert.OutIdeal.τ).loc Cert.OutIdeal.main_arg5) : Vec Ideal ⟨0, ![]⟩ .f32) ix0)
    (eb : b = (m ((c.tc : Thread Cert.OutIdeal.nD Cert.OutIdeal.τ).loc Cert.OutIdeal.main_arg6) : Vec Ideal ⟨0, ![]⟩ .f32) ix0) :
    (0 ≤ a ∧ a ≠ ⊤) ∧ 0 ≤ b ∧ b ≠ ⊤ := by
  subst ea eb
  have h0 := congrFun (h c) ix0
  obtain ⟨h1, h2⟩ := and_bits _ _ h0
  obtain ⟨h3, h4⟩ := and_bits _ _ h1
  obtain ⟨h5, h6⟩ := and_bits _ _ h3
  exact ⟨of_comparisons _ h5 h6, of_comparisons _ h4 h2⟩

/-- The projections' backward call's precondition, of the tokens' scale and of each of the three gradients' scales. -/
theorem grad_scales (m : (ℓ : Loc Cert.GradIdeal.nD Cert.GradIdeal.τ Cert.GradIdeal.sig) → Buf (Elt Ideal) ℓ) (hF : Cert.Pre_grad_scales.Facts)
    (h : Cert.Pre_GradIdeal_grad_scales (hPre_grad_scales := hF) m) (c : Dev Cert.GradIdeal.nD) (a b : EReal) (i : Fin 3)
    (ea : a = (m ((c.tc : Thread Cert.GradIdeal.nD Cert.GradIdeal.τ).loc Cert.GradIdeal.main_arg8) : Vec Ideal ⟨0, ![]⟩ .f32) ix0)
    (eb : b = (m ((c.tc : Thread Cert.GradIdeal.nD Cert.GradIdeal.τ).loc Cert.GradIdeal.main_arg14) : Vec Ideal ⟨1, ![3]⟩ .f32) (ix1 i)) :
    (0 ≤ a ∧ a ≠ ⊤) ∧ 0 ≤ b ∧ b ≠ ⊤ := by
  subst ea eb
  have h0 := congrFun (h c).1 ix0
  have h1 := congrFun (h c).2 (ix1 i)
  obtain ⟨h2, h3⟩ := and_bits _ _ h0
  obtain ⟨h4, h5⟩ := and_bits _ _ h1
  exact ⟨of_comparisons _ h2 h3, of_comparisons _ h4 h5⟩

/-- What that precondition's operations take. -/
theorem grad_scales_facts : Cert.Pre_grad_scales.Facts := ⟨by decide⟩

end Cert.Common

end
-- ==== Proof.OutClaim.lean ====
/- The output projection and its reference end with the same two results. -/
module

public import proofs.«01_k».proof.Defs
public import proofs.«01_k».proof.Proof.OutValue
public import proofs.«01_k».proof.Proof.OutRef
public import proofs.«01_k».proof.Proof.Scales

@[expose] public section

set_option maxRecDepth 16384

noncomputable section

namespace Cert.OutIdeal.Final

open Idealize.ShloMosaic Idealize.ShloMosaic.TcCoe Idealize.SL.Sem
open Idealize.ShloMosaic.Pipeline (Dat)

/-- From equal arguments the tokens in single precision are equal. -/
theorem tokens_eq (m : (ℓ : Loc nD τ sig) → Buf (Elt Ideal) ℓ)
    (m' : (ℓ : Loc Cert.OutRefIdeal.nD Cert.OutRefIdeal.τ Cert.OutRefIdeal.sig) → Buf (Elt Ideal) ℓ) (c : Dev nD)
    (h : m' ((c.tc : Thread Cert.OutRefIdeal.nD Cert.OutRefIdeal.τ).loc Cert.OutRefIdeal.main_arg0) = m ((c.tc : Thread nD τ).loc main_arg0)) :
    Cert.OutRefIdeal.Gen.V m' c Cert.OutRefIdeal.main_v1 = xf m c := by
  rw [Cert.OutRefIdeal.Final.tokens, h]
  unfold xf
  rw [tokens]

/-- The two calls' results agree wherever their arguments do, for scales that are at least zero and finite. -/
theorem output_eq (m : (ℓ : Loc nD τ sig) → Buf (Elt Ideal) ℓ)
    (m' : (ℓ : Loc Cert.OutRefIdeal.nD Cert.OutRefIdeal.τ Cert.OutRefIdeal.sig) → Buf (Elt Ideal) ℓ) (c : Dev nD)
    (h0 : m' ((c.tc : Thread Cert.OutRefIdeal.nD Cert.OutRefIdeal.τ).loc Cert.OutRefIdeal.main_arg0) = m ((c.tc : Thread nD τ).loc main_arg0))
    (h1 : m' ((c.tc : Thread Cert.OutRefIdeal.nD Cert.OutRefIdeal.τ).loc Cert.OutRefIdeal.main_arg1) = m ((c.tc : Thread nD τ).loc main_arg1))
    (h3 : m' ((c.tc : Thread Cert.OutRefIdeal.nD Cert.OutRefIdeal.τ).loc Cert.OutRefIdeal.main_arg3) = m ((c.tc : Thread nD τ).loc main_arg3))
    (h4 : m' ((c.tc : Thread Cert.OutRefIdeal.nD Cert.OutRefIdeal.τ).loc Cert.OutRefIdeal.main_arg4) = m ((c.tc : Thread nD τ).loc main_arg4))
    (h5 : m' ((c.tc : Thread Cert.OutRefIdeal.nD Cert.OutRefIdeal.τ).loc Cert.OutRefIdeal.main_arg5) = m ((c.tc : Thread nD τ).loc main_arg5)) :
    (Cert.OutRefIdeal.Gen.dats m' 0 c).arrAt 7 Cert.OutRefIdeal.cfg0.N = (Gen.dats m 0 c).arrAt 5 cfg0.N := by
  have e1 := (Cert.OutRefIdeal.Gen.V_main_arg1 m' c).trans (h1.trans (Gen.V_main_arg1 m c).symm)
  have e3 := (Cert.OutRefIdeal.Gen.V_main_arg3 m' c).trans (h3.trans (Gen.V_main_arg3 m c).symm)
  have e4 := (Cert.OutRefIdeal.Final.scale_wo m' c).trans ((congrFun h4 ix0).trans (scale1 m c).symm)
  have e5 := (Cert.OutRefIdeal.Final.scale_ctx m' c).trans ((congrFun h5 ix0).trans (scale0 m c).symm)
  rw [Cert.OutRefIdeal.Final.output, tokens_eq m m' c h0, e1, e3, e4, e5]
  exact (output m c).symm
theorem gradient_eq (m : (ℓ : Loc nD τ sig) → Buf (Elt Ideal) ℓ)
    (m' : (ℓ : Loc Cert.OutRefIdeal.nD Cert.OutRefIdeal.τ Cert.OutRefIdeal.sig) → Buf (Elt Ideal) ℓ) (c : Dev nD)
    (hpre : Cert.Pre_OutIdeal_out_scales (hPre_out_scales := ⟨⟩) m)
    (h1 : m' ((c.tc : Thread Cert.OutRefIdeal.nD Cert.OutRefIdeal.τ).loc Cert.OutRefIdeal.main_arg1) = m ((c.tc : Thread nD τ).loc main_arg1))
    (h2 : m' ((c.tc : Thread Cert.OutRefIdeal.nD Cert.OutRefIdeal.τ).loc Cert.OutRefIdeal.main_arg2) = m ((c.tc : Thread nD τ).loc main_arg2))
    (h5 : m' ((c.tc : Thread Cert.OutRefIdeal.nD Cert.OutRefIdeal.τ).loc Cert.OutRefIdeal.main_arg5) = m ((c.tc : Thread nD τ).loc main_arg5))
    (h6 : m' ((c.tc : Thread Cert.OutRefIdeal.nD Cert.OutRefIdeal.τ).loc Cert.OutRefIdeal.main_arg6) = m ((c.tc : Thread nD τ).loc main_arg6)) :
    (Cert.OutRefIdeal.Gen.dats m' 0 c).arrAt 8 Cert.OutRefIdeal.cfg0.N = (Gen.dats m 0 c).arrAt 6 cfg0.N := by
  obtain ⟨⟨ha, ha'⟩, hb, hb'⟩ := Cert.Common.out_scales m hpre c (sCtx m c) (sDy m c) (scale0 m c) (scale2 m c)
  have e1 := (Cert.OutRefIdeal.Gen.V_main_arg1 m' c).trans (h1.trans (Gen.V_main_arg1 m c).symm)
  have e2 := (Cert.OutRefIdeal.Gen.V_main_arg2 m' c).trans (h2.trans (Gen.V_main_arg2 m c).symm)
  have e5 := (Cert.OutRefIdeal.Final.scale_ctx m' c).trans ((congrFun h5 ix0).trans (scale0 m c).symm)
  have e6 := (Cert.OutRefIdeal.Final.scale_dy m' c).trans ((congrFun h6 ix0).trans (scale2 m c).symm)
  rw [Cert.OutRefIdeal.Final.gradient, e1, e2, e5, e6]
  exact (gradient m c ha ha' hb hb').symm

theorem algebraic : Cert.algebraic_OutIdeal_OutRefIdeal_pre_out_scales (hOutIdeal := Cert.OutIdeal.Gen.facts) (hOutRefIdeal := Cert.OutRefIdeal.Gen.facts)
    (hPre_out_scales := ⟨⟩) := by
  pair_intro
  · run_from Cert.OutIdeal.Gen.run_main m g
  · run_from Cert.OutRefIdeal.Gen.run_main m' g'
    · obtain ⟨h0, h1, h2, h3, h4, h5, h6⟩ := hagree c
      exact output_eq m m' c h0 h1 h3 h4 h5
    · obtain ⟨h0, h1, h2, h3, h4, h5, h6⟩ := hagree c
      exact gradient_eq m m' c hpre h1 h2 h5 h6

end Cert.OutIdeal.Final

end
-- ==== Proof.GradRun.lean ====
/- The run of the call of the input projections' gradients as printed for the extended reals: what each grid point leaves in the output
   buffers, the proof data of the pipeline, the launch, and the frame. Everything is stated for any float values. -/
module

public import proofs.«01_k».proof.Proof.Gen.GradIdeal.Frame
public import proofs.«01_k».proof.Proof.Gen.GradIdeal.Skeleton
public import Idealize.ShloMosaic.Lib.Claim
public import proofs.«01_k».proof.Proof.Common

@[expose] public section

set_option maxRecDepth 16384
set_option maxHeartbeats 4000000

noncomputable section

namespace Cert.GradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- On whole blocks, the body leaves in the per-block outputs their payloads, and in each block that is carried from
    point to point the payload over what was there before. -/
theorem kernelRun0 (c : Dev nD) (i : grid0.Coords) (arg1 : Memref sig .tc .smem S7 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S1x2048 .f32) (harg4 : arg4.IsWhole) (arg5 : Memref sig .tc .vmem S256x2048 .fp8e4m3) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2048x1024 .fp8e4m3) (harg9 : arg9.IsWhole) (arg10 : Memref sig .tc .vmem S2048x1024 .fp8e4m3) (harg10 : arg10.IsWhole) (arg11 : Memref sig .tc .vmem S2048x1024 .fp8e4m3) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x1024 .fp8e5m2) (harg14 : arg14.IsWhole) (arg15 : Memref sig .tc .vmem S256x1024 .fp8e5m2) (harg15 : arg15.IsWhole) (arg16 : Memref sig .tc .vmem S256x1024 .fp8e5m2) (harg16 : arg16.IsWhole) (arg17 : Memref sig .tc .vmem S8x2048 .f32) (harg17 : arg17.IsWhole) (arg18 : Memref sig .tc .vmem S2048x1024 .f32) (harg18 : arg18.IsWhole) (arg19 : Memref sig .tc .vmem S2048x1024 .f32) (harg19 : arg19.IsWhole) (arg20 : Memref sig .tc .vmem S2048x1024 .f32) (harg20 : arg20.IsWhole)
    (x0 : Vec F S7 .f32) (x1 : Vec F S256x2048 .bf16) (x2 : Vec F S256x2048 .bf16) (x3 : Vec F S1x2048 .f32) (x4 : Vec F S256x2048 .fp8e4m3) (x5 : Vec F S1024x256 .f32) (x6 : Vec F S1024x256 .f32) (x7 : Vec F S1024x256 .f32) (x8 : Vec F S2048x1024 .fp8e4m3) (x9 : Vec F S2048x1024 .fp8e4m3) (x10 : Vec F S2048x1024 .fp8e4m3)
    (y16 : Vec F S8x2048 .f32) (y17 : Vec F S2048x1024 .f32) (y18 : Vec F S2048x1024 .f32) (y19 : Vec F S2048x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare y16 ∗ owns (c : Thread nD τ) arg18 fullShare y17 ∗ owns (c : Thread nD τ) arg19 fullShare y18 ∗ owns (c : Thread nD τ) arg20 fullShare y19
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare x6
              ∗ owns (c : Thread nD τ) arg8 fullShare x7
              ∗ owns (c : Thread nD τ) arg9 fullShare x8
              ∗ owns (c : Thread nD τ) arg10 fullShare x9
              ∗ owns (c : Thread nD τ) arg11 fullShare x10
              ∗ owns (c : Thread nD τ) arg12 fullShare (k0_pay2 (k0_pay12 (k0_pay8 (k0_pay5 (x0 (ix1 4)) (x0 (ix1 1)) x5 x8) (x0 (ix1 5)) (x0 (ix1 2)) x6 x9) (x0 (ix1 6)) (x0 (ix1 3)) (Scalar.ofBits .f32 0x47600000#32) (k0_pay10 (x0 (ix1 6)) x7) x10) (k0_pay15 x1) (k0_pay16 x1) x3 x2)
              ∗ owns (c : Thread nD τ) arg13 fullShare (k0_pay3 (k0_pay12 (k0_pay8 (k0_pay5 (x0 (ix1 4)) (x0 (ix1 1)) x5 x8) (x0 (ix1 5)) (x0 (ix1 2)) x6 x9) (x0 (ix1 6)) (x0 (ix1 3)) (Scalar.ofBits .f32 0x47600000#32) (k0_pay10 (x0 (ix1 6)) x7) x10))
              ∗ owns (c : Thread nD τ) arg14 fullShare (k0_pay4 (x0 (ix1 4)) x5)
              ∗ owns (c : Thread nD τ) arg15 fullShare (k0_pay7 (x0 (ix1 5)) x6)
              ∗ owns (c : Thread nD τ) arg16 fullShare (k0_pay11 (Scalar.ofBits .f32 0x47600000#32) (k0_pay10 (x0 (ix1 6)) x7))
              ∗ owns (c : Thread nD τ) arg17 fullShare (k0_pay1 (BitVec.ofNat 32 (i 0).val) (k0_pay17 (k0_pay8 (k0_pay5 (x0 (ix1 4)) (x0 (ix1 1)) x5 x8) (x0 (ix1 5)) (x0 (ix1 2)) x6 x9) (x0 (ix1 6)) (x0 (ix1 3)) (Scalar.ofBits .f32 0x47600000#32) (k0_pay10 (x0 (ix1 6)) x7) x10 x1) y16)
              ∗ owns (c : Thread nD τ) arg18 fullShare (k0_pay6 i (x0 (ix1 0)) x4 (x0 (ix1 4)) x5 y17)
              ∗ owns (c : Thread nD τ) arg19 fullShare (k0_pay9 (BitVec.ofNat 32 (i 0).val) (x0 (ix1 0)) x4 (x0 (ix1 5)) x6 y18)
              ∗ owns (c : Thread nD τ) arg20 fullShare (k0_pay13 (BitVec.ofNat 32 (i 0).val) (x0 (ix1 0)) x4 (x0 (ix1 6)) (Scalar.ofBits .f32 0x47600000#32) (k0_pay10 (x0 (ix1 6)) x7) y19)) -∗ K ⟨⟩))
          ⊢ wp frame (wpE (defs₀ (F := F)) Variants.none c none) E (cc0_proj_grads i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_proj_grads_eq_skeleton]; unfold cc0_proj_grads_skel
    simp only [k0_part1_eq_skeleton, k0_part2_eq_skeleton, k0_part3_eq_skeleton]
    unfold k0_part1_skel k0_part2_skel k0_part3_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg17.eq_unread hf16; obtain rfl := harg18.eq_unread hf17; obtain rfl := harg19.eq_unread hf18; obtain rfl := harg20.eq_unread hf19
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro
      refine (Common.read_store _ _ Common.zeros₂ _ _).trans ?_
      frame_out
      rw [Common.ld_word (Val := Elt F) (e := .f32) (n := 7) x0 1 (by decide), Common.ld_word (Val := Elt F) (e := .f32) (n := 7) x0 2 (by decide), Common.ld_word (Val := Elt F) (e := .f32) (n := 7) x0 3 (by decide), Common.ld_word (Val := Elt F) (e := .f32) (n := 7) x0 4 (by decide), Common.ld_word (Val := Elt F) (e := .f32) (n := 7) x0 5 (by decide), Common.ld_word (Val := Elt F) (e := .f32) (n := 7) x0 6 (by decide)]; rfl
    isplitl [H12]
    · iexists _; isplitr; swap; · iexact H12
      ipureintro
      refine (Common.read_store _ _ Common.zeros₂ _ _).trans ?_
      frame_out
      rw [Common.ld_word (Val := Elt F) (e := .f32) (n := 7) x0 1 (by decide), Common.ld_word (Val := Elt F) (e := .f32) (n := 7) x0 2 (by decide), Common.ld_word (Val := Elt F) (e := .f32) (n := 7) x0 3 (by decide), Common.ld_word (Val := Elt F) (e := .f32) (n := 7) x0 4 (by decide), Common.ld_word (Val := Elt F) (e := .f32) (n := 7) x0 5 (by decide), Common.ld_word (Val := Elt F) (e := .f32) (n := 7) x0 6 (by decide)]; rfl
    isplitl [H13]
    · iexists _; isplitr; swap; · iexact H13
      ipureintro
      refine (Common.read_store _ _ Common.zeros₂ _ _).trans ?_
      frame_out
      rw [Common.ld_word (Val := Elt F) (e := .f32) (n := 7) x0 4 (by decide)]; rfl
    isplitl [H14]
    · iexists _; isplitr; swap; · iexact H14
      ipureintro
      refine (Common.read_store _ _ Common.zeros₂ _ _).trans ?_
      frame_out
      rw [Common.ld_word (Val := Elt F) (e := .f32) (n := 7) x0 5 (by decide)]; rfl
    isplitl [H15]
    · iexists _; isplitr; swap; · iexact H15
      ipureintro
      refine (Common.read_store _ _ Common.zeros₂ _ _).trans ?_
      frame_out
      rw [Common.ld_word (Val := Elt F) (e := .f32) (n := 7) x0 6 (by decide)]; rfl
    isplitl [H16]
    · iexists _; isplitr; swap; · iexact H16
      ipureintro
      refine (Common.read_store _ _ Common.zeros₂ _ _).trans ?_
      frame_out
      rw [Common.ld_word (Val := Elt F) (e := .f32) (n := 7) x0 1 (by decide), Common.ld_word (Val := Elt F) (e := .f32) (n := 7) x0 2 (by decide), Common.ld_word (Val := Elt F) (e := .f32) (n := 7) x0 3 (by decide), Common.ld_word (Val := Elt F) (e := .f32) (n := 7) x0 4 (by decide), Common.ld_word (Val := Elt F) (e := .f32) (n := 7) x0 5 (by decide), Common.ld_word (Val := Elt F) (e := .f32) (n := 7) x0 6 (by decide)]; rfl
    isplitl [H17]
    · iexists _; isplitr; swap; · iexact H17
      ipureintro
      refine (Common.read_store _ _ Common.zeros₂ _ _).trans ?_
      frame_out
      rw [Common.ld_word (Val := Elt F) (e := .f32) (n := 7) x0 0 (by decide), Common.ld_word (Val := Elt F) (e := .f32) (n := 7) x0 4 (by decide)]; rfl
    isplitl [H18]
    · iexists _; isplitr; swap; · iexact H18
      ipureintro
      refine (Common.read_store _ _ Common.zeros₂ _ _).trans ?_
      frame_out
      rw [Common.ld_word (Val := Elt F) (e := .f32) (n := 7) x0 0 (by decide), Common.ld_word (Val := Elt F) (e := .f32) (n := 7) x0 5 (by decide)]; rfl
    iexists _; isplitr; swap; · iexact H19
    ipureintro
    refine (Common.read_store _ _ Common.zeros₂ _ _).trans ?_
    frame_out
    rw [Common.ld_word (Val := Elt F) (e := .f32) (n := 7) x0 0 (by decide), Common.ld_word (Val := Elt F) (e := .f32) (n := 7) x0 6 (by decide)]; rfl

/-- The grid has one axis: the coordinate is the point's number. -/
theorem coord0 : ∀ t : Fin cfg0.N, (grid0.coords t 0).val = t.val :=
  (by decide +kernel : ∀ t : Fin grid0.N, (grid0.coords t 0).val = t.val)

/-- What window 16's block holds after point `n`. -/
def acc16 (c : Dev nD) : (n : Nat) → n < cfg0.N → Vec F S8x2048 .f32
  | 0, h => k0_pay1 (BitVec.ofNat 32 ((grid0.coords ⟨0, h⟩) 0).val) (k0_pay17 (k0_pay8 (k0_pay5 ((iblk m c 0 ⟨0, h⟩ : Vec F S7 .f32) (ix1 4)) ((iblk m c 0 ⟨0, h⟩ : Vec F S7 .f32) (ix1 1)) (iblk m c 5 ⟨0, h⟩) (iblk m c 8 ⟨0, h⟩)) ((iblk m c 0 ⟨0, h⟩ : Vec F S7 .f32) (ix1 5)) ((iblk m c 0 ⟨0, h⟩ : Vec F S7 .f32) (ix1 2)) (iblk m c 6 ⟨0, h⟩) (iblk m c 9 ⟨0, h⟩)) ((iblk m c 0 ⟨0, h⟩ : Vec F S7 .f32) (ix1 6)) ((iblk m c 0 ⟨0, h⟩ : Vec F S7 .f32) (ix1 3)) (Scalar.ofBits .f32 0x47600000#32) (k0_pay10 ((iblk m c 0 ⟨0, h⟩ : Vec F S7 .f32) (ix1 6)) (iblk m c 7 ⟨0, h⟩)) (iblk m c 10 ⟨0, h⟩) (iblk m c 1 ⟨0, h⟩)) (constant S8x2048 .f32 0x00000000#32)
  | n + 1, h => k0_pay1 (BitVec.ofNat 32 ((grid0.coords ⟨n + 1, h⟩) 0).val) (k0_pay17 (k0_pay8 (k0_pay5 ((iblk m c 0 ⟨n + 1, h⟩ : Vec F S7 .f32) (ix1 4)) ((iblk m c 0 ⟨n + 1, h⟩ : Vec F S7 .f32) (ix1 1)) (iblk m c 5 ⟨n + 1, h⟩) (iblk m c 8 ⟨n + 1, h⟩)) ((iblk m c 0 ⟨n + 1, h⟩ : Vec F S7 .f32) (ix1 5)) ((iblk m c 0 ⟨n + 1, h⟩ : Vec F S7 .f32) (ix1 2)) (iblk m c 6 ⟨n + 1, h⟩) (iblk m c 9 ⟨n + 1, h⟩)) ((iblk m c 0 ⟨n + 1, h⟩ : Vec F S7 .f32) (ix1 6)) ((iblk m c 0 ⟨n + 1, h⟩ : Vec F S7 .f32) (ix1 3)) (Scalar.ofBits .f32 0x47600000#32) (k0_pay10 ((iblk m c 0 ⟨n + 1, h⟩ : Vec F S7 .f32) (ix1 6)) (iblk m c 7 ⟨n + 1, h⟩)) (iblk m c 10 ⟨n + 1, h⟩) (iblk m c 1 ⟨n + 1, h⟩)) (acc16 c n (Nat.lt_of_succ_lt h))

/-- What window 17's block holds after point `n`. -/
def acc17 (c : Dev nD) : (n : Nat) → n < cfg0.N → Vec F S2048x1024 .f32
  | 0, h => k0_pay6 (grid0.coords ⟨0, h⟩) ((iblk m c 0 ⟨0, h⟩ : Vec F S7 .f32) (ix1 0)) (iblk m c 4 ⟨0, h⟩) ((iblk m c 0 ⟨0, h⟩ : Vec F S7 .f32) (ix1 4)) (iblk m c 5 ⟨0, h⟩) (constant S2048x1024 .f32 0x00000000#32)
  | n + 1, h => k0_pay6 (grid0.coords ⟨n + 1, h⟩) ((iblk m c 0 ⟨n + 1, h⟩ : Vec F S7 .f32) (ix1 0)) (iblk m c 4 ⟨n + 1, h⟩) ((iblk m c 0 ⟨n + 1, h⟩ : Vec F S7 .f32) (ix1 4)) (iblk m c 5 ⟨n + 1, h⟩) (acc17 c n (Nat.lt_of_succ_lt h))

/-- What window 18's block holds after point `n`. -/
def acc18 (c : Dev nD) : (n : Nat) → n < cfg0.N → Vec F S2048x1024 .f32
  | 0, h => k0_pay9 (BitVec.ofNat 32 ((grid0.coords ⟨0, h⟩) 0).val) ((iblk m c 0 ⟨0, h⟩ : Vec F S7 .f32) (ix1 0)) (iblk m c 4 ⟨0, h⟩) ((iblk m c 0 ⟨0, h⟩ : Vec F S7 .f32) (ix1 5)) (iblk m c 6 ⟨0, h⟩) (constant S2048x1024 .f32 0x00000000#32)
  | n + 1, h => k0_pay9 (BitVec.ofNat 32 ((grid0.coords ⟨n + 1, h⟩) 0).val) ((iblk m c 0 ⟨n + 1, h⟩ : Vec F S7 .f32) (ix1 0)) (iblk m c 4 ⟨n + 1, h⟩) ((iblk m c 0 ⟨n + 1, h⟩ : Vec F S7 .f32) (ix1 5)) (iblk m c 6 ⟨n + 1, h⟩) (acc18 c n (Nat.lt_of_succ_lt h))

/-- What window 19's block holds after point `n`. -/
def acc19 (c : Dev nD) : (n : Nat) → n < cfg0.N → Vec F S2048x1024 .f32
  | 0, h => k0_pay13 (BitVec.ofNat 32 ((grid0.coords ⟨0, h⟩) 0).val) ((iblk m c 0 ⟨0, h⟩ : Vec F S7 .f32) (ix1 0)) (iblk m c 4 ⟨0, h⟩) ((iblk m c 0 ⟨0, h⟩ : Vec F S7 .f32) (ix1 6)) (Scalar.ofBits .f32 0x47600000#32) (k0_pay10 ((iblk m c 0 ⟨0, h⟩ : Vec F S7 .f32) (ix1 6)) (iblk m c 7 ⟨0, h⟩)) (constant S2048x1024 .f32 0x00000000#32)
  | n + 1, h => k0_pay13 (BitVec.ofNat 32 ((grid0.coords ⟨n + 1, h⟩) 0).val) ((iblk m c 0 ⟨n + 1, h⟩ : Vec F S7 .f32) (ix1 0)) (iblk m c 4 ⟨n + 1, h⟩) ((iblk m c 0 ⟨n + 1, h⟩ : Vec F S7 .f32) (ix1 6)) (Scalar.ofBits .f32 0x47600000#32) (k0_pay10 ((iblk m c 0 ⟨n + 1, h⟩ : Vec F S7 .f32) (ix1 6)) (iblk m c 7 ⟨n + 1, h⟩)) (acc19 c n (Nat.lt_of_succ_lt h))

/-- The proof data of the one pipeline on core `c`: the arrays as the region finds them; after the body at point `t`
    each input's buffer at its block, the outputs' at the payloads; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => k0_pay2 (k0_pay12 (k0_pay8 (k0_pay5 ((iblk m c 0 t : Vec F S7 .f32) (ix1 4)) ((iblk m c 0 t : Vec F S7 .f32) (ix1 1)) (iblk m c 5 t) (iblk m c 8 t)) ((iblk m c 0 t : Vec F S7 .f32) (ix1 5)) ((iblk m c 0 t : Vec F S7 .f32) (ix1 2)) (iblk m c 6 t) (iblk m c 9 t)) ((iblk m c 0 t : Vec F S7 .f32) (ix1 6)) ((iblk m c 0 t : Vec F S7 .f32) (ix1 3)) (Scalar.ofBits .f32 0x47600000#32) (k0_pay10 ((iblk m c 0 t : Vec F S7 .f32) (ix1 6)) (iblk m c 7 t)) (iblk m c 10 t)) (k0_pay15 (iblk m c 1 t)) (k0_pay16 (iblk m c 1 t)) (iblk m c 3 t) (iblk m c 2 t)
    | ⟨12, _⟩ => k0_pay3 (k0_pay12 (k0_pay8 (k0_pay5 ((iblk m c 0 t : Vec F S7 .f32) (ix1 4)) ((iblk m c 0 t : Vec F S7 .f32) (ix1 1)) (iblk m c 5 t) (iblk m c 8 t)) ((iblk m c 0 t : Vec F S7 .f32) (ix1 5)) ((iblk m c 0 t : Vec F S7 .f32) (ix1 2)) (iblk m c 6 t) (iblk m c 9 t)) ((iblk m c 0 t : Vec F S7 .f32) (ix1 6)) ((iblk m c 0 t : Vec F S7 .f32) (ix1 3)) (Scalar.ofBits .f32 0x47600000#32) (k0_pay10 ((iblk m c 0 t : Vec F S7 .f32) (ix1 6)) (iblk m c 7 t)) (iblk m c 10 t))
    | ⟨13, _⟩ => k0_pay4 ((iblk m c 0 t : Vec F S7 .f32) (ix1 4)) (iblk m c 5 t)
    | ⟨14, _⟩ => k0_pay7 ((iblk m c 0 t : Vec F S7 .f32) (ix1 5)) (iblk m c 6 t)
    | ⟨15, _⟩ => k0_pay11 (Scalar.ofBits .f32 0x47600000#32) (k0_pay10 ((iblk m c 0 t : Vec F S7 .f32) (ix1 6)) (iblk m c 7 t))
    | ⟨16, _⟩ => acc16 m c t.val t.isLt
    | ⟨17, _⟩ => acc17 m c t.val t.isLt
    | ⟨18, _⟩ => acc18 m c t.val t.isLt
    | ⟨19, _⟩ => acc19 m c t.val t.isLt
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = k0_pay2 (k0_pay12 (k0_pay8 (k0_pay5 ((iblk m c 0 t : Vec F S7 .f32) (ix1 4)) ((iblk m c 0 t : Vec F S7 .f32) (ix1 1)) (iblk m c 5 t) (iblk m c 8 t)) ((iblk m c 0 t : Vec F S7 .f32) (ix1 5)) ((iblk m c 0 t : Vec F S7 .f32) (ix1 2)) (iblk m c 6 t) (iblk m c 9 t)) ((iblk m c 0 t : Vec F S7 .f32) (ix1 6)) ((iblk m c 0 t : Vec F S7 .f32) (ix1 3)) (Scalar.ofBits .f32 0x47600000#32) (k0_pay10 ((iblk m c 0 t : Vec F S7 .f32) (ix1 6)) (iblk m c 7 t)) (iblk m c 10 t)) (k0_pay15 (iblk m c 1 t)) (k0_pay16 (iblk m c 1 t)) (iblk m c 3 t) (iblk m c 2 t) := by dsimp only [dats]
theorem after0_12 (c : Dev nD) (t : Fin cfg0.N) : (dats m 0 c).after 12 t = k0_pay3 (k0_pay12 (k0_pay8 (k0_pay5 ((iblk m c 0 t : Vec F S7 .f32) (ix1 4)) ((iblk m c 0 t : Vec F S7 .f32) (ix1 1)) (iblk m c 5 t) (iblk m c 8 t)) ((iblk m c 0 t : Vec F S7 .f32) (ix1 5)) ((iblk m c 0 t : Vec F S7 .f32) (ix1 2)) (iblk m c 6 t) (iblk m c 9 t)) ((iblk m c 0 t : Vec F S7 .f32) (ix1 6)) ((iblk m c 0 t : Vec F S7 .f32) (ix1 3)) (Scalar.ofBits .f32 0x47600000#32) (k0_pay10 ((iblk m c 0 t : Vec F S7 .f32) (ix1 6)) (iblk m c 7 t)) (iblk m c 10 t)) := by dsimp only [dats]
theorem after0_13 (c : Dev nD) (t : Fin cfg0.N) : (dats m 0 c).after 13 t = k0_pay4 ((iblk m c 0 t : Vec F S7 .f32) (ix1 4)) (iblk m c 5 t) := by dsimp only [dats]
theorem after0_14 (c : Dev nD) (t : Fin cfg0.N) : (dats m 0 c).after 14 t = k0_pay7 ((iblk m c 0 t : Vec F S7 .f32) (ix1 5)) (iblk m c 6 t) := by dsimp only [dats]
theorem after0_15 (c : Dev nD) (t : Fin cfg0.N) : (dats m 0 c).after 15 t = k0_pay11 (Scalar.ofBits .f32 0x47600000#32) (k0_pay10 ((iblk m c 0 t : Vec F S7 .f32) (ix1 6)) (iblk m c 7 t)) := by dsimp only [dats]
theorem after0_16 (c : Dev nD) (t : Fin cfg0.N) : (dats m 0 c).after 16 t = acc16 m c t.val t.isLt := by dsimp only [dats]
theorem after0_17 (c : Dev nD) (t : Fin cfg0.N) : (dats m 0 c).after 17 t = acc17 m c t.val t.isLt := by dsimp only [dats]
theorem after0_18 (c : Dev nD) (t : Fin cfg0.N) : (dats m 0 c).after 18 t = acc18 m c t.val t.isLt := by dsimp only [dats]
theorem after0_19 (c : Dev nD) (t : Fin cfg0.N) : (dats m 0 c).after 19 t = acc19 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- At the first point window 16's payload does not depend on what the block held, -/
theorem first16 (c : Dev nD) (t : Fin cfg0.N) (h : t.val = 0) (y y' : Vec F S8x2048 .f32) :
    k0_pay1 (BitVec.ofNat 32 ((grid0.coords t) 0).val) (k0_pay17 (k0_pay8 (k0_pay5 ((iblk m c 0 t : Vec F S7 .f32) (ix1 4)) ((iblk m c 0 t : Vec F S7 .f32) (ix1 1)) (iblk m c 5 t) (iblk m c 8 t)) ((iblk m c 0 t : Vec F S7 .f32) (ix1 5)) ((iblk m c 0 t : Vec F S7 .f32) (ix1 2)) (iblk m c 6 t) (iblk m c 9 t)) ((iblk m c 0 t : Vec F S7 .f32) (ix1 6)) ((iblk m c 0 t : Vec F S7 .f32) (ix1 3)) (Scalar.ofBits .f32 0x47600000#32) (k0_pay10 ((iblk m c 0 t : Vec F S7 .f32) (ix1 6)) (iblk m c 7 t)) (iblk m c 10 t) (iblk m c 1 t)) y = k0_pay1 (BitVec.ofNat 32 ((grid0.coords t) 0).val) (k0_pay17 (k0_pay8 (k0_pay5 ((iblk m c 0 t : Vec F S7 .f32) (ix1 4)) ((iblk m c 0 t : Vec F S7 .f32) (ix1 1)) (iblk m c 5 t) (iblk m c 8 t)) ((iblk m c 0 t : Vec F S7 .f32) (ix1 5)) ((iblk m c 0 t : Vec F S7 .f32) (ix1 2)) (iblk m c 6 t) (iblk m c 9 t)) ((iblk m c 0 t : Vec F S7 .f32) (ix1 6)) ((iblk m c 0 t : Vec F S7 .f32) (ix1 3)) (Scalar.ofBits .f32 0x47600000#32) (k0_pay10 ((iblk m c 0 t : Vec F S7 .f32) (ix1 6)) (iblk m c 7 t)) (iblk m c 10 t) (iblk m c 1 t)) y' := by
  unfold k0_pay1
  rw [coord0, h]
  rfl

/-- so its payload over what the buffer holds before the point is what it holds after. -/
theorem step16 (c : Dev nD) (t : Fin cfg0.N) (d) :
    k0_pay1 (BitVec.ofNat 32 ((grid0.coords t) 0).val) (k0_pay17 (k0_pay8 (k0_pay5 ((iblk m c 0 t : Vec F S7 .f32) (ix1 4)) ((iblk m c 0 t : Vec F S7 .f32) (ix1 1)) (iblk m c 5 t) (iblk m c 8 t)) ((iblk m c 0 t : Vec F S7 .f32) (ix1 5)) ((iblk m c 0 t : Vec F S7 .f32) (ix1 2)) (iblk m c 6 t) (iblk m c 9 t)) ((iblk m c 0 t : Vec F S7 .f32) (ix1 6)) ((iblk m c 0 t : Vec F S7 .f32) (ix1 3)) (Scalar.ofBits .f32 0x47600000#32) (k0_pay10 ((iblk m c 0 t : Vec F S7 .f32) (ix1 6)) (iblk m c 7 t)) (iblk m c 10 t) (iblk m c 1 t)) ((dats m 0 c).before 16 t d) = acc16 m c t.val t.isLt := by
  obtain ⟨n, hn⟩ := t
  cases n with
  | zero => exact first16 m c ⟨0, hn⟩ rfl _ _
  | succ n =>
    have hfl : (cfg0.win 16).flush ⟨n, Nat.lt_of_succ_lt hn⟩ = false := by
      rw [Bool.eq_false_iff]
      intro h
      have h1 := (flush0_16 ⟨n, Nat.lt_of_succ_lt hn⟩).mp h
      have h2 : n + 1 < 48 := lt_of_lt_of_eq hn N_0
      simp only at h1
      omega
    rw [(dats m 0 c).before_out_kept 16 rfl ⟨n + 1, hn⟩ (Nat.succ_ne_zero n) hfl (fun _ => rfl) (fun _ _ => rfl) d, after0_16]
    rfl

/-- At the first point window 17's payload does not depend on what the block held, -/
theorem first17 (c : Dev nD) (t : Fin cfg0.N) (h : t.val = 0) (y y' : Vec F S2048x1024 .f32) :
    k0_pay6 (grid0.coords t) ((iblk m c 0 t : Vec F S7 .f32) (ix1 0)) (iblk m c 4 t) ((iblk m c 0 t : Vec F S7 .f32) (ix1 4)) (iblk m c 5 t) y = k0_pay6 (grid0.coords t) ((iblk m c 0 t : Vec F S7 .f32) (ix1 0)) (iblk m c 4 t) ((iblk m c 0 t : Vec F S7 .f32) (ix1 4)) (iblk m c 5 t) y' := by
  unfold k0_pay6
  rw [coord0, h]
  rfl

/-- so its payload over what the buffer holds before the point is what it holds after. -/
theorem step17 (c : Dev nD) (t : Fin cfg0.N) (d) :
    k0_pay6 (grid0.coords t) ((iblk m c 0 t : Vec F S7 .f32) (ix1 0)) (iblk m c 4 t) ((iblk m c 0 t : Vec F S7 .f32) (ix1 4)) (iblk m c 5 t) ((dats m 0 c).before 17 t d) = acc17 m c t.val t.isLt := by
  obtain ⟨n, hn⟩ := t
  cases n with
  | zero => exact first17 m c ⟨0, hn⟩ rfl _ _
  | succ n =>
    have hfl : (cfg0.win 17).flush ⟨n, Nat.lt_of_succ_lt hn⟩ = false := by
      rw [Bool.eq_false_iff]
      intro h
      have h1 := (flush0_17 ⟨n, Nat.lt_of_succ_lt hn⟩).mp h
      have h2 : n + 1 < 48 := lt_of_lt_of_eq hn N_0
      simp only at h1
      omega
    rw [(dats m 0 c).before_out_kept 17 rfl ⟨n + 1, hn⟩ (Nat.succ_ne_zero n) hfl (fun _ => rfl) (fun _ _ => rfl) d, after0_17]
    rfl

/-- At the first point window 18's payload does not depend on what the block held, -/
theorem first18 (c : Dev nD) (t : Fin cfg0.N) (h : t.val = 0) (y y' : Vec F S2048x1024 .f32) :
    k0_pay9 (BitVec.ofNat 32 ((grid0.coords t) 0).val) ((iblk m c 0 t : Vec F S7 .f32) (ix1 0)) (iblk m c 4 t) ((iblk m c 0 t : Vec F S7 .f32) (ix1 5)) (iblk m c 6 t) y = k0_pay9 (BitVec.ofNat 32 ((grid0.coords t) 0).val) ((iblk m c 0 t : Vec F S7 .f32) (ix1 0)) (iblk m c 4 t) ((iblk m c 0 t : Vec F S7 .f32) (ix1 5)) (iblk m c 6 t) y' := by
  unfold k0_pay9
  rw [coord0, h]
  rfl

/-- so its payload over what the buffer holds before the point is what it holds after. -/
theorem step18 (c : Dev nD) (t : Fin cfg0.N) (d) :
    k0_pay9 (BitVec.ofNat 32 ((grid0.coords t) 0).val) ((iblk m c 0 t : Vec F S7 .f32) (ix1 0)) (iblk m c 4 t) ((iblk m c 0 t : Vec F S7 .f32) (ix1 5)) (iblk m c 6 t) ((dats m 0 c).before 18 t d) = acc18 m c t.val t.isLt := by
  obtain ⟨n, hn⟩ := t
  cases n with
  | zero => exact first18 m c ⟨0, hn⟩ rfl _ _
  | succ n =>
    have hfl : (cfg0.win 18).flush ⟨n, Nat.lt_of_succ_lt hn⟩ = false := by
      rw [Bool.eq_false_iff]
      intro h
      have h1 := (flush0_18 ⟨n, Nat.lt_of_succ_lt hn⟩).mp h
      have h2 : n + 1 < 48 := lt_of_lt_of_eq hn N_0
      simp only at h1
      omega
    rw [(dats m 0 c).before_out_kept 18 rfl ⟨n + 1, hn⟩ (Nat.succ_ne_zero n) hfl (fun _ => rfl) (fun _ _ => rfl) d, after0_18]
    rfl

/-- At the first point window 19's payload does not depend on what the block held, -/
theorem first19 (c : Dev nD) (t : Fin cfg0.N) (h : t.val = 0) (y y' : Vec F S2048x1024 .f32) :
    k0_pay13 (BitVec.ofNat 32 ((grid0.coords t) 0).val) ((iblk m c 0 t : Vec F S7 .f32) (ix1 0)) (iblk m c 4 t) ((iblk m c 0 t : Vec F S7 .f32) (ix1 6)) (Scalar.ofBits .f32 0x47600000#32) (k0_pay10 ((iblk m c 0 t : Vec F S7 .f32) (ix1 6)) (iblk m c 7 t)) y = k0_pay13 (BitVec.ofNat 32 ((grid0.coords t) 0).val) ((iblk m c 0 t : Vec F S7 .f32) (ix1 0)) (iblk m c 4 t) ((iblk m c 0 t : Vec F S7 .f32) (ix1 6)) (Scalar.ofBits .f32 0x47600000#32) (k0_pay10 ((iblk m c 0 t : Vec F S7 .f32) (ix1 6)) (iblk m c 7 t)) y' := by
  unfold k0_pay13
  rw [coord0, h]
  rfl

/-- so its payload over what the buffer holds before the point is what it holds after. -/
theorem step19 (c : Dev nD) (t : Fin cfg0.N) (d) :
    k0_pay13 (BitVec.ofNat 32 ((grid0.coords t) 0).val) ((iblk m c 0 t : Vec F S7 .f32) (ix1 0)) (iblk m c 4 t) ((iblk m c 0 t : Vec F S7 .f32) (ix1 6)) (Scalar.ofBits .f32 0x47600000#32) (k0_pay10 ((iblk m c 0 t : Vec F S7 .f32) (ix1 6)) (iblk m c 7 t)) ((dats m 0 c).before 19 t d) = acc19 m c t.val t.isLt := by
  obtain ⟨n, hn⟩ := t
  cases n with
  | zero => exact first19 m c ⟨0, hn⟩ rfl _ _
  | succ n =>
    have hfl : (cfg0.win 19).flush ⟨n, Nat.lt_of_succ_lt hn⟩ = false := by
      rw [Bool.eq_false_iff]
      intro h
      have h1 := (flush0_19 ⟨n, Nat.lt_of_succ_lt hn⟩).mp h
      have h2 : n + 1 < 48 := lt_of_lt_of_eq hn N_0
      simp only at h1
      omega
    rw [(dats m 0 c).before_out_kept 19 rfl ⟨n + 1, hn⟩ (Nat.succ_ne_zero n) hfl (fun _ => rfl) (fun _ _ => rfl) d, after0_19]
    rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (kernelRun0 c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 16 t d16) ((dats m 0 c).before 17 t d17) ((dats m 0 c).before 18 t d18) ((dats m 0 c).before 19 t d19) Set.univ _)
  rw [step16 m c t d16, step17 m c t d17, step18 m c t d18, step19 m c t d19]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexact H16
  isplitl [H17]; · iexact H17
  isplitl [H18]; · iexact H18
  isplitl [H19]; · iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline at what the library computes from the proof data, every other buffer as the
    host lines leave it, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) (run_main m ρ)) ((θ_run defs _ _).mono (fun _ h => h.2) (run_main_quiescent m ρ))

end Cert.GradIdeal.Gen

end
-- ==== Proof.GradBits.lean ====
/- The projections' backward call on machine words leaves its arguments as they were: its program is the one over the extended reals, at the
   other element type, so the frame shown for every element type applies. -/
module

public import proofs.«01_k».proof.Proof.Gen.Grad.Frame
public import proofs.«01_k».proof.Proof.GradRun

@[expose] public section

set_option maxRecDepth 16384
set_option maxHeartbeats 8000000

noncomputable section

namespace Cert.Grad.Gen

open Idealize.ShloMosaic Idealize.ShloMosaic.TcCoe Idealize.SL.Sem

variable {F : FTy → Type} [FloatOps F]

/-- The two programs have the same kernel body. -/
theorem bodies : (defs₀ : Defs nD τ sig (Elt F) Λ₀) = Cert.GradIdeal.defs₀ := by
  unfold defs₀ Cert.GradIdeal.defs₀
  refine congrArg Defs.onTc (funext fun l => funext fun x => ?_)
  obtain ⟨n, h⟩ := l
  cases n with
  | zero => rfl
  | succ n => exact absurd h (Nat.not_lt.2 (Nat.le_add_left _ _))

/-- Every run ends with the arguments unchanged and every semaphore at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) := by
  unfold defs
  rw [bodies]
  exact Cert.GradIdeal.Gen.frame m ρ

end Cert.Grad.Gen

end
-- ==== Proof.GradTiles.lean ====
/- What a tile of tokens holds in the projections' backward call: the same rows of the reference's own whole terms. -/
module

public import proofs.«01_k».proof.Proof.GradRun
public import proofs.«01_k».proof.Proof.Gen.GradRefIdeal.Skeleton
public import Idealize.ShloMosaic.Lib.Claim
public import Idealize.ShloMosaic.Lib.StableHlo.RunRead

@[expose] public section

set_option maxRecDepth 16384
set_option maxHeartbeats 2000000

noncomputable section

namespace Cert.GradIdeal.Final

open Idealize.ShloMosaic Idealize.ShloMosaic.TcCoe Idealize.SL.Sem
open Idealize.ShloMosaic.Pipeline (Dat)
open Cert.GradIdeal Cert.GradIdeal.Gen

variable (m : (ℓ : Loc nD τ sig) → Buf (Elt Ideal) ℓ)

/-- Which block of its array each window holds at point `t`. -/
theorem idx_val : ∀ t : Fin cfg0.N, win0_0.index t = ![0] ∧ win0_1.index t = ![t.val, 0] ∧ win0_2.index t = ![t.val, 0] ∧ win0_3.index t = ![0, 0] ∧ win0_4.index t = ![t.val, 0]
    ∧ win0_5.index t = ![0, t.val] ∧ win0_6.index t = ![0, t.val] ∧ win0_7.index t = ![0, t.val] ∧ win0_8.index t = ![0, 0] ∧ win0_9.index t = ![0, 0]
    ∧ win0_10.index t = ![0, 0] ∧ win0_11.index t = ![t.val, 0] ∧ win0_12.index t = ![t.val, 0] ∧ win0_13.index t = ![t.val, 0] ∧ win0_14.index t = ![t.val, 0]
    ∧ win0_15.index t = ![t.val, 0] ∧ win0_16.index t = ![0, 0] ∧ win0_17.index t = ![0, 0] ∧ win0_18.index t = ![0, 0] ∧ win0_19.index t = ![0, 0] :=
  (by decide +kernel : ∀ t : Fin grid0.N, _)

/-- The blocks of the untiled inputs are their arrays. -/
theorem block0 (c : Dev nD) (t : Fin cfg0.N) : iblk m c 0 t = V m c main_v8 := by blk_ext! [iblk, V, idx_val t]
theorem block3 (c : Dev nD) (t : Fin cfg0.N) : iblk m c 3 t = V m c main_v2 := by blk_ext! [iblk, V, idx_val t]
theorem block8 (c : Dev nD) (t : Fin cfg0.N) : iblk m c 8 t = V m c main_arg2 := by blk_ext! [iblk, V, idx_val t]
theorem block9 (c : Dev nD) (t : Fin cfg0.N) : iblk m c 9 t = V m c main_arg3 := by blk_ext! [iblk, V, idx_val t]
theorem block10 (c : Dev nD) (t : Fin cfg0.N) : iblk m c 10 t = V m c main_arg4 := by blk_ext! [iblk, V, idx_val t]

/-- The stacked scales, word by word. -/
theorem scale0 (c : Dev nD) : (V m c main_v8 : Vec Ideal S7 .f32) (ix1 0) = (m ((c : Thread nD τ).loc main_arg8) : Vec Ideal S_ .f32) ix0 := by
  change StableHlo.after hostOps0 (fun b => m (c, b)) (Proc.devRef .tc main_v8) (ix1 0) = _
  after_reads_simp
  pointwise []
  after_reads_simp
  pointwise []
theorem scale1 (c : Dev nD) : (V m c main_v8 : Vec Ideal S7 .f32) (ix1 1) = (m ((c : Thread nD τ).loc main_arg5) : Vec Ideal S_ .f32) ix0 := by
  change StableHlo.after hostOps0 (fun b => m (c, b)) (Proc.devRef .tc main_v8) (ix1 1) = _
  after_reads_simp
  pointwise []
  after_reads_simp
  pointwise []
theorem scale2 (c : Dev nD) : (V m c main_v8 : Vec Ideal S7 .f32) (ix1 2) = (m ((c : Thread nD τ).loc main_arg6) : Vec Ideal S_ .f32) ix0 := by
  change StableHlo.after hostOps0 (fun b => m (c, b)) (Proc.devRef .tc main_v8) (ix1 2) = _
  after_reads_simp
  pointwise []
  after_reads_simp
  pointwise []
theorem scale3 (c : Dev nD) : (V m c main_v8 : Vec Ideal S7 .f32) (ix1 3) = (m ((c : Thread nD τ).loc main_arg7) : Vec Ideal S_ .f32) ix0 := by
  change StableHlo.after hostOps0 (fun b => m (c, b)) (Proc.devRef .tc main_v8) (ix1 3) = _
  after_reads_simp
  pointwise []
  after_reads_simp
  pointwise []
theorem scale4 (c : Dev nD) : (V m c main_v8 : Vec Ideal S7 .f32) (ix1 4) = (m ((c : Thread nD τ).loc main_arg14) : Vec Ideal S3 .f32) (ix1 0) := by
  change StableHlo.after hostOps0 (fun b => m (c, b)) (Proc.devRef .tc main_v8) (ix1 4) = _
  after_reads_simp
  pointwise []
theorem scale5 (c : Dev nD) : (V m c main_v8 : Vec Ideal S7 .f32) (ix1 5) = (m ((c : Thread nD τ).loc main_arg14) : Vec Ideal S3 .f32) (ix1 1) := by
  change StableHlo.after hostOps0 (fun b => m (c, b)) (Proc.devRef .tc main_v8) (ix1 5) = _
  after_reads_simp
  pointwise []
theorem scale6 (c : Dev nD) : (V m c main_v8 : Vec Ideal S7 .f32) (ix1 6) = (m ((c : Thread nD τ).loc main_arg14) : Vec Ideal S3 .f32) (ix1 2) := by
  change StableHlo.after hostOps0 (fun b => m (c, b)) (Proc.devRef .tc main_v8) (ix1 6) = _
  after_reads_simp
  pointwise []

/-- The tokens, their cotangent and the norm's weight as the call gets them. -/
theorem tokens (c : Dev nD) : V m c main_v0
    = shapeCast S12288x2048 (m ((c : Thread nD τ).loc main_arg0) : Vec Ideal S8x1536x2048 .bf16) shapeCasts_S8x1536x2048_S12288x2048 := by
  change StableHlo.after hostOps0 (fun b => m (c, b)) (Proc.devRef .tc main_v0) = _
  after_reads_simp
  rfl
theorem cotangent (c : Dev nD) : V m c main_v1
    = shapeCast S12288x2048 (m ((c : Thread nD τ).loc main_arg9) : Vec Ideal S8x1536x2048 .bf16) shapeCasts_S8x1536x2048_S12288x2048 := by
  change StableHlo.after hostOps0 (fun b => m (c, b)) (Proc.devRef .tc main_v1) = _
  after_reads_simp
  rfl
theorem weight (c : Dev nD) : V m c main_v2
    = shapeCast S1x2048 (m ((c : Thread nD τ).loc main_arg1) : Vec Ideal S2048 .f32) shapeCasts_S2048_S1x2048 := by
  change StableHlo.after hostOps0 (fun b => m (c, b)) (Proc.devRef .tc main_v2) = _
  after_reads_simp
  rfl

/-- The call's scales: of the normalised tokens, of the three weights, of the three gradients. -/
def sXn (c : Dev nD) : Ideal .f32 := (V m c main_v8 : Vec Ideal S7 .f32) (ix1 0)
def sWq (c : Dev nD) : Ideal .f32 := (V m c main_v8 : Vec Ideal S7 .f32) (ix1 1)
def sWk (c : Dev nD) : Ideal .f32 := (V m c main_v8 : Vec Ideal S7 .f32) (ix1 2)
def sWv (c : Dev nD) : Ideal .f32 := (V m c main_v8 : Vec Ideal S7 .f32) (ix1 3)
def gQ (c : Dev nD) : Ideal .f32 := (V m c main_v8 : Vec Ideal S7 .f32) (ix1 4)
def gK (c : Dev nD) : Ideal .f32 := (V m c main_v8 : Vec Ideal S7 .f32) (ix1 5)
def gV (c : Dev nD) : Ideal .f32 := (V m c main_v8 : Vec Ideal S7 .f32) (ix1 6)

/-- The rows of a whole array that tile `s` holds. -/
def rowsOf {d : Nat} {φ : FTy} (s : Fin cfg0.N) (A : FVec Ideal ⟨2, ![12288, d]⟩ φ) : FVec Ideal ⟨2, ![256, d]⟩ φ := fun y =>
  A (ix2 ⟨s.val * 256 + (y 0).val, by have h1 : s.val < 48 := lt_of_lt_of_eq s.isLt N_0; have h2 : (y 0).val < 256 := (y 0).isLt; omega⟩ (y 1))

/-- The three quantised gradients, as the reference quantises them. -/
def dqc (c : Dev nD) : FVec Ideal S12288x1024 .fp8e5m2 := Cert.GradRefIdeal.Gen.k0_pay7 (F := Ideal) (V m c main_arg11) (gQ m c)
def dkc (c : Dev nD) : FVec Ideal S12288x1024 .fp8e5m2 := Cert.GradRefIdeal.Gen.k0_pay8 (F := Ideal) (V m c main_arg12) (gK m c)
def dvc (c : Dev nD) : FVec Ideal S12288x1024 .fp8e5m2 := Cert.GradRefIdeal.Gen.k0_pay10 (F := Ideal) (Cert.GradRefIdeal.Gen.k0_pay9 (F := Ideal) (V m c main_arg13)) (gV m c)

/-- A tile's quantised gradients are rows of the whole ones. -/
theorem q_tile (c : Dev nD) (s : Fin cfg0.N) (r : Fin 256) (R : Fin 12288) (j : Fin 1024) (e : R.val = s.val * 256 + r.val) :
    k0_pay4 (F := Ideal) (gQ m c) (iblk m c 5 s) (ix2 r j) = dqc m c (ix2 R j) := by
  pointwise [k0_pay4, dqc, Cert.GradRefIdeal.Gen.k0_pay7]
  blk_point [iblk, V, idx_val s]
theorem k_tile (c : Dev nD) (s : Fin cfg0.N) (r : Fin 256) (R : Fin 12288) (j : Fin 1024) (e : R.val = s.val * 256 + r.val) :
    k0_pay7 (F := Ideal) (gK m c) (iblk m c 6 s) (ix2 r j) = dkc m c (ix2 R j) := by
  pointwise [k0_pay7, dkc, Cert.GradRefIdeal.Gen.k0_pay8]
  blk_point [iblk, V, idx_val s]
theorem v_tile (c : Dev nD) (s : Fin cfg0.N) (r : Fin 256) (R : Fin 12288) (j : Fin 1024) (e : R.val = s.val * 256 + r.val) :
    k0_pay11 (F := Ideal) (Scalar.ofBits .f32 0x47600000#32) (k0_pay10 (F := Ideal) (gV m c) (iblk m c 7 s)) (ix2 r j) = dvc m c (ix2 R j) := by
  pointwise [k0_pay10, k0_pay11, dvc, Cert.GradRefIdeal.Gen.k0_pay9, Cert.GradRefIdeal.Gen.k0_pay10]
  blk_point [iblk, V, idx_val s]

theorem q_rows (c : Dev nD) (s : Fin cfg0.N) : k0_pay4 (F := Ideal) (gQ m c) (iblk m c 5 s) = rowsOf s (dqc m c) := by
  funext y
  idx_vars y
  exact q_tile m c s y0 _ y1 rfl
theorem k_rows (c : Dev nD) (s : Fin cfg0.N) : k0_pay7 (F := Ideal) (gK m c) (iblk m c 6 s) = rowsOf s (dkc m c) := by
  funext y
  idx_vars y
  exact k_tile m c s y0 _ y1 rfl
theorem v_rows (c : Dev nD) (s : Fin cfg0.N) :
    k0_pay11 (F := Ideal) (Scalar.ofBits .f32 0x47600000#32) (k0_pay10 (F := Ideal) (gV m c) (iblk m c 7 s)) = rowsOf s (dvc m c) := by
  funext y
  idx_vars y
  exact v_tile m c s y0 _ y1 rfl

/-- The first two terms of the normalised tokens' gradient, the third before its scales, and the whole, the reference's terms. -/
def two (c : Dev nD) : FVec Ideal S12288x2048 .f32 :=
  Cert.GradRefIdeal.Gen.k0_pay11 (F := Ideal) (dqc m c) (dkc m c) (V m c main_arg2) (gQ m c) (sWq m c) (V m c main_arg3) (gK m c) (sWk m c)
def third (c : Dev nD) : FVec Ideal S12288x2048 .f32 :=
  Cert.GradRefIdeal.Gen.k0_pay12 (F := Ideal) (Cert.GradRefIdeal.Gen.k0_pay9 (F := Ideal) (V m c main_arg13)) (gV m c) (V m c main_arg4)
def dxn (c : Dev nD) : FVec Ideal S12288x2048 .f32 :=
  Cert.GradRefIdeal.Gen.k0_pay14 (F := Ideal) (two m c) (sWv m c) (third m c) (Cert.GradRefIdeal.Gen.k0_pay13 (F := Ideal) (gV m c))

/-- The call's own term for a tile of that gradient. -/
def dxnTile (c : Dev nD) (s : Fin cfg0.N) : FVec Ideal S256x2048 .f32 :=
  k0_pay12 (F := Ideal) (k0_pay8 (F := Ideal) (k0_pay5 (F := Ideal) (gQ m c) (sWq m c) (iblk m c 5 s) (V m c main_arg2)) (gK m c) (sWk m c) (iblk m c 6 s) (V m c main_arg3))
    (gV m c) (sWv m c) (Scalar.ofBits .f32 0x47600000#32) (k0_pay10 (F := Ideal) (gV m c) (iblk m c 7 s)) (V m c main_arg4)

theorem dxn_tile (c : Dev nD) (s : Fin cfg0.N) (r : Fin 256) (R : Fin 12288) (j : Fin 2048) (e : R.val = s.val * 256 + r.val) :
    dxnTile m c s (ix2 r j) = dxn m c (ix2 R j) := by
  have eR : ∀ h, R = ⟨s.val * 256 + r.val, h⟩ := fun h => Fin.ext e
  unfold dxnTile k0_pay12 k0_pay8 k0_pay5
  rw [q_rows, k_rows, v_rows]
  pointwise [dxn, two, third, rowsOf, Cert.GradRefIdeal.Gen.k0_pay11, Cert.GradRefIdeal.Gen.k0_pay12, Cert.GradRefIdeal.Gen.k0_pay13, Cert.GradRefIdeal.Gen.k0_pay14, ← eR]
  rfl

theorem dxn_rows (c : Dev nD) (s : Fin cfg0.N) : dxnTile m c s = rowsOf s (dxn m c) := by
  funext y
  idx_vars y
  exact dxn_tile m c s y0 _ y1 rfl

/-- A tile's normalised tokens, and the reciprocals they are normalised by, are rows of the whole ones. -/
theorem rstd_tile (c : Dev nD) (s : Fin cfg0.N) (r : Fin 256) (R : Fin 12288) (j : Fin 1) (e : R.val = s.val * 256 + r.val) :
    k0_pay15 (F := Ideal) (iblk m c 1 s) (ix2 r j) = Cert.GradRefIdeal.Gen.k0_pay4 (F := Ideal) (V m c main_v0) (ix2 R j) := by
  pointwise [k0_pay15, k0_pay14, Cert.GradRefIdeal.Gen.k0_pay3, Cert.GradRefIdeal.Gen.k0_pay4]
  blk_point [iblk, V, idx_val s]
theorem xhat_tile (c : Dev nD) (s : Fin cfg0.N) (r : Fin 256) (R : Fin 12288) (j : Fin 2048) (e : R.val = s.val * 256 + r.val) :
    k0_pay16 (F := Ideal) (iblk m c 1 s) (ix2 r j) = Cert.GradRefIdeal.Gen.k0_pay5 (F := Ideal) (V m c main_v0) (ix2 R j) := by
  pointwise [k0_pay16, k0_pay15, k0_pay14, Cert.GradRefIdeal.Gen.k0_pay3, Cert.GradRefIdeal.Gen.k0_pay4, Cert.GradRefIdeal.Gen.k0_pay5]
  blk_point [iblk, V, idx_val s]
theorem rstd_rows (c : Dev nD) (s : Fin cfg0.N) :
    k0_pay15 (F := Ideal) (iblk m c 1 s) = rowsOf s (Cert.GradRefIdeal.Gen.k0_pay4 (F := Ideal) (V m c main_v0)) := by
  funext y
  idx_vars y
  exact rstd_tile m c s y0 _ y1 rfl
theorem xhat_rows (c : Dev nD) (s : Fin cfg0.N) :
    k0_pay16 (F := Ideal) (iblk m c 1 s) = rowsOf s (Cert.GradRefIdeal.Gen.k0_pay5 (F := Ideal) (V m c main_v0)) := by
  funext y
  idx_vars y
  exact xhat_tile m c s y0 _ y1 rfl

end Cert.GradIdeal.Final

end
-- ==== Proof.GradValue.lean ====
/- What the projections' backward call leaves in its five tiled arrays, as the reference's own terms over the arguments. -/
module

public import proofs.«01_k».proof.Proof.GradTiles

@[expose] public section

set_option maxRecDepth 16384
set_option maxHeartbeats 2000000

noncomputable section

namespace Cert.GradIdeal.Final

open Idealize.ShloMosaic Idealize.ShloMosaic.TcCoe Idealize.SL.Sem
open Idealize.ShloMosaic.Pipeline (Dat)
open Cert.GradIdeal Cert.GradIdeal.Gen

variable (m : (ℓ : Loc nD τ sig) → Buf (Elt Ideal) ℓ)

/-- A tile's term, under the name the tiles' lemmas give it. -/
theorem after12 (c : Dev nD) (t : Fin cfg0.N) : (dats m 0 c).after 12 t = k0_pay3 (F := Ideal) (dxnTile m c t) := by
  rw [after0_12, block0, block8, block9, block10]
  rfl
theorem after11 (c : Dev nD) (t : Fin cfg0.N) :
    (dats m 0 c).after 11 t = k0_pay2 (F := Ideal) (dxnTile m c t) (k0_pay15 (F := Ideal) (iblk m c 1 t)) (k0_pay16 (F := Ideal) (iblk m c 1 t)) (V m c main_v2) (iblk m c 2 t) := by
  rw [after0_11, block0, block3, block8, block9, block10]
  rfl

/-- The tokens' gradient. -/
theorem grad_x (c : Dev nD) :
    (dats m 0 c).arrAt 11 cfg0.N = Cert.GradRefIdeal.Gen.k0_pay1 (F := Ideal) (Cert.GradRefIdeal.Gen.k0_pay4 (F := Ideal) (V m c main_v0))
      (Cert.GradRefIdeal.Gen.k0_pay5 (F := Ideal) (V m c main_v0)) (Cert.GradRefIdeal.Gen.k0_pay6 (F := Ideal) (V m c main_v1)) (dxn m c) (V m c main_v2) := by
  refine (dats m 0 c).arrAt_eq_of_covers 11 _ (by decide +kernel) fun t hf y => ?_
  blk_simp
  rw [after11, dxn_rows, rstd_rows, xhat_rows]
  pointwise [k0_pay2, Cert.GradRefIdeal.Gen.k0_pay1, Cert.GradRefIdeal.Gen.k0_pay6, rowsOf]
  blk_point [iblk, V, idx_val t]

/-- The normalised tokens' gradient. -/
theorem grad_xn (c : Dev nD) : (dats m 0 c).arrAt 12 cfg0.N = Cert.GradRefIdeal.Gen.k0_pay2 (F := Ideal) (dxn m c) := by
  refine (dats m 0 c).arrAt_eq_of_covers 12 _ (by decide +kernel) fun t hf y => ?_
  blk_simp
  rw [after12, dxn_rows]
  pointwise [k0_pay3, Cert.GradRefIdeal.Gen.k0_pay2, rowsOf]
  blk_point [iblk, V, idx_val t]

/-- The quantised gradient of the queries. -/
theorem after13 (c : Dev nD) (t : Fin cfg0.N) : (dats m 0 c).after 13 t = k0_pay4 (F := Ideal) (gQ m c) (iblk m c 5 t) := by
  rw [after0_13, block0]
  rfl
theorem codes_q (c : Dev nD) : (dats m 0 c).arrAt 13 cfg0.N = dqc m c := by
  refine (dats m 0 c).arrAt_eq_of_covers 13 _ (by decide +kernel) fun t hf y => ?_
  blk_simp
  rw [after13, q_rows]
  pointwise [rowsOf]
  blk_point [iblk, V, idx_val t]

/-- The quantised gradient of the keys. -/
theorem after14 (c : Dev nD) (t : Fin cfg0.N) : (dats m 0 c).after 14 t = k0_pay7 (F := Ideal) (gK m c) (iblk m c 6 t) := by
  rw [after0_14, block0]
  rfl
theorem codes_k (c : Dev nD) : (dats m 0 c).arrAt 14 cfg0.N = dkc m c := by
  refine (dats m 0 c).arrAt_eq_of_covers 14 _ (by decide +kernel) fun t hf y => ?_
  blk_simp
  rw [after14, k_rows]
  pointwise [rowsOf]
  blk_point [iblk, V, idx_val t]

/-- The quantised gradient of the values. -/
theorem after15 (c : Dev nD) (t : Fin cfg0.N) : (dats m 0 c).after 15 t = k0_pay11 (F := Ideal) (Scalar.ofBits .f32 0x47600000#32) (k0_pay10 (F := Ideal) (gV m c) (iblk m c 7 t)) := by
  rw [after0_15, block0]
  rfl
theorem codes_v (c : Dev nD) : (dats m 0 c).arrAt 15 cfg0.N = dvc m c := by
  refine (dats m 0 c).arrAt_eq_of_covers 15 _ (by decide +kernel) fun t hf y => ?_
  blk_simp
  rw [after15, v_rows]
  pointwise [rowsOf]
  blk_point [iblk, V, idx_val t]

end Cert.GradIdeal.Final

end
-- ==== Proof.GradSums.lean ====
/- The three weights' gradients, summed over 48 tiles of tokens, each tile's product scaled before it is added: the
   reference's own terms, which scale the whole sum, for scales that are at least zero and finite. -/
module

public import proofs.«01_k».proof.Proof.GradTiles
public import proofs.«01_k».proof.Proof.Sums

@[expose] public section

set_option maxRecDepth 16384
set_option maxHeartbeats 1000000

noncomputable section

namespace Cert.GradIdeal.Final

open Idealize.ShloMosaic Idealize.ShloMosaic.TcCoe Idealize.SL.Sem
open Idealize.ShloMosaic.Pipeline (Dat)
open Cert.GradIdeal Cert.GradIdeal.Gen Cert.Common

variable (m : (ℓ : Loc nD τ sig) → Buf (Elt Ideal) ℓ)

/-- One tile's product with its two scales. -/
def part (x : FVec Ideal S256x2048 .fp8e4m3) (q : FVec Ideal S256x1024 .fp8e5m2) (a b : Ideal .f32) : FVec Ideal S2048x1024 .f32 :=
  mulf (mulf (matmul dot_S256x2048_S256x1024_S2048x1024_0_0_1_1_n_n none x q (constant S2048x1024 .f32 0x00000000#32))
    (broadcast S2048x1024 a)) (broadcast S2048x1024 b)

theorem point_lt (t : Fin cfg0.N) : t.val < 48 := lt_of_lt_of_eq t.isLt N_0

theorem first_word_at (t : Fin cfg0.N) :
    Scalar.cmpi .eq (BitVec.ofNat 32 (grid0.coords t 0).val) 0#32 = if t.val = 0 then 1#1 else 0#1 := by
  rw [coord0]
  exact first_word ⟨t.val, by have := point_lt t; omega⟩

/-- A block's new contents: the tile's part at the first point, the old contents and the part later. -/
def step (t : Fin cfg0.N) (x : FVec Ideal S256x2048 .fp8e4m3) (q : FVec Ideal S256x1024 .fp8e5m2) (a b : Ideal .f32) (y : Vec Ideal S2048x1024 .f32) :
    FVec Ideal S2048x1024 .f32 :=
  Scalar.select (if t.val = 0 then 1#1 else 0#1) (part x q a b) (addf (shapeCast S2048x1024 y shapeCasts_S2048x1024_S2048x1024) (part x q a b))

theorem first_step (t : Fin cfg0.N) (h : t.val = 0) (x : FVec Ideal S256x2048 .fp8e4m3) (q : FVec Ideal S256x1024 .fp8e5m2) (a b : Ideal .f32) (y : Vec Ideal S2048x1024 .f32) :
    step t x q a b y = part x q a b := by
  unfold step
  rw [if_pos h]
  rfl

theorem next_step (t : Fin cfg0.N) (h : ¬t.val = 0) (x : FVec Ideal S256x2048 .fp8e4m3) (q : FVec Ideal S256x1024 .fp8e5m2) (a b : Ideal .f32) (y : Vec Ideal S2048x1024 .f32)
    (i : S2048x1024.Idx) : step t x q a b y i = (y i + part x q a b i : EReal) := by
  unfold step
  rw [if_neg h]
  show (shapeCast S2048x1024 y shapeCasts_S2048x1024_S2048x1024 i + _ : EReal) = _
  pointwise []

/-- The call's three payloads are this step, each with its own codes. -/
theorem pay_q (t : Fin cfg0.N) (x : FVec Ideal S256x2048 .fp8e4m3) (a b : Ideal .f32) (v : Vec Ideal S1024x256 .f32) (y : Vec Ideal S2048x1024 .f32) :
    k0_pay6 (F := Ideal) (grid0.coords t) a x b v y = step t x (k0_pay4 (F := Ideal) b v) a b y := by
  unfold step
  rw [← first_word_at]
  rfl
theorem pay_k (t : Fin cfg0.N) (x : FVec Ideal S256x2048 .fp8e4m3) (a b : Ideal .f32) (v : Vec Ideal S1024x256 .f32) (y : Vec Ideal S2048x1024 .f32) :
    k0_pay9 (F := Ideal) (BitVec.ofNat 32 (grid0.coords t 0).val) a x b v y = step t x (k0_pay7 (F := Ideal) b v) a b y := by
  unfold step
  rw [← first_word_at]
  rfl
theorem pay_v (t : Fin cfg0.N) (x : FVec Ideal S256x2048 .fp8e4m3) (a b l : Ideal .f32) (v : FVec Ideal S1024x256 .f32) (y : Vec Ideal S2048x1024 .f32) :
    k0_pay13 (F := Ideal) (BitVec.ofNat 32 (grid0.coords t 0).val) a x b l v y = step t x (k0_pay11 (F := Ideal) l v) a b y := by
  unfold step
  rw [← first_word_at]
  rfl

/-- The codes of the normalised tokens: a tile, and the whole. -/
def xTile (c : Dev nD) (s : Fin cfg0.N) : FVec Ideal S256x2048 .fp8e4m3 := iblk m c 4 s
def xc (c : Dev nD) : FVec Ideal S12288x2048 .fp8e4m3 := V m c main_arg10

theorem x_tile (c : Dev nD) (s : Fin cfg0.N) (k : Fin 256) (K : Fin 12288) (j : Fin 2048) (e : K.val = s.val * 256 + k.val) :
    xTile m c s (ix2 k j) = xc m c (ix2 K j) := by
  unfold xTile xc
  blk_point [iblk, V, idx_val s]

/-- A running sum of such steps ends at the reference's term. -/
theorem summed (c : Dev nD) (f : (n : Nat) → n < cfg0.N → FVec Ideal S2048x1024 .f32) (q : FVec Ideal S12288x1024 .fp8e5m2) (b : Ideal .f32) (y0 : Vec Ideal S2048x1024 .f32)
    (h0 : ∀ h, f 0 h = step ⟨0, h⟩ (xTile m c ⟨0, h⟩) (rowsOf ⟨0, h⟩ q) (sXn m c) b y0)
    (hs : ∀ n h, f (n + 1) h = step ⟨n + 1, h⟩ (xTile m c ⟨n + 1, h⟩) (rowsOf ⟨n + 1, h⟩ q) (sXn m c) b (f n (Nat.lt_of_succ_lt h)))
    (ha : (0 : EReal) ≤ sXn m c) (ha' : sXn m c ≠ (⊤ : EReal)) (hb : (0 : EReal) ≤ b) (hb' : b ≠ (⊤ : EReal)) (h47 : 47 < cfg0.N) :
    f 47 h47 = Cert.GradRefIdeal.Gen.k0_pay15 (F := Ideal) q (xc m c) (sXn m c) b := by
  funext i
  refine (running_sum (fun n h i => f n h i) (fun s i => part (xTile m c s) (rowsOf s q) (sXn m c) b i)
    (fun h i => (congrFun (h0 h) i).trans (congrFun (first_step ⟨0, h⟩ rfl _ _ _ _ _) i))
    (fun n h i => (congrFun (hs n h) i).trans (next_step ⟨n + 1, h⟩ (Nat.succ_ne_zero n) _ _ _ _ _ i)) 47 h47 i).trans ?_
  idx_vars i
  refine tiled_product N_0 (n := 256) (T := 12288) rfl 47 rfl _ _ (fun s k => (xTile m c s (ix2 k i0) : EReal) * rowsOf s q (ix2 k i1))
    (fun k => (xc m c (ix2 k i0) : EReal) * q (ix2 k i1)) (sXn m c) b ha ha' hb hb' ?_ ?_ ?_
  · intro s k K e
    refine congrArg₂ (fun a b : EReal => a * b) (x_tile m c s k K i0 e) ?_
    exact congrArg (fun r => (q (ix2 r i1) : EReal)) (Fin.ext e.symm)
  · intro s
    pointwise [part]
  · pointwise [Cert.GradRefIdeal.Gen.k0_pay15]

/-- The queries' weight's gradient. -/
theorem total_q (c : Dev nD) (h : 47 < cfg0.N) : (dats m 0 c).arrAt 17 cfg0.N = acc17 m c 47 h := by
  refine (dats m 0 c).arrAt_eq_of_covers 17 _ (by decide +kernel) fun t hf y => ?_
  have h1 : t.val = 47 := by
    have := (flush0_17 t).mp hf
    have := point_lt t
    omega
  have h2 : ∀ n (hn : n < cfg0.N), n = 47 → acc17 m c n hn = acc17 m c 47 h := by
    rintro n hn rfl
    rfl
  blk_simp
  rw [after0_17, h2 _ _ h1]
  blk_ext [idx_val t]

theorem grad_q (c : Dev nD) (ha : (0 : EReal) ≤ sXn m c) (ha' : sXn m c ≠ (⊤ : EReal)) (hb : (0 : EReal) ≤ gQ m c) (hb' : gQ m c ≠ (⊤ : EReal)) :
    (dats m 0 c).arrAt 17 cfg0.N = Cert.GradRefIdeal.Gen.k0_pay15 (F := Ideal) (dqc m c) (xc m c) (sXn m c) (gQ m c) := by
  have h47 : 47 < cfg0.N := lt_of_lt_of_eq (by decide) N_0.symm
  refine (total_q m c h47).trans ((summed m c (acc17 m c) (dqc m c) (gQ m c) (constant (F := Ideal) S2048x1024 .f32 0x00000000#32) (fun h => ?_) (fun n h => ?_) ha ha' hb hb' h47).trans rfl)
  · rw [← q_rows, ← pay_q]
    show acc17 m c 0 h = _
    unfold acc17 gQ sXn
    rw [block0]
    rfl
  · rw [← q_rows, ← pay_q]
    show acc17 m c (n + 1) h = _
    rw [acc17]
    unfold gQ sXn
    rw [block0]
    rfl

/-- The keys' weight's gradient. -/
theorem total_k (c : Dev nD) (h : 47 < cfg0.N) : (dats m 0 c).arrAt 18 cfg0.N = acc18 m c 47 h := by
  refine (dats m 0 c).arrAt_eq_of_covers 18 _ (by decide +kernel) fun t hf y => ?_
  have h1 : t.val = 47 := by
    have := (flush0_18 t).mp hf
    have := point_lt t
    omega
  have h2 : ∀ n (hn : n < cfg0.N), n = 47 → acc18 m c n hn = acc18 m c 47 h := by
    rintro n hn rfl
    rfl
  blk_simp
  rw [after0_18, h2 _ _ h1]
  blk_ext [idx_val t]

theorem grad_k (c : Dev nD) (ha : (0 : EReal) ≤ sXn m c) (ha' : sXn m c ≠ (⊤ : EReal)) (hb : (0 : EReal) ≤ gK m c) (hb' : gK m c ≠ (⊤ : EReal)) :
    (dats m 0 c).arrAt 18 cfg0.N = Cert.GradRefIdeal.Gen.k0_pay16 (F := Ideal) (dkc m c) (xc m c) (sXn m c) (gK m c) := by
  have h47 : 47 < cfg0.N := lt_of_lt_of_eq (by decide) N_0.symm
  refine (total_k m c h47).trans ((summed m c (acc18 m c) (dkc m c) (gK m c) (constant (F := Ideal) S2048x1024 .f32 0x00000000#32) (fun h => ?_) (fun n h => ?_) ha ha' hb hb' h47).trans rfl)
  · rw [← k_rows, ← pay_k]
    show acc18 m c 0 h = _
    unfold acc18 gK sXn
    rw [block0]
    rfl
  · rw [← k_rows, ← pay_k]
    show acc18 m c (n + 1) h = _
    rw [acc18]
    unfold gK sXn
    rw [block0]
    rfl

/-- The values' weight's gradient. -/
theorem total_v (c : Dev nD) (h : 47 < cfg0.N) : (dats m 0 c).arrAt 19 cfg0.N = acc19 m c 47 h := by
  refine (dats m 0 c).arrAt_eq_of_covers 19 _ (by decide +kernel) fun t hf y => ?_
  have h1 : t.val = 47 := by
    have := (flush0_19 t).mp hf
    have := point_lt t
    omega
  have h2 : ∀ n (hn : n < cfg0.N), n = 47 → acc19 m c n hn = acc19 m c 47 h := by
    rintro n hn rfl
    rfl
  blk_simp
  rw [after0_19, h2 _ _ h1]
  blk_ext [idx_val t]

theorem grad_v (c : Dev nD) (ha : (0 : EReal) ≤ sXn m c) (ha' : sXn m c ≠ (⊤ : EReal)) (hb : (0 : EReal) ≤ gV m c) (hb' : gV m c ≠ (⊤ : EReal)) :
    (dats m 0 c).arrAt 19 cfg0.N = Cert.GradRefIdeal.Gen.k0_pay17 (F := Ideal) (dvc m c) (xc m c) (sXn m c) (gV m c) := by
  have h47 : 47 < cfg0.N := lt_of_lt_of_eq (by decide) N_0.symm
  refine (total_v m c h47).trans ((summed m c (acc19 m c) (dvc m c) (gV m c) (constant (F := Ideal) S2048x1024 .f32 0x00000000#32) (fun h => ?_) (fun n h => ?_) ha ha' hb hb' h47).trans rfl)
  · rw [← v_rows, ← pay_v]
    show acc19 m c 0 h = _
    unfold acc19 gV sXn
    rw [block0]
    rfl
  · rw [← v_rows, ← pay_v]
    show acc19 m c (n + 1) h = _
    rw [acc19]
    unfold gV sXn
    rw [block0]
    rfl

end Cert.GradIdeal.Final

end
-- ==== Proof.GradNorm.lean ====
/- The norm's weight's gradient: each tile folds its rows into eight, the tiles' folds are summed, and the host adds the
   eight rows. That is the sum over all tokens, the reference's term. -/
module

public import proofs.«01_k».proof.Proof.GradSums

@[expose] public section

set_option maxRecDepth 16384
set_option maxHeartbeats 1000000

noncomputable section

namespace Cert.GradIdeal.Final

open Idealize.ShloMosaic Idealize.ShloMosaic.TcCoe Idealize.SL.Sem
open Idealize.ShloMosaic.Pipeline (Dat)
open Cert.GradIdeal Cert.GradIdeal.Gen Cert.Common

variable (m : (ℓ : Loc nD τ sig) → Buf (Elt Ideal) ℓ)

/-- A tile's rows folded into eight: row `u` gets the rows that leave `u` when divided by eight. -/
def fold (v : FVec Ideal S256x2048 .f32) : FVec Ideal S8x2048 .f32 :=
  multiReduction .add [0] S8x2048 (shapeCast S32x8x2048 v shapeCasts_S256x2048_S32x8x2048) 0x00000000#32 reduces_S32x8x2048_S8x2048 (.inl rfl) rfl

theorem fold_eq (v : FVec Ideal S256x2048 .f32) (u : Fin 8) (j : Fin 2048) :
    fold v (ix2 u j) = ∑ k : Fin 32, (v (ix2 ⟨k.val * 8 + u.val, by omega⟩ j) : EReal) := by
  pointwise [fold]

/-- The block's new contents: the tile's fold at the first point, the old contents and the fold later. -/
theorem pay_n (t : Fin cfg0.N) (v : FVec Ideal S256x2048 .f32) (y : Vec Ideal S8x2048 .f32) :
    k0_pay1 (F := Ideal) (BitVec.ofNat 32 (grid0.coords t 0).val) v y
      = Scalar.select (if t.val = 0 then 1#1 else 0#1) (fold v) (addf (shapeCast S8x2048 y shapeCasts_S8x2048_S8x2048) (fold v)) := by
  rw [← first_word_at]
  rfl
theorem first_n (t : Fin cfg0.N) (h : t.val = 0) (v : FVec Ideal S256x2048 .f32) (y : Vec Ideal S8x2048 .f32) :
    k0_pay1 (F := Ideal) (BitVec.ofNat 32 (grid0.coords t 0).val) v y = fold v := by
  rw [pay_n, if_pos h]
  rfl
theorem next_n (t : Fin cfg0.N) (h : ¬t.val = 0) (v : FVec Ideal S256x2048 .f32) (y : Vec Ideal S8x2048 .f32) (i : S8x2048.Idx) :
    k0_pay1 (F := Ideal) (BitVec.ofNat 32 (grid0.coords t 0).val) v y i = (y i + fold v i : EReal) := by
  rw [pay_n, if_neg h]
  show (shapeCast S8x2048 y shapeCasts_S8x2048_S8x2048 i + _ : EReal) = _
  pointwise []

/-- The tokens' terms: the gradient times the normalised token. -/
def terms (c : Dev nD) : FVec Ideal S12288x2048 .f32 :=
  mulf (dxn m c) (Cert.GradRefIdeal.Gen.k0_pay5 (F := Ideal) (V m c main_v0))

/-- A tile's terms, as the call computes them, are rows of these. -/
theorem terms_rows (c : Dev nD) (s : Fin cfg0.N) : k0_pay17 (F := Ideal) (k0_pay8 (F := Ideal) (k0_pay5 (F := Ideal) (gQ m c) (sWq m c) (iblk m c 5 s) (V m c main_arg2)) (gK m c) (sWk m c) (iblk m c 6 s) (V m c main_arg3))
    (gV m c) (sWv m c) (Scalar.ofBits .f32 0x47600000#32) (k0_pay10 (F := Ideal) (gV m c) (iblk m c 7 s)) (V m c main_arg4) (iblk m c 1 s) = rowsOf s (terms m c) := by
  have e : ∀ A B : FVec Ideal S12288x2048 .f32, mulf (rowsOf s A) (rowsOf s B) = rowsOf s (mulf A B) := fun A B => rfl
  unfold terms
  rw [← e, ← dxn_rows, ← xhat_rows]
  rfl

/-- The running sum after point `n` is the sum of the folds so far. -/
theorem acc_n (c : Dev nD) (n : Nat) (h : n < cfg0.N) (i : S8x2048.Idx) :
    (acc16 m c n h i : EReal) = ∑ s ∈ Finset.univ.filter (fun s : Fin cfg0.N => s.val ≤ n), (fold (rowsOf s (terms m c)) i : EReal) :=
  running_sum (fun n h i => acc16 m c n h i) (fun s i => fold (rowsOf s (terms m c)) i)
    (fun h i => by
      rw [← terms_rows]
      unfold gQ gK gV sWq sWk sWv
      rw [← block0 m c ⟨0, h⟩, ← block8 m c ⟨0, h⟩, ← block9 m c ⟨0, h⟩, ← block10 m c ⟨0, h⟩]
      exact congrFun (first_n ⟨0, h⟩ rfl _ _) i)
    (fun n h i => by
      rw [← terms_rows]
      unfold gQ gK gV sWq sWk sWv
      rw [← block0 m c ⟨n + 1, h⟩, ← block8 m c ⟨n + 1, h⟩, ← block9 m c ⟨n + 1, h⟩, ← block10 m c ⟨n + 1, h⟩]
      exact next_n ⟨n + 1, h⟩ (Nat.succ_ne_zero n) _ _ i) n h i

theorem total_n (c : Dev nD) (h : 47 < cfg0.N) : (dats m 0 c).arrAt 16 cfg0.N = acc16 m c 47 h := by
  refine (dats m 0 c).arrAt_eq_of_covers 16 _ (by decide +kernel) fun t hf y => ?_
  have h1 : t.val = 47 := by
    have := (flush0_16 t).mp hf
    have := point_lt t
    omega
  have h2 : ∀ n (hn : n < cfg0.N), n = 47 → acc16 m c n hn = acc16 m c 47 h := by
    rintro n hn rfl
    rfl
  blk_simp
  rw [after0_16, h2 _ _ h1]
  blk_ext [idx_val t]

/-- The eight rows of the folds' sum add up to the sum over all tokens. -/
theorem eight_rows {N : Nat} (hN : N = 48) (g : Fin 12288 → EReal) (f : Fin N → Fin 256 → EReal)
    (hf : ∀ s k (K : Fin 12288), K.val = s.val * 256 + k.val → f s k = g K) :
    ∑ u : Fin 8, ∑ s ∈ Finset.univ.filter (fun s : Fin N => s.val ≤ 47), ∑ k : Fin 32, f s ⟨k.val * 8 + u.val, by omega⟩ = ∑ K : Fin 12288, g K := by
  rw [Finset.sum_comm]
  refine tiled_sum hN (n := 256) rfl 47 rfl _ f g hf fun s => ?_
  rw [Finset.sum_comm, Fin.sum_univ_tiles 32 8 rfl]

/-- The host's sum over the eight rows is the reference's sum over the tokens. -/
theorem grad_norm (c : Dev nD) :
    Host.reduceAdd ((dats m 0 c).arrAt 16 cfg0.N : FVec Ideal S8x2048 .f32) (constant (F := Ideal) S_ .f32 0x00000000#32) Gen.reducesTo_S8x2048_S2048_d0 Gen.h_S_
      = Cert.GradRefIdeal.Gen.k0_pay18 (F := Ideal) (Cert.GradRefIdeal.Gen.k0_pay5 (F := Ideal) (V m c main_v0)) (two m c) (sWv m c) (third m c)
          (Cert.GradRefIdeal.Gen.k0_pay13 (F := Ideal) (gV m c)) := by
  have h47 : 47 < cfg0.N := lt_of_lt_of_eq (by decide) N_0.symm
  rw [total_n m c h47]
  funext j
  idx_vars j
  have e : ∀ u : Fin 8, (acc16 m c 47 h47 (ix2 u j0) : EReal)
      = ∑ s ∈ Finset.univ.filter (fun s : Fin cfg0.N => s.val ≤ 47), ∑ k : Fin 32, (rowsOf s (terms m c) (ix2 ⟨k.val * 8 + u.val, by omega⟩ j0) : EReal) := fun u => by
    rw [acc_n]
    exact Finset.sum_congr rfl fun s _ => fold_eq _ u j0
  generalize acc16 m c 47 h47 = A at e
  pointwise [Cert.GradRefIdeal.Gen.k0_pay18]
  rw [Finset.sum_congr rfl fun u _ => e u]
  refine (eight_rows N_0 (fun K => (terms m c (ix2 K j0) : EReal)) (fun s k => (rowsOf s (terms m c) (ix2 k j0) : EReal)) fun s k K e => ?_).trans ?_
  · exact congrArg (fun r => (terms m c (ix2 r j0) : EReal)) (Fin.ext e.symm)
  · rfl

end Cert.GradIdeal.Final

end
-- ==== Proof.GradRef.lean ====
/- What the projections' backward reference leaves in its arrays, over its arguments. -/
module

public import proofs.«01_k».proof.Proof.Gen.GradRefIdeal.Value
public import proofs.«01_k».proof.Proof.Common
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384
set_option maxHeartbeats 4000000

noncomputable section

namespace Cert.GradRefIdeal.Final

open Idealize.ShloMosaic Idealize.ShloMosaic.TcCoe Idealize.SL.Sem
open Idealize.ShloMosaic.Pipeline (Dat)
open Cert.GradRefIdeal Cert.GradRefIdeal.Gen

variable (m : (ℓ : Loc nD τ sig) → Buf (Elt Ideal) ℓ)

/-- The one point's block of every window is its whole array. -/
theorem idx_val : ∀ t : Fin cfg0.N, win0_0.index t = ![0] ∧ win0_1.index t = ![0] ∧ win0_2.index t = ![0] ∧ win0_3.index t = ![0] ∧ win0_4.index t = ![0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0] ∧ win0_21.index t = ![0, 0] ∧ win0_22.index t = ![0, 0] ∧ win0_23.index t = ![0, 0] :=
  (by decide +kernel : ∀ t : Fin grid0.N, _)

/-- The blocks of the inputs are their arrays. -/
theorem block0 (c : Dev nD) : iblk m c 0 t0_0 = V m c main_v0 := by blk_ext! [iblk, V, idx_val t0_0]
theorem block1 (c : Dev nD) : iblk m c 1 t0_0 = V m c main_v1 := by blk_ext! [iblk, V, idx_val t0_0]
theorem block2 (c : Dev nD) : iblk m c 2 t0_0 = V m c main_v2 := by blk_ext! [iblk, V, idx_val t0_0]
theorem block3 (c : Dev nD) : iblk m c 3 t0_0 = V m c main_v3 := by blk_ext! [iblk, V, idx_val t0_0]
theorem block4 (c : Dev nD) : iblk m c 4 t0_0 = V m c main_arg14 := by blk_ext! [iblk, V, idx_val t0_0]
theorem block5 (c : Dev nD) : iblk m c 5 t0_0 = V m c main_v4 := by blk_ext! [iblk, V, idx_val t0_0]
theorem block6 (c : Dev nD) : iblk m c 6 t0_0 = V m c main_v5 := by blk_ext! [iblk, V, idx_val t0_0]
theorem block7 (c : Dev nD) : iblk m c 7 t0_0 = V m c main_arg2 := by blk_ext! [iblk, V, idx_val t0_0]
theorem block8 (c : Dev nD) : iblk m c 8 t0_0 = V m c main_arg3 := by blk_ext! [iblk, V, idx_val t0_0]
theorem block9 (c : Dev nD) : iblk m c 9 t0_0 = V m c main_arg4 := by blk_ext! [iblk, V, idx_val t0_0]
theorem block10 (c : Dev nD) : iblk m c 10 t0_0 = V m c main_v6 := by blk_ext! [iblk, V, idx_val t0_0]
theorem block11 (c : Dev nD) : iblk m c 11 t0_0 = V m c main_arg10 := by blk_ext! [iblk, V, idx_val t0_0]
theorem block12 (c : Dev nD) : iblk m c 12 t0_0 = V m c main_arg11 := by blk_ext! [iblk, V, idx_val t0_0]
theorem block13 (c : Dev nD) : iblk m c 13 t0_0 = V m c main_arg12 := by blk_ext! [iblk, V, idx_val t0_0]
theorem block14 (c : Dev nD) : iblk m c 14 t0_0 = V m c main_arg13 := by blk_ext! [iblk, V, idx_val t0_0]

/-- The scales as the host hands them over. -/
theorem scale_q (c : Dev nD) : (V m c main_v0 : Vec Ideal S1 .f32) (ix1 0) = (m ((c : Thread nD τ).loc main_arg5) : Vec Ideal S_ .f32) ix0 := by
  change StableHlo.after hostOps0 (fun b => m (c, b)) (Proc.devRef .tc main_v0) (ix1 0) = _
  after_reads_simp
  pointwise []

theorem scale_k (c : Dev nD) : (V m c main_v1 : Vec Ideal S1 .f32) (ix1 0) = (m ((c : Thread nD τ).loc main_arg6) : Vec Ideal S_ .f32) ix0 := by
  change StableHlo.after hostOps0 (fun b => m (c, b)) (Proc.devRef .tc main_v1) (ix1 0) = _
  after_reads_simp
  pointwise []

theorem scale_v (c : Dev nD) : (V m c main_v2 : Vec Ideal S1 .f32) (ix1 0) = (m ((c : Thread nD τ).loc main_arg7) : Vec Ideal S_ .f32) ix0 := by
  change StableHlo.after hostOps0 (fun b => m (c, b)) (Proc.devRef .tc main_v2) (ix1 0) = _
  after_reads_simp
  pointwise []

theorem scale_xn (c : Dev nD) : (V m c main_v3 : Vec Ideal S1 .f32) (ix1 0) = (m ((c : Thread nD τ).loc main_arg8) : Vec Ideal S_ .f32) ix0 := by
  change StableHlo.after hostOps0 (fun b => m (c, b)) (Proc.devRef .tc main_v3) (ix1 0) = _
  after_reads_simp
  pointwise []
/-- The tokens, their cotangent and the norm's weight as the host hands them over. -/
theorem tokens (c : Dev nD) : V m c main_v4 = shapeCast S12288x2048 (m ((c : Thread nD τ).loc main_arg0) : Vec Ideal S8x1536x2048 .bf16) shapeCasts_S8x1536x2048_S12288x2048 := by
  change StableHlo.after hostOps0 (fun b => m (c, b)) (Proc.devRef .tc main_v4) = _
  after_reads_simp
  rfl

theorem cotangent (c : Dev nD) : V m c main_v6 = shapeCast S12288x2048 (m ((c : Thread nD τ).loc main_arg9) : Vec Ideal S8x1536x2048 .bf16) shapeCasts_S8x1536x2048_S12288x2048 := by
  change StableHlo.after hostOps0 (fun b => m (c, b)) (Proc.devRef .tc main_v6) = _
  after_reads_simp
  rfl

theorem weight (c : Dev nD) : V m c main_v5 = shapeCast S1x2048 (m ((c : Thread nD τ).loc main_arg1) : Vec Ideal S2048 .f32) shapeCasts_S2048_S1x2048 := by
  change StableHlo.after hostOps0 (fun b => m (c, b)) (Proc.devRef .tc main_v5) = _
  after_reads_simp
  rfl

/-- The three quantised gradients. -/
def dqc (c : Dev nD) : FVec Ideal S12288x1024 .fp8e5m2 := k0_pay7 (F := Ideal) (V m c main_arg11) ((V m c main_arg14 : Vec Ideal S3 .f32) (ix1 0))
def dkc (c : Dev nD) : FVec Ideal S12288x1024 .fp8e5m2 := k0_pay8 (F := Ideal) (V m c main_arg12) ((V m c main_arg14 : Vec Ideal S3 .f32) (ix1 1))
def dvc (c : Dev nD) : FVec Ideal S12288x1024 .fp8e5m2 := k0_pay10 (F := Ideal) (k0_pay9 (F := Ideal) (V m c main_arg13)) ((V m c main_arg14 : Vec Ideal S3 .f32) (ix1 2))

/-- The first two terms of the normalised tokens' gradient, and the third before its scales. -/
def two (c : Dev nD) : FVec Ideal S12288x2048 .f32 :=
  k0_pay11 (F := Ideal) (dqc m c) (dkc m c) (V m c main_arg2) ((V m c main_arg14 : Vec Ideal S3 .f32) (ix1 0)) ((V m c main_v0 : Vec Ideal S1 .f32) (ix1 0)) (V m c main_arg3) ((V m c main_arg14 : Vec Ideal S3 .f32) (ix1 1)) ((V m c main_v1 : Vec Ideal S1 .f32) (ix1 0))
def third (c : Dev nD) : FVec Ideal S12288x2048 .f32 := k0_pay12 (F := Ideal) (k0_pay9 (F := Ideal) (V m c main_arg13)) ((V m c main_arg14 : Vec Ideal S3 .f32) (ix1 2)) (V m c main_arg4)

/-- The normalised tokens' gradient. -/
def dxn (c : Dev nD) : FVec Ideal S12288x2048 .f32 :=
  k0_pay14 (F := Ideal) (two m c) ((V m c main_v2 : Vec Ideal S1 .f32) (ix1 0)) (third m c) (k0_pay13 (F := Ideal) ((V m c main_arg14 : Vec Ideal S3 .f32) (ix1 2)))

/-- The queries' codes. -/
theorem codes_q (c : Dev nD) :
    (dats m 0 c).arrAt 17 cfg0.N = dqc m c := by
  refine (dats m 0 c).arrAt_eq_of_after_last 17 t0_0 (by decide +kernel) _ fun j => ?_
  blk_simp
  rw [after0_17]
  unfold outsAt0
  generalize hs0_4 t0_0 = h4
  generalize ms0_4 t0_0 = a4 at h4
  generalize hs0_12 t0_0 = h12
  generalize ms0_12 t0_0 = a12 at h12
  rw [block4, block12]
  frame_out
  rw [Cert.Common.ld_word (Val := Elt Ideal) (e := .f32) (n := 3) _ 0 (by decide)]
  unfold dqc
  rfl

/-- The keys' codes. -/
theorem codes_k (c : Dev nD) :
    (dats m 0 c).arrAt 18 cfg0.N = dkc m c := by
  refine (dats m 0 c).arrAt_eq_of_after_last 18 t0_0 (by decide +kernel) _ fun j => ?_
  blk_simp
  rw [after0_18]
  unfold outsAt0
  generalize hs0_4 t0_0 = h4
  generalize ms0_4 t0_0 = a4 at h4
  generalize hs0_13 t0_0 = h13
  generalize ms0_13 t0_0 = a13 at h13
  rw [block4, block13]
  frame_out
  rw [Cert.Common.ld_word (Val := Elt Ideal) (e := .f32) (n := 3) _ 1 (by decide)]
  unfold dkc
  rfl

/-- The values' codes. -/
theorem codes_v (c : Dev nD) :
    (dats m 0 c).arrAt 19 cfg0.N = dvc m c := by
  refine (dats m 0 c).arrAt_eq_of_after_last 19 t0_0 (by decide +kernel) _ fun j => ?_
  blk_simp
  rw [after0_19]
  unfold outsAt0
  generalize hs0_4 t0_0 = h4
  generalize ms0_4 t0_0 = a4 at h4
  generalize hs0_14 t0_0 = h14
  generalize ms0_14 t0_0 = a14 at h14
  rw [block4, block14]
  frame_out
  rw [Cert.Common.ld_word (Val := Elt Ideal) (e := .f32) (n := 3) _ 2 (by decide)]
  unfold dvc
  rfl

/-- The queries' weight's gradient. -/
theorem grad_q (c : Dev nD) :
    (dats m 0 c).arrAt 21 cfg0.N = k0_pay15 (F := Ideal) (dqc m c) (V m c main_arg10) ((V m c main_v3 : Vec Ideal S1 .f32) (ix1 0)) ((V m c main_arg14 : Vec Ideal S3 .f32) (ix1 0)) := by
  refine (dats m 0 c).arrAt_eq_of_after_last 21 t0_0 (by decide +kernel) _ fun j => ?_
  blk_simp
  rw [after0_21]
  unfold outsAt0
  generalize hs0_3 t0_0 = h3
  generalize ms0_3 t0_0 = a3 at h3
  generalize hs0_4 t0_0 = h4
  generalize ms0_4 t0_0 = a4 at h4
  generalize hs0_11 t0_0 = h11
  generalize ms0_11 t0_0 = a11 at h11
  generalize hs0_12 t0_0 = h12
  generalize ms0_12 t0_0 = a12 at h12
  rw [block3, block4, block11, block12]
  frame_out
  rw [Cert.Common.ld_word (Val := Elt Ideal) (e := .f32) (n := 3) _ 0 (by decide)]
  rw [Cert.Common.ld_word (Val := Elt Ideal) (e := .f32) (n := 1) _ 0 (by decide)]
  unfold dqc
  rfl

/-- The keys' weight's gradient. -/
theorem grad_k (c : Dev nD) :
    (dats m 0 c).arrAt 22 cfg0.N = k0_pay16 (F := Ideal) (dkc m c) (V m c main_arg10) ((V m c main_v3 : Vec Ideal S1 .f32) (ix1 0)) ((V m c main_arg14 : Vec Ideal S3 .f32) (ix1 1)) := by
  refine (dats m 0 c).arrAt_eq_of_after_last 22 t0_0 (by decide +kernel) _ fun j => ?_
  blk_simp
  rw [after0_22]
  unfold outsAt0
  generalize hs0_3 t0_0 = h3
  generalize ms0_3 t0_0 = a3 at h3
  generalize hs0_4 t0_0 = h4
  generalize ms0_4 t0_0 = a4 at h4
  generalize hs0_11 t0_0 = h11
  generalize ms0_11 t0_0 = a11 at h11
  generalize hs0_13 t0_0 = h13
  generalize ms0_13 t0_0 = a13 at h13
  rw [block3, block4, block11, block13]
  frame_out
  rw [Cert.Common.ld_word (Val := Elt Ideal) (e := .f32) (n := 3) _ 1 (by decide)]
  rw [Cert.Common.ld_word (Val := Elt Ideal) (e := .f32) (n := 1) _ 0 (by decide)]
  unfold dkc
  rfl

/-- The values' weight's gradient. -/
theorem grad_v (c : Dev nD) :
    (dats m 0 c).arrAt 23 cfg0.N = k0_pay17 (F := Ideal) (dvc m c) (V m c main_arg10) ((V m c main_v3 : Vec Ideal S1 .f32) (ix1 0)) ((V m c main_arg14 : Vec Ideal S3 .f32) (ix1 2)) := by
  refine (dats m 0 c).arrAt_eq_of_after_last 23 t0_0 (by decide +kernel) _ fun j => ?_
  blk_simp
  rw [after0_23]
  unfold outsAt0
  generalize hs0_3 t0_0 = h3
  generalize ms0_3 t0_0 = a3 at h3
  generalize hs0_4 t0_0 = h4
  generalize ms0_4 t0_0 = a4 at h4
  generalize hs0_11 t0_0 = h11
  generalize ms0_11 t0_0 = a11 at h11
  generalize hs0_14 t0_0 = h14
  generalize ms0_14 t0_0 = a14 at h14
  rw [block3, block4, block11, block14]
  frame_out
  rw [Cert.Common.ld_word (Val := Elt Ideal) (e := .f32) (n := 3) _ 2 (by decide)]
  rw [Cert.Common.ld_word (Val := Elt Ideal) (e := .f32) (n := 1) _ 0 (by decide)]
  unfold dvc
  rfl

/-- The normalised tokens' gradient, rounded. -/
theorem grad_xn (c : Dev nD) :
    (dats m 0 c).arrAt 16 cfg0.N = k0_pay2 (F := Ideal) (dxn m c) := by
  refine (dats m 0 c).arrAt_eq_of_after_last 16 t0_0 (by decide +kernel) _ fun j => ?_
  blk_simp
  rw [after0_16]
  unfold outsAt0
  generalize hs0_0 t0_0 = h0
  generalize ms0_0 t0_0 = a0 at h0
  generalize hs0_1 t0_0 = h1
  generalize ms0_1 t0_0 = a1 at h1
  generalize hs0_2 t0_0 = h2
  generalize ms0_2 t0_0 = a2 at h2
  generalize hs0_4 t0_0 = h4
  generalize ms0_4 t0_0 = a4 at h4
  generalize hs0_7 t0_0 = h7
  generalize ms0_7 t0_0 = a7 at h7
  generalize hs0_8 t0_0 = h8
  generalize ms0_8 t0_0 = a8 at h8
  generalize hs0_9 t0_0 = h9
  generalize ms0_9 t0_0 = a9 at h9
  generalize hs0_12 t0_0 = h12
  generalize ms0_12 t0_0 = a12 at h12
  generalize hs0_13 t0_0 = h13
  generalize ms0_13 t0_0 = a13 at h13
  generalize hs0_14 t0_0 = h14
  generalize ms0_14 t0_0 = a14 at h14
  rw [block0, block1, block2, block4, block7, block8, block9, block12, block13, block14]
  frame_out
  rw [Cert.Common.ld_word (Val := Elt Ideal) (e := .f32) (n := 3) _ 0 (by decide)]
  rw [Cert.Common.ld_word (Val := Elt Ideal) (e := .f32) (n := 1) _ 0 (by decide)]
  rw [Cert.Common.ld_word (Val := Elt Ideal) (e := .f32) (n := 3) _ 1 (by decide)]
  rw [Cert.Common.ld_word (Val := Elt Ideal) (e := .f32) (n := 1) _ 0 (by decide)]
  rw [Cert.Common.ld_word (Val := Elt Ideal) (e := .f32) (n := 3) _ 2 (by decide)]
  rw [Cert.Common.ld_word (Val := Elt Ideal) (e := .f32) (n := 1) _ 0 (by decide)]
  unfold dxn two third dqc dkc
  rfl

/-- The norm's weight's gradient. -/
theorem grad_norm (c : Dev nD) :
    (dats m 0 c).arrAt 20 cfg0.N = k0_pay18 (F := Ideal) (k0_pay5 (F := Ideal) (V m c main_v4)) (two m c) ((V m c main_v2 : Vec Ideal S1 .f32) (ix1 0)) (third m c) (k0_pay13 (F := Ideal) ((V m c main_arg14 : Vec Ideal S3 .f32) (ix1 2))) := by
  refine (dats m 0 c).arrAt_eq_of_after_last 20 t0_0 (by decide +kernel) _ fun j => ?_
  blk_simp
  rw [after0_20]
  unfold outsAt0
  generalize hs0_0 t0_0 = h0
  generalize ms0_0 t0_0 = a0 at h0
  generalize hs0_1 t0_0 = h1
  generalize ms0_1 t0_0 = a1 at h1
  generalize hs0_2 t0_0 = h2
  generalize ms0_2 t0_0 = a2 at h2
  generalize hs0_4 t0_0 = h4
  generalize ms0_4 t0_0 = a4 at h4
  generalize hs0_7 t0_0 = h7
  generalize ms0_7 t0_0 = a7 at h7
  generalize hs0_8 t0_0 = h8
  generalize ms0_8 t0_0 = a8 at h8
  generalize hs0_9 t0_0 = h9
  generalize ms0_9 t0_0 = a9 at h9
  generalize hs0_12 t0_0 = h12
  generalize ms0_12 t0_0 = a12 at h12
  generalize hs0_13 t0_0 = h13
  generalize ms0_13 t0_0 = a13 at h13
  generalize hs0_14 t0_0 = h14
  generalize ms0_14 t0_0 = a14 at h14
  generalize hs0_5 t0_0 = h5
  generalize ms0_5 t0_0 = a5 at h5
  rw [block0, block1, block2, block4, block7, block8, block9, block12, block13, block14, block5]
  frame_out
  rw [Cert.Common.ld_word (Val := Elt Ideal) (e := .f32) (n := 3) _ 0 (by decide)]
  rw [Cert.Common.ld_word (Val := Elt Ideal) (e := .f32) (n := 1) _ 0 (by decide)]
  rw [Cert.Common.ld_word (Val := Elt Ideal) (e := .f32) (n := 3) _ 1 (by decide)]
  rw [Cert.Common.ld_word (Val := Elt Ideal) (e := .f32) (n := 1) _ 0 (by decide)]
  rw [Cert.Common.ld_word (Val := Elt Ideal) (e := .f32) (n := 3) _ 2 (by decide)]
  rw [Cert.Common.ld_word (Val := Elt Ideal) (e := .f32) (n := 1) _ 0 (by decide)]
  unfold two third dqc dkc
  rfl

/-- The tokens' gradient. -/
theorem grad_x (c : Dev nD) :
    (dats m 0 c).arrAt 15 cfg0.N = k0_pay1 (F := Ideal) (k0_pay4 (F := Ideal) (V m c main_v4)) (k0_pay5 (F := Ideal) (V m c main_v4)) (k0_pay6 (F := Ideal) (V m c main_v6)) (dxn m c) (V m c main_v5) := by
  refine (dats m 0 c).arrAt_eq_of_after_last 15 t0_0 (by decide +kernel) _ fun j => ?_
  blk_simp
  rw [after0_15]
  unfold outsAt0
  generalize hs0_0 t0_0 = h0
  generalize ms0_0 t0_0 = a0 at h0
  generalize hs0_1 t0_0 = h1
  generalize ms0_1 t0_0 = a1 at h1
  generalize hs0_2 t0_0 = h2
  generalize ms0_2 t0_0 = a2 at h2
  generalize hs0_4 t0_0 = h4
  generalize ms0_4 t0_0 = a4 at h4
  generalize hs0_7 t0_0 = h7
  generalize ms0_7 t0_0 = a7 at h7
  generalize hs0_8 t0_0 = h8
  generalize ms0_8 t0_0 = a8 at h8
  generalize hs0_9 t0_0 = h9
  generalize ms0_9 t0_0 = a9 at h9
  generalize hs0_12 t0_0 = h12
  generalize ms0_12 t0_0 = a12 at h12
  generalize hs0_13 t0_0 = h13
  generalize ms0_13 t0_0 = a13 at h13
  generalize hs0_14 t0_0 = h14
  generalize ms0_14 t0_0 = a14 at h14
  generalize hs0_5 t0_0 = h5
  generalize ms0_5 t0_0 = a5 at h5
  generalize hs0_6 t0_0 = h6
  generalize ms0_6 t0_0 = a6 at h6
  generalize hs0_10 t0_0 = h10
  generalize ms0_10 t0_0 = a10 at h10
  rw [block0, block1, block2, block4, block7, block8, block9, block12, block13, block14, block5, block6, block10]
  frame_out
  rw [Cert.Common.ld_word (Val := Elt Ideal) (e := .f32) (n := 3) _ 0 (by decide)]
  rw [Cert.Common.ld_word (Val := Elt Ideal) (e := .f32) (n := 1) _ 0 (by decide)]
  rw [Cert.Common.ld_word (Val := Elt Ideal) (e := .f32) (n := 3) _ 1 (by decide)]
  rw [Cert.Common.ld_word (Val := Elt Ideal) (e := .f32) (n := 1) _ 0 (by decide)]
  rw [Cert.Common.ld_word (Val := Elt Ideal) (e := .f32) (n := 3) _ 2 (by decide)]
  rw [Cert.Common.ld_word (Val := Elt Ideal) (e := .f32) (n := 1) _ 0 (by decide)]
  unfold dxn two third dqc dkc
  rfl

end Cert.GradRefIdeal.Final

end
-- ==== Proof.GradEq.lean ====
/- From equal arguments the projections' backward call and its reference leave equal results, one lemma a result. -/
module

public import proofs.«01_k».proof.Defs
public import proofs.«01_k».proof.Proof.GradValue
public import proofs.«01_k».proof.Proof.GradNorm
public import proofs.«01_k».proof.Proof.GradRef
public import proofs.«01_k».proof.Proof.Scales

@[expose] public section

set_option maxRecDepth 16384
set_option maxHeartbeats 4000000

noncomputable section

namespace Cert.GradIdeal.Final

open Idealize.ShloMosaic Idealize.ShloMosaic.TcCoe Idealize.SL.Sem
open Idealize.ShloMosaic.Pipeline (Dat)
open Cert.Common

/-- The host's last line after the call: the sum of the eight rows. -/
theorem tail (m : (ℓ : Loc nD τ sig) → Buf (Elt Ideal) ℓ) (c : Dev nD) :
    Pipeline.afterTail₀ cfgs (Gen.dats m) 0 (Gen.V0 m) [Gen.hostOps1] c main_v10
      = Host.reduceAdd ((Gen.dats m 0 c).arrAt 16 cfg0.N : FVec Ideal S8x2048 .f32) (constant (F := Ideal) S_ .f32 0x00000000#32) Gen.reducesTo_S8x2048_S2048_d0 Gen.h_S_ := by
  unfold Pipeline.afterTail₀
  simp only [List.flatten_cons, List.flatten_nil, List.append_nil]
  after_reads_simp
  exact congrArg (fun x => Host.reduceAdd x (constant (F := Ideal) S_ .f32 0x00000000#32) Gen.reducesTo_S8x2048_S2048_d0 Gen.h_S_)
    (Pipeline.withArrays_arr spec0 (by exact (by decide : ∀ a b, Pipeline.arrRef spec0 a = Pipeline.arrRef spec0 b → a = b)) c _ _ 16)

section

variable (m : (ℓ : Loc nD τ sig) → Buf (Elt Ideal) ℓ)
    (m' : (ℓ : Loc Cert.GradRefIdeal.nD Cert.GradRefIdeal.τ Cert.GradRefIdeal.sig) → Buf (Elt Ideal) ℓ) (c : Dev nD)

/-- From equal arguments the operands of the two programs are equal. -/
theorem tokens_eq
    (h0 : m' ((c.tc : Thread Cert.GradRefIdeal.nD Cert.GradRefIdeal.τ).loc Cert.GradRefIdeal.main_arg0) = m ((c.tc : Thread nD τ).loc main_arg0)) :
    Cert.GradRefIdeal.Gen.V m' c Cert.GradRefIdeal.main_v4 = Gen.V m c main_v0 := by
  rw [Cert.GradRefIdeal.Final.tokens, tokens, h0]

theorem cotangent_eq
    (h9 : m' ((c.tc : Thread Cert.GradRefIdeal.nD Cert.GradRefIdeal.τ).loc Cert.GradRefIdeal.main_arg9) = m ((c.tc : Thread nD τ).loc main_arg9)) :
    Cert.GradRefIdeal.Gen.V m' c Cert.GradRefIdeal.main_v6 = Gen.V m c main_v1 := by
  rw [Cert.GradRefIdeal.Final.cotangent, cotangent, h9]

theorem weight_eq
    (h1 : m' ((c.tc : Thread Cert.GradRefIdeal.nD Cert.GradRefIdeal.τ).loc Cert.GradRefIdeal.main_arg1) = m ((c.tc : Thread nD τ).loc main_arg1)) :
    Cert.GradRefIdeal.Gen.V m' c Cert.GradRefIdeal.main_v5 = Gen.V m c main_v2 := by
  rw [Cert.GradRefIdeal.Final.weight, weight, h1]

theorem scale_xn_eq
    (h8 : m' ((c.tc : Thread Cert.GradRefIdeal.nD Cert.GradRefIdeal.τ).loc Cert.GradRefIdeal.main_arg8) = m ((c.tc : Thread nD τ).loc main_arg8)) :
    (Cert.GradRefIdeal.Gen.V m' c Cert.GradRefIdeal.main_v3 : Vec Ideal Cert.GradRefIdeal.S1 .f32) (ix1 0) = sXn m c := by
  exact (Cert.GradRefIdeal.Final.scale_xn m' c).trans ((congrFun h8 ix0).trans (scale0 m c).symm)

theorem scale_q_eq
    (h5 : m' ((c.tc : Thread Cert.GradRefIdeal.nD Cert.GradRefIdeal.τ).loc Cert.GradRefIdeal.main_arg5) = m ((c.tc : Thread nD τ).loc main_arg5)) :
    (Cert.GradRefIdeal.Gen.V m' c Cert.GradRefIdeal.main_v0 : Vec Ideal Cert.GradRefIdeal.S1 .f32) (ix1 0) = sWq m c := by
  exact (Cert.GradRefIdeal.Final.scale_q m' c).trans ((congrFun h5 ix0).trans (scale1 m c).symm)

theorem scale_k_eq
    (h6 : m' ((c.tc : Thread Cert.GradRefIdeal.nD Cert.GradRefIdeal.τ).loc Cert.GradRefIdeal.main_arg6) = m ((c.tc : Thread nD τ).loc main_arg6)) :
    (Cert.GradRefIdeal.Gen.V m' c Cert.GradRefIdeal.main_v1 : Vec Ideal Cert.GradRefIdeal.S1 .f32) (ix1 0) = sWk m c := by
  exact (Cert.GradRefIdeal.Final.scale_k m' c).trans ((congrFun h6 ix0).trans (scale2 m c).symm)

theorem scale_v_eq
    (h7 : m' ((c.tc : Thread Cert.GradRefIdeal.nD Cert.GradRefIdeal.τ).loc Cert.GradRefIdeal.main_arg7) = m ((c.tc : Thread nD τ).loc main_arg7)) :
    (Cert.GradRefIdeal.Gen.V m' c Cert.GradRefIdeal.main_v2 : Vec Ideal Cert.GradRefIdeal.S1 .f32) (ix1 0) = sWv m c := by
  exact (Cert.GradRefIdeal.Final.scale_v m' c).trans ((congrFun h7 ix0).trans (scale3 m c).symm)

theorem grad_scale_q_eq
    (h14 : m' ((c.tc : Thread Cert.GradRefIdeal.nD Cert.GradRefIdeal.τ).loc Cert.GradRefIdeal.main_arg14) = m ((c.tc : Thread nD τ).loc main_arg14)) :
    (Cert.GradRefIdeal.Gen.V m' c Cert.GradRefIdeal.main_arg14 : Vec Ideal Cert.GradRefIdeal.S3 .f32) (ix1 0) = gQ m c := by
  exact (congrFun ((Cert.GradRefIdeal.Gen.V_main_arg14 m' c).trans h14) (ix1 0)).trans (scale4 m c).symm

theorem grad_scale_k_eq
    (h14 : m' ((c.tc : Thread Cert.GradRefIdeal.nD Cert.GradRefIdeal.τ).loc Cert.GradRefIdeal.main_arg14) = m ((c.tc : Thread nD τ).loc main_arg14)) :
    (Cert.GradRefIdeal.Gen.V m' c Cert.GradRefIdeal.main_arg14 : Vec Ideal Cert.GradRefIdeal.S3 .f32) (ix1 1) = gK m c := by
  exact (congrFun ((Cert.GradRefIdeal.Gen.V_main_arg14 m' c).trans h14) (ix1 1)).trans (scale5 m c).symm

theorem grad_scale_v_eq
    (h14 : m' ((c.tc : Thread Cert.GradRefIdeal.nD Cert.GradRefIdeal.τ).loc Cert.GradRefIdeal.main_arg14) = m ((c.tc : Thread nD τ).loc main_arg14)) :
    (Cert.GradRefIdeal.Gen.V m' c Cert.GradRefIdeal.main_arg14 : Vec Ideal Cert.GradRefIdeal.S3 .f32) (ix1 2) = gV m c := by
  exact (congrFun ((Cert.GradRefIdeal.Gen.V_main_arg14 m' c).trans h14) (ix1 2)).trans (scale6 m c).symm

/-- Hence the whole terms are. -/
theorem dqc_eq
    (h11 : m' ((c.tc : Thread Cert.GradRefIdeal.nD Cert.GradRefIdeal.τ).loc Cert.GradRefIdeal.main_arg11) = m ((c.tc : Thread nD τ).loc main_arg11))
    (h14 : m' ((c.tc : Thread Cert.GradRefIdeal.nD Cert.GradRefIdeal.τ).loc Cert.GradRefIdeal.main_arg14) = m ((c.tc : Thread nD τ).loc main_arg14)) :
    Cert.GradRefIdeal.Final.dqc m' c = dqc m c := by
  have e11 := (Cert.GradRefIdeal.Gen.V_main_arg11 m' c).trans (h11.trans (Gen.V_main_arg11 m c).symm)
  unfold Cert.GradRefIdeal.Final.dqc dqc
  rw [e11, grad_scale_q_eq m m' c h14]

theorem dkc_eq
    (h12 : m' ((c.tc : Thread Cert.GradRefIdeal.nD Cert.GradRefIdeal.τ).loc Cert.GradRefIdeal.main_arg12) = m ((c.tc : Thread nD τ).loc main_arg12))
    (h14 : m' ((c.tc : Thread Cert.GradRefIdeal.nD Cert.GradRefIdeal.τ).loc Cert.GradRefIdeal.main_arg14) = m ((c.tc : Thread nD τ).loc main_arg14)) :
    Cert.GradRefIdeal.Final.dkc m' c = dkc m c := by
  have e12 := (Cert.GradRefIdeal.Gen.V_main_arg12 m' c).trans (h12.trans (Gen.V_main_arg12 m c).symm)
  unfold Cert.GradRefIdeal.Final.dkc dkc
  rw [e12, grad_scale_k_eq m m' c h14]

theorem dvc_eq
    (h13 : m' ((c.tc : Thread Cert.GradRefIdeal.nD Cert.GradRefIdeal.τ).loc Cert.GradRefIdeal.main_arg13) = m ((c.tc : Thread nD τ).loc main_arg13))
    (h14 : m' ((c.tc : Thread Cert.GradRefIdeal.nD Cert.GradRefIdeal.τ).loc Cert.GradRefIdeal.main_arg14) = m ((c.tc : Thread nD τ).loc main_arg14)) :
    Cert.GradRefIdeal.Final.dvc m' c = dvc m c := by
  have e13 := (Cert.GradRefIdeal.Gen.V_main_arg13 m' c).trans (h13.trans (Gen.V_main_arg13 m c).symm)
  unfold Cert.GradRefIdeal.Final.dvc dvc
  rw [e13, grad_scale_v_eq m m' c h14]

theorem two_eq
    (h2 : m' ((c.tc : Thread Cert.GradRefIdeal.nD Cert.GradRefIdeal.τ).loc Cert.GradRefIdeal.main_arg2) = m ((c.tc : Thread nD τ).loc main_arg2))
    (h3 : m' ((c.tc : Thread Cert.GradRefIdeal.nD Cert.GradRefIdeal.τ).loc Cert.GradRefIdeal.main_arg3) = m ((c.tc : Thread nD τ).loc main_arg3))
    (h5 : m' ((c.tc : Thread Cert.GradRefIdeal.nD Cert.GradRefIdeal.τ).loc Cert.GradRefIdeal.main_arg5) = m ((c.tc : Thread nD τ).loc main_arg5))
    (h6 : m' ((c.tc : Thread Cert.GradRefIdeal.nD Cert.GradRefIdeal.τ).loc Cert.GradRefIdeal.main_arg6) = m ((c.tc : Thread nD τ).loc main_arg6))
    (h11 : m' ((c.tc : Thread Cert.GradRefIdeal.nD Cert.GradRefIdeal.τ).loc Cert.GradRefIdeal.main_arg11) = m ((c.tc : Thread nD τ).loc main_arg11))
    (h12 : m' ((c.tc : Thread Cert.GradRefIdeal.nD Cert.GradRefIdeal.τ).loc Cert.GradRefIdeal.main_arg12) = m ((c.tc : Thread nD τ).loc main_arg12))
    (h14 : m' ((c.tc : Thread Cert.GradRefIdeal.nD Cert.GradRefIdeal.τ).loc Cert.GradRefIdeal.main_arg14) = m ((c.tc : Thread nD τ).loc main_arg14)) :
    Cert.GradRefIdeal.Final.two m' c = two m c := by
  have e2 := (Cert.GradRefIdeal.Gen.V_main_arg2 m' c).trans (h2.trans (Gen.V_main_arg2 m c).symm)
  have e3 := (Cert.GradRefIdeal.Gen.V_main_arg3 m' c).trans (h3.trans (Gen.V_main_arg3 m c).symm)
  unfold Cert.GradRefIdeal.Final.two two
  rw [dqc_eq m m' c h11 h14, dkc_eq m m' c h12 h14, e2, e3, grad_scale_q_eq m m' c h14, grad_scale_k_eq m m' c h14, scale_q_eq m m' c h5, scale_k_eq m m' c h6]

theorem third_eq
    (h4 : m' ((c.tc : Thread Cert.GradRefIdeal.nD Cert.GradRefIdeal.τ).loc Cert.GradRefIdeal.main_arg4) = m ((c.tc : Thread nD τ).loc main_arg4))
    (h13 : m' ((c.tc : Thread Cert.GradRefIdeal.nD Cert.GradRefIdeal.τ).loc Cert.GradRefIdeal.main_arg13) = m ((c.tc : Thread nD τ).loc main_arg13))
    (h14 : m' ((c.tc : Thread Cert.GradRefIdeal.nD Cert.GradRefIdeal.τ).loc Cert.GradRefIdeal.main_arg14) = m ((c.tc : Thread nD τ).loc main_arg14)) :
    Cert.GradRefIdeal.Final.third m' c = third m c := by
  have e4 := (Cert.GradRefIdeal.Gen.V_main_arg4 m' c).trans (h4.trans (Gen.V_main_arg4 m c).symm)
  have e13 := (Cert.GradRefIdeal.Gen.V_main_arg13 m' c).trans (h13.trans (Gen.V_main_arg13 m c).symm)
  unfold Cert.GradRefIdeal.Final.third third
  rw [e4, e13, grad_scale_v_eq m m' c h14]

theorem dxn_eq
    (h2 : m' ((c.tc : Thread Cert.GradRefIdeal.nD Cert.GradRefIdeal.τ).loc Cert.GradRefIdeal.main_arg2) = m ((c.tc : Thread nD τ).loc main_arg2))
    (h3 : m' ((c.tc : Thread Cert.GradRefIdeal.nD Cert.GradRefIdeal.τ).loc Cert.GradRefIdeal.main_arg3) = m ((c.tc : Thread nD τ).loc main_arg3))
    (h4 : m' ((c.tc : Thread Cert.GradRefIdeal.nD Cert.GradRefIdeal.τ).loc Cert.GradRefIdeal.main_arg4) = m ((c.tc : Thread nD τ).loc main_arg4))
    (h5 : m' ((c.tc : Thread Cert.GradRefIdeal.nD Cert.GradRefIdeal.τ).loc Cert.GradRefIdeal.main_arg5) = m ((c.tc : Thread nD τ).loc main_arg5))
    (h6 : m' ((c.tc : Thread Cert.GradRefIdeal.nD Cert.GradRefIdeal.τ).loc Cert.GradRefIdeal.main_arg6) = m ((c.tc : Thread nD τ).loc main_arg6))
    (h7 : m' ((c.tc : Thread Cert.GradRefIdeal.nD Cert.GradRefIdeal.τ).loc Cert.GradRefIdeal.main_arg7) = m ((c.tc : Thread nD τ).loc main_arg7))
    (h11 : m' ((c.tc : Thread Cert.GradRefIdeal.nD Cert.GradRefIdeal.τ).loc Cert.GradRefIdeal.main_arg11) = m ((c.tc : Thread nD τ).loc main_arg11))
    (h12 : m' ((c.tc : Thread Cert.GradRefIdeal.nD Cert.GradRefIdeal.τ).loc Cert.GradRefIdeal.main_arg12) = m ((c.tc : Thread nD τ).loc main_arg12))
    (h13 : m' ((c.tc : Thread Cert.GradRefIdeal.nD Cert.GradRefIdeal.τ).loc Cert.GradRefIdeal.main_arg13) = m ((c.tc : Thread nD τ).loc main_arg13))
    (h14 : m' ((c.tc : Thread Cert.GradRefIdeal.nD Cert.GradRefIdeal.τ).loc Cert.GradRefIdeal.main_arg14) = m ((c.tc : Thread nD τ).loc main_arg14)) :
    Cert.GradRefIdeal.Final.dxn m' c = dxn m c := by
  unfold Cert.GradRefIdeal.Final.dxn dxn
  rw [two_eq m m' c h2 h3 h5 h6 h11 h12 h14, third_eq m m' c h4 h13 h14, grad_scale_v_eq m m' c h14, scale_v_eq m m' c h7]

/-- And the results. -/
theorem grad_x_eq
    (h0 : m' ((c.tc : Thread Cert.GradRefIdeal.nD Cert.GradRefIdeal.τ).loc Cert.GradRefIdeal.main_arg0) = m ((c.tc : Thread nD τ).loc main_arg0))
    (h1 : m' ((c.tc : Thread Cert.GradRefIdeal.nD Cert.GradRefIdeal.τ).loc Cert.GradRefIdeal.main_arg1) = m ((c.tc : Thread nD τ).loc main_arg1))
    (h9 : m' ((c.tc : Thread Cert.GradRefIdeal.nD Cert.GradRefIdeal.τ).loc Cert.GradRefIdeal.main_arg9) = m ((c.tc : Thread nD τ).loc main_arg9))
    (h2 : m' ((c.tc : Thread Cert.GradRefIdeal.nD Cert.GradRefIdeal.τ).loc Cert.GradRefIdeal.main_arg2) = m ((c.tc : Thread nD τ).loc main_arg2))
    (h3 : m' ((c.tc : Thread Cert.GradRefIdeal.nD Cert.GradRefIdeal.τ).loc Cert.GradRefIdeal.main_arg3) = m ((c.tc : Thread nD τ).loc main_arg3))
    (h4 : m' ((c.tc : Thread Cert.GradRefIdeal.nD Cert.GradRefIdeal.τ).loc Cert.GradRefIdeal.main_arg4) = m ((c.tc : Thread nD τ).loc main_arg4))
    (h5 : m' ((c.tc : Thread Cert.GradRefIdeal.nD Cert.GradRefIdeal.τ).loc Cert.GradRefIdeal.main_arg5) = m ((c.tc : Thread nD τ).loc main_arg5))
    (h6 : m' ((c.tc : Thread Cert.GradRefIdeal.nD Cert.GradRefIdeal.τ).loc Cert.GradRefIdeal.main_arg6) = m ((c.tc : Thread nD τ).loc main_arg6))
    (h7 : m' ((c.tc : Thread Cert.GradRefIdeal.nD Cert.GradRefIdeal.τ).loc Cert.GradRefIdeal.main_arg7) = m ((c.tc : Thread nD τ).loc main_arg7))
    (h11 : m' ((c.tc : Thread Cert.GradRefIdeal.nD Cert.GradRefIdeal.τ).loc Cert.GradRefIdeal.main_arg11) = m ((c.tc : Thread nD τ).loc main_arg11))
    (h12 : m' ((c.tc : Thread Cert.GradRefIdeal.nD Cert.GradRefIdeal.τ).loc Cert.GradRefIdeal.main_arg12) = m ((c.tc : Thread nD τ).loc main_arg12))
    (h13 : m' ((c.tc : Thread Cert.GradRefIdeal.nD Cert.GradRefIdeal.τ).loc Cert.GradRefIdeal.main_arg13) = m ((c.tc : Thread nD τ).loc main_arg13))
    (h14 : m' ((c.tc : Thread Cert.GradRefIdeal.nD Cert.GradRefIdeal.τ).loc Cert.GradRefIdeal.main_arg14) = m ((c.tc : Thread nD τ).loc main_arg14)) :
    (Cert.GradRefIdeal.Gen.dats m' 0 c).arrAt 15 Cert.GradRefIdeal.cfg0.N = (Gen.dats m 0 c).arrAt 11 cfg0.N := by
  rw [Cert.GradRefIdeal.Final.grad_x, grad_x, tokens_eq m m' c h0, cotangent_eq m m' c h9, weight_eq m m' c h1, dxn_eq m m' c h2 h3 h4 h5 h6 h7 h11 h12 h13 h14]

theorem grad_xn_eq
    (h2 : m' ((c.tc : Thread Cert.GradRefIdeal.nD Cert.GradRefIdeal.τ).loc Cert.GradRefIdeal.main_arg2) = m ((c.tc : Thread nD τ).loc main_arg2))
    (h3 : m' ((c.tc : Thread Cert.GradRefIdeal.nD Cert.GradRefIdeal.τ).loc Cert.GradRefIdeal.main_arg3) = m ((c.tc : Thread nD τ).loc main_arg3))
    (h4 : m' ((c.tc : Thread Cert.GradRefIdeal.nD Cert.GradRefIdeal.τ).loc Cert.GradRefIdeal.main_arg4) = m ((c.tc : Thread nD τ).loc main_arg4))
    (h5 : m' ((c.tc : Thread Cert.GradRefIdeal.nD Cert.GradRefIdeal.τ).loc Cert.GradRefIdeal.main_arg5) = m ((c.tc : Thread nD τ).loc main_arg5))
    (h6 : m' ((c.tc : Thread Cert.GradRefIdeal.nD Cert.GradRefIdeal.τ).loc Cert.GradRefIdeal.main_arg6) = m ((c.tc : Thread nD τ).loc main_arg6))
    (h7 : m' ((c.tc : Thread Cert.GradRefIdeal.nD Cert.GradRefIdeal.τ).loc Cert.GradRefIdeal.main_arg7) = m ((c.tc : Thread nD τ).loc main_arg7))
    (h11 : m' ((c.tc : Thread Cert.GradRefIdeal.nD Cert.GradRefIdeal.τ).loc Cert.GradRefIdeal.main_arg11) = m ((c.tc : Thread nD τ).loc main_arg11))
    (h12 : m' ((c.tc : Thread Cert.GradRefIdeal.nD Cert.GradRefIdeal.τ).loc Cert.GradRefIdeal.main_arg12) = m ((c.tc : Thread nD τ).loc main_arg12))
    (h13 : m' ((c.tc : Thread Cert.GradRefIdeal.nD Cert.GradRefIdeal.τ).loc Cert.GradRefIdeal.main_arg13) = m ((c.tc : Thread nD τ).loc main_arg13))
    (h14 : m' ((c.tc : Thread Cert.GradRefIdeal.nD Cert.GradRefIdeal.τ).loc Cert.GradRefIdeal.main_arg14) = m ((c.tc : Thread nD τ).loc main_arg14)) :
    (Cert.GradRefIdeal.Gen.dats m' 0 c).arrAt 16 Cert.GradRefIdeal.cfg0.N = (Gen.dats m 0 c).arrAt 12 cfg0.N := by
  rw [Cert.GradRefIdeal.Final.grad_xn, grad_xn, dxn_eq m m' c h2 h3 h4 h5 h6 h7 h11 h12 h13 h14]

theorem codes_q_eq
    (h11 : m' ((c.tc : Thread Cert.GradRefIdeal.nD Cert.GradRefIdeal.τ).loc Cert.GradRefIdeal.main_arg11) = m ((c.tc : Thread nD τ).loc main_arg11))
    (h14 : m' ((c.tc : Thread Cert.GradRefIdeal.nD Cert.GradRefIdeal.τ).loc Cert.GradRefIdeal.main_arg14) = m ((c.tc : Thread nD τ).loc main_arg14)) :
    (Cert.GradRefIdeal.Gen.dats m' 0 c).arrAt 17 Cert.GradRefIdeal.cfg0.N = (Gen.dats m 0 c).arrAt 13 cfg0.N := by
  rw [Cert.GradRefIdeal.Final.codes_q, codes_q, dqc_eq m m' c h11 h14]

theorem codes_k_eq
    (h12 : m' ((c.tc : Thread Cert.GradRefIdeal.nD Cert.GradRefIdeal.τ).loc Cert.GradRefIdeal.main_arg12) = m ((c.tc : Thread nD τ).loc main_arg12))
    (h14 : m' ((c.tc : Thread Cert.GradRefIdeal.nD Cert.GradRefIdeal.τ).loc Cert.GradRefIdeal.main_arg14) = m ((c.tc : Thread nD τ).loc main_arg14)) :
    (Cert.GradRefIdeal.Gen.dats m' 0 c).arrAt 18 Cert.GradRefIdeal.cfg0.N = (Gen.dats m 0 c).arrAt 14 cfg0.N := by
  rw [Cert.GradRefIdeal.Final.codes_k, codes_k, dkc_eq m m' c h12 h14]

theorem codes_v_eq
    (h13 : m' ((c.tc : Thread Cert.GradRefIdeal.nD Cert.GradRefIdeal.τ).loc Cert.GradRefIdeal.main_arg13) = m ((c.tc : Thread nD τ).loc main_arg13))
    (h14 : m' ((c.tc : Thread Cert.GradRefIdeal.nD Cert.GradRefIdeal.τ).loc Cert.GradRefIdeal.main_arg14) = m ((c.tc : Thread nD τ).loc main_arg14)) :
    (Cert.GradRefIdeal.Gen.dats m' 0 c).arrAt 19 Cert.GradRefIdeal.cfg0.N = (Gen.dats m 0 c).arrAt 15 cfg0.N := by
  rw [Cert.GradRefIdeal.Final.codes_v, codes_v, dvc_eq m m' c h13 h14]

theorem grad_norm_eq
    (h0 : m' ((c.tc : Thread Cert.GradRefIdeal.nD Cert.GradRefIdeal.τ).loc Cert.GradRefIdeal.main_arg0) = m ((c.tc : Thread nD τ).loc main_arg0))
    (h2 : m' ((c.tc : Thread Cert.GradRefIdeal.nD Cert.GradRefIdeal.τ).loc Cert.GradRefIdeal.main_arg2) = m ((c.tc : Thread nD τ).loc main_arg2))
    (h3 : m' ((c.tc : Thread Cert.GradRefIdeal.nD Cert.GradRefIdeal.τ).loc Cert.GradRefIdeal.main_arg3) = m ((c.tc : Thread nD τ).loc main_arg3))
    (h4 : m' ((c.tc : Thread Cert.GradRefIdeal.nD Cert.GradRefIdeal.τ).loc Cert.GradRefIdeal.main_arg4) = m ((c.tc : Thread nD τ).loc main_arg4))
    (h5 : m' ((c.tc : Thread Cert.GradRefIdeal.nD Cert.GradRefIdeal.τ).loc Cert.GradRefIdeal.main_arg5) = m ((c.tc : Thread nD τ).loc main_arg5))
    (h6 : m' ((c.tc : Thread Cert.GradRefIdeal.nD Cert.GradRefIdeal.τ).loc Cert.GradRefIdeal.main_arg6) = m ((c.tc : Thread nD τ).loc main_arg6))
    (h7 : m' ((c.tc : Thread Cert.GradRefIdeal.nD Cert.GradRefIdeal.τ).loc Cert.GradRefIdeal.main_arg7) = m ((c.tc : Thread nD τ).loc main_arg7))
    (h11 : m' ((c.tc : Thread Cert.GradRefIdeal.nD Cert.GradRefIdeal.τ).loc Cert.GradRefIdeal.main_arg11) = m ((c.tc : Thread nD τ).loc main_arg11))
    (h12 : m' ((c.tc : Thread Cert.GradRefIdeal.nD Cert.GradRefIdeal.τ).loc Cert.GradRefIdeal.main_arg12) = m ((c.tc : Thread nD τ).loc main_arg12))
    (h13 : m' ((c.tc : Thread Cert.GradRefIdeal.nD Cert.GradRefIdeal.τ).loc Cert.GradRefIdeal.main_arg13) = m ((c.tc : Thread nD τ).loc main_arg13))
    (h14 : m' ((c.tc : Thread Cert.GradRefIdeal.nD Cert.GradRefIdeal.τ).loc Cert.GradRefIdeal.main_arg14) = m ((c.tc : Thread nD τ).loc main_arg14)) :
    (Cert.GradRefIdeal.Gen.dats m' 0 c).arrAt 20 Cert.GradRefIdeal.cfg0.N = Pipeline.afterTail₀ cfgs (Gen.dats m) 0 (Gen.V0 m) [Gen.hostOps1] c main_v10 := by
  rw [Cert.GradRefIdeal.Final.grad_norm, tail, grad_norm, tokens_eq m m' c h0, two_eq m m' c h2 h3 h5 h6 h11 h12 h14, third_eq m m' c h4 h13 h14, grad_scale_v_eq m m' c h14, scale_v_eq m m' c h7]

theorem grad_q_eq
    (h8 : m' ((c.tc : Thread Cert.GradRefIdeal.nD Cert.GradRefIdeal.τ).loc Cert.GradRefIdeal.main_arg8) = m ((c.tc : Thread nD τ).loc main_arg8))
    (h10 : m' ((c.tc : Thread Cert.GradRefIdeal.nD Cert.GradRefIdeal.τ).loc Cert.GradRefIdeal.main_arg10) = m ((c.tc : Thread nD τ).loc main_arg10))
    (h11 : m' ((c.tc : Thread Cert.GradRefIdeal.nD Cert.GradRefIdeal.τ).loc Cert.GradRefIdeal.main_arg11) = m ((c.tc : Thread nD τ).loc main_arg11))
    (h14 : m' ((c.tc : Thread Cert.GradRefIdeal.nD Cert.GradRefIdeal.τ).loc Cert.GradRefIdeal.main_arg14) = m ((c.tc : Thread nD τ).loc main_arg14))
    (hs : ((0 : EReal) ≤ sXn m c ∧ sXn m c ≠ (⊤ : EReal)) ∧ (0 : EReal) ≤ gQ m c ∧ gQ m c ≠ (⊤ : EReal)) :
    (Cert.GradRefIdeal.Gen.dats m' 0 c).arrAt 21 Cert.GradRefIdeal.cfg0.N = (Gen.dats m 0 c).arrAt 17 cfg0.N := by
  have e10 := (Cert.GradRefIdeal.Gen.V_main_arg10 m' c).trans (h10.trans (Gen.V_main_arg10 m c).symm)
  rw [Cert.GradRefIdeal.Final.grad_q, grad_q m c hs.1.1 hs.1.2 hs.2.1 hs.2.2, dqc_eq m m' c h11 h14, e10, scale_xn_eq m m' c h8, grad_scale_q_eq m m' c h14]
  rfl

theorem grad_k_eq
    (h8 : m' ((c.tc : Thread Cert.GradRefIdeal.nD Cert.GradRefIdeal.τ).loc Cert.GradRefIdeal.main_arg8) = m ((c.tc : Thread nD τ).loc main_arg8))
    (h10 : m' ((c.tc : Thread Cert.GradRefIdeal.nD Cert.GradRefIdeal.τ).loc Cert.GradRefIdeal.main_arg10) = m ((c.tc : Thread nD τ).loc main_arg10))
    (h12 : m' ((c.tc : Thread Cert.GradRefIdeal.nD Cert.GradRefIdeal.τ).loc Cert.GradRefIdeal.main_arg12) = m ((c.tc : Thread nD τ).loc main_arg12))
    (h14 : m' ((c.tc : Thread Cert.GradRefIdeal.nD Cert.GradRefIdeal.τ).loc Cert.GradRefIdeal.main_arg14) = m ((c.tc : Thread nD τ).loc main_arg14))
    (hs : ((0 : EReal) ≤ sXn m c ∧ sXn m c ≠ (⊤ : EReal)) ∧ (0 : EReal) ≤ gK m c ∧ gK m c ≠ (⊤ : EReal)) :
    (Cert.GradRefIdeal.Gen.dats m' 0 c).arrAt 22 Cert.GradRefIdeal.cfg0.N = (Gen.dats m 0 c).arrAt 18 cfg0.N := by
  have e10 := (Cert.GradRefIdeal.Gen.V_main_arg10 m' c).trans (h10.trans (Gen.V_main_arg10 m c).symm)
  rw [Cert.GradRefIdeal.Final.grad_k, grad_k m c hs.1.1 hs.1.2 hs.2.1 hs.2.2, dkc_eq m m' c h12 h14, e10, scale_xn_eq m m' c h8, grad_scale_k_eq m m' c h14]
  rfl

theorem grad_v_eq
    (h8 : m' ((c.tc : Thread Cert.GradRefIdeal.nD Cert.GradRefIdeal.τ).loc Cert.GradRefIdeal.main_arg8) = m ((c.tc : Thread nD τ).loc main_arg8))
    (h10 : m' ((c.tc : Thread Cert.GradRefIdeal.nD Cert.GradRefIdeal.τ).loc Cert.GradRefIdeal.main_arg10) = m ((c.tc : Thread nD τ).loc main_arg10))
    (h13 : m' ((c.tc : Thread Cert.GradRefIdeal.nD Cert.GradRefIdeal.τ).loc Cert.GradRefIdeal.main_arg13) = m ((c.tc : Thread nD τ).loc main_arg13))
    (h14 : m' ((c.tc : Thread Cert.GradRefIdeal.nD Cert.GradRefIdeal.τ).loc Cert.GradRefIdeal.main_arg14) = m ((c.tc : Thread nD τ).loc main_arg14))
    (hs : ((0 : EReal) ≤ sXn m c ∧ sXn m c ≠ (⊤ : EReal)) ∧ (0 : EReal) ≤ gV m c ∧ gV m c ≠ (⊤ : EReal)) :
    (Cert.GradRefIdeal.Gen.dats m' 0 c).arrAt 23 Cert.GradRefIdeal.cfg0.N = (Gen.dats m 0 c).arrAt 19 cfg0.N := by
  have e10 := (Cert.GradRefIdeal.Gen.V_main_arg10 m' c).trans (h10.trans (Gen.V_main_arg10 m c).symm)
  rw [Cert.GradRefIdeal.Final.grad_v, grad_v m c hs.1.1 hs.1.2 hs.2.1 hs.2.2, dvc_eq m m' c h13 h14, e10, scale_xn_eq m m' c h8, grad_scale_v_eq m m' c h14]
  rfl

end

end Cert.GradIdeal.Final

end
-- ==== Proof.GradClaim.lean ====
/- The projections' backward call and its reference end with the same nine results, for scales that are at least zero and
   finite. -/
module

public import proofs.«01_k».proof.Defs
public import proofs.«01_k».proof.Proof.GradEq
public import proofs.«01_k».proof.Proof.Scales

@[expose] public section

set_option maxRecDepth 16384
set_option maxHeartbeats 4000000

noncomputable section

namespace Cert.GradIdeal.Final

open Idealize.ShloMosaic Idealize.ShloMosaic.TcCoe Idealize.SL.Sem
open Idealize.ShloMosaic.Pipeline (Dat)
open Cert.Common

/-- The call's run: what each result ends holding, and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread Cert.GradIdeal.nD Cert.GradIdeal.τ).loc Cert.GradIdeal.main_v9_0) = (Gen.dats m 0 c).arrAt 11 cfg0.N
      ∧ r.2.mem ((c.tc : Thread Cert.GradIdeal.nD Cert.GradIdeal.τ).loc Cert.GradIdeal.main_v9_1) = (Gen.dats m 0 c).arrAt 12 cfg0.N
      ∧ r.2.mem ((c.tc : Thread Cert.GradIdeal.nD Cert.GradIdeal.τ).loc Cert.GradIdeal.main_v9_2) = (Gen.dats m 0 c).arrAt 13 cfg0.N
      ∧ r.2.mem ((c.tc : Thread Cert.GradIdeal.nD Cert.GradIdeal.τ).loc Cert.GradIdeal.main_v9_3) = (Gen.dats m 0 c).arrAt 14 cfg0.N
      ∧ r.2.mem ((c.tc : Thread Cert.GradIdeal.nD Cert.GradIdeal.τ).loc Cert.GradIdeal.main_v9_4) = (Gen.dats m 0 c).arrAt 15 cfg0.N
      ∧ r.2.mem ((c.tc : Thread Cert.GradIdeal.nD Cert.GradIdeal.τ).loc Cert.GradIdeal.main_v10) = Pipeline.afterTail₀ cfgs (Gen.dats m) 0 (Gen.V0 m) [Gen.hostOps1] c main_v10
      ∧ r.2.mem ((c.tc : Thread Cert.GradIdeal.nD Cert.GradIdeal.τ).loc Cert.GradIdeal.main_v9_6) = (Gen.dats m 0 c).arrAt 17 cfg0.N
      ∧ r.2.mem ((c.tc : Thread Cert.GradIdeal.nD Cert.GradIdeal.τ).loc Cert.GradIdeal.main_v9_7) = (Gen.dats m 0 c).arrAt 18 cfg0.N
      ∧ r.2.mem ((c.tc : Thread Cert.GradIdeal.nD Cert.GradIdeal.τ).loc Cert.GradIdeal.main_v9_8) = (Gen.dats m 0 c).arrAt 19 cfg0.N
      ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
      ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
      ∧ r.2.mem ((c.tc : Thread Cert.GradIdeal.nD Cert.GradIdeal.τ).loc Cert.GradIdeal.main_arg9) = m ((c.tc : Thread Cert.GradIdeal.nD Cert.GradIdeal.τ).loc Cert.GradIdeal.main_arg9)
      ∧ r.2.mem ((c.tc : Thread Cert.GradIdeal.nD Cert.GradIdeal.τ).loc Cert.GradIdeal.main_arg10) = m ((c.tc : Thread Cert.GradIdeal.nD Cert.GradIdeal.τ).loc Cert.GradIdeal.main_arg10)
      ∧ r.2.mem ((c.tc : Thread Cert.GradIdeal.nD Cert.GradIdeal.τ).loc Cert.GradIdeal.main_arg11) = m ((c.tc : Thread Cert.GradIdeal.nD Cert.GradIdeal.τ).loc Cert.GradIdeal.main_arg11)
      ∧ r.2.mem ((c.tc : Thread Cert.GradIdeal.nD Cert.GradIdeal.τ).loc Cert.GradIdeal.main_arg12) = m ((c.tc : Thread Cert.GradIdeal.nD Cert.GradIdeal.τ).loc Cert.GradIdeal.main_arg12)
      ∧ r.2.mem ((c.tc : Thread Cert.GradIdeal.nD Cert.GradIdeal.τ).loc Cert.GradIdeal.main_arg13) = m ((c.tc : Thread Cert.GradIdeal.nD Cert.GradIdeal.τ).loc Cert.GradIdeal.main_arg13)
      ∧ r.2.mem ((c.tc : Thread Cert.GradIdeal.nD Cert.GradIdeal.τ).loc Cert.GradIdeal.main_arg14) = m ((c.tc : Thread Cert.GradIdeal.nD Cert.GradIdeal.τ).loc Cert.GradIdeal.main_arg14)) :=
  (θ_run defs _ _).mono
    (fun r h c => ⟨(h.1 c).1 11, (h.1 c).1 12, (h.1 c).1 13, (h.1 c).1 14, (h.1 c).1 15, (h.1 c).2 main_v10 (by decide),
      (h.1 c).1 17, (h.1 c).1 18, (h.1 c).1 19, h.2.1 c⟩)
    (θ_run_and (Gen.run_main m g) (Gen.frame m g))

/-- The reference's run. -/
theorem ref_run (m' : (ℓ : Loc Cert.GradRefIdeal.nD Cert.GradRefIdeal.τ Cert.GradRefIdeal.sig) → Buf (Elt Ideal) ℓ) (g' : Dev Cert.GradRefIdeal.nD → PrngReg) :
    θ_run (Cert.GradRefIdeal.defs (F := Ideal)) (onTc (τ := Cert.GradRefIdeal.τ) (Cert.GradRefIdeal.main (F := Ideal))) ⟨m', fun _ => 0, g'⟩ (fun r => ∀ c : Dev Cert.GradRefIdeal.nD,
      r.2.mem ((c.tc : Thread Cert.GradRefIdeal.nD Cert.GradRefIdeal.τ).loc Cert.GradRefIdeal.main_v7_0) = (Cert.GradRefIdeal.Gen.dats m' 0 c).arrAt 15 Cert.GradRefIdeal.cfg0.N
      ∧ r.2.mem ((c.tc : Thread Cert.GradRefIdeal.nD Cert.GradRefIdeal.τ).loc Cert.GradRefIdeal.main_v7_1) = (Cert.GradRefIdeal.Gen.dats m' 0 c).arrAt 16 Cert.GradRefIdeal.cfg0.N
      ∧ r.2.mem ((c.tc : Thread Cert.GradRefIdeal.nD Cert.GradRefIdeal.τ).loc Cert.GradRefIdeal.main_v7_2) = (Cert.GradRefIdeal.Gen.dats m' 0 c).arrAt 17 Cert.GradRefIdeal.cfg0.N
      ∧ r.2.mem ((c.tc : Thread Cert.GradRefIdeal.nD Cert.GradRefIdeal.τ).loc Cert.GradRefIdeal.main_v7_3) = (Cert.GradRefIdeal.Gen.dats m' 0 c).arrAt 18 Cert.GradRefIdeal.cfg0.N
      ∧ r.2.mem ((c.tc : Thread Cert.GradRefIdeal.nD Cert.GradRefIdeal.τ).loc Cert.GradRefIdeal.main_v7_4) = (Cert.GradRefIdeal.Gen.dats m' 0 c).arrAt 19 Cert.GradRefIdeal.cfg0.N
      ∧ r.2.mem ((c.tc : Thread Cert.GradRefIdeal.nD Cert.GradRefIdeal.τ).loc Cert.GradRefIdeal.main_v7_5) = (Cert.GradRefIdeal.Gen.dats m' 0 c).arrAt 20 Cert.GradRefIdeal.cfg0.N
      ∧ r.2.mem ((c.tc : Thread Cert.GradRefIdeal.nD Cert.GradRefIdeal.τ).loc Cert.GradRefIdeal.main_v7_6) = (Cert.GradRefIdeal.Gen.dats m' 0 c).arrAt 21 Cert.GradRefIdeal.cfg0.N
      ∧ r.2.mem ((c.tc : Thread Cert.GradRefIdeal.nD Cert.GradRefIdeal.τ).loc Cert.GradRefIdeal.main_v7_7) = (Cert.GradRefIdeal.Gen.dats m' 0 c).arrAt 22 Cert.GradRefIdeal.cfg0.N
      ∧ r.2.mem ((c.tc : Thread Cert.GradRefIdeal.nD Cert.GradRefIdeal.τ).loc Cert.GradRefIdeal.main_v7_8) = (Cert.GradRefIdeal.Gen.dats m' 0 c).arrAt 23 Cert.GradRefIdeal.cfg0.N
      ∧ r.2.mem ((c.tc : Thread Cert.GradRefIdeal.nD Cert.GradRefIdeal.τ).loc Cert.GradRefIdeal.main_arg0) = m' ((c.tc : Thread Cert.GradRefIdeal.nD Cert.GradRefIdeal.τ).loc Cert.GradRefIdeal.main_arg0)
      ∧ r.2.mem ((c.tc : Thread Cert.GradRefIdeal.nD Cert.GradRefIdeal.τ).loc Cert.GradRefIdeal.main_arg1) = m' ((c.tc : Thread Cert.GradRefIdeal.nD Cert.GradRefIdeal.τ).loc Cert.GradRefIdeal.main_arg1)
      ∧ r.2.mem ((c.tc : Thread Cert.GradRefIdeal.nD Cert.GradRefIdeal.τ).loc Cert.GradRefIdeal.main_arg2) = m' ((c.tc : Thread Cert.GradRefIdeal.nD Cert.GradRefIdeal.τ).loc Cert.GradRefIdeal.main_arg2)
      ∧ r.2.mem ((c.tc : Thread Cert.GradRefIdeal.nD Cert.GradRefIdeal.τ).loc Cert.GradRefIdeal.main_arg3) = m' ((c.tc : Thread Cert.GradRefIdeal.nD Cert.GradRefIdeal.τ).loc Cert.GradRefIdeal.main_arg3)
      ∧ r.2.mem ((c.tc : Thread Cert.GradRefIdeal.nD Cert.GradRefIdeal.τ).loc Cert.GradRefIdeal.main_arg4) = m' ((c.tc : Thread Cert.GradRefIdeal.nD Cert.GradRefIdeal.τ).loc Cert.GradRefIdeal.main_arg4)
      ∧ r.2.mem ((c.tc : Thread Cert.GradRefIdeal.nD Cert.GradRefIdeal.τ).loc Cert.GradRefIdeal.main_arg5) = m' ((c.tc : Thread Cert.GradRefIdeal.nD Cert.GradRefIdeal.τ).loc Cert.GradRefIdeal.main_arg5)
      ∧ r.2.mem ((c.tc : Thread Cert.GradRefIdeal.nD Cert.GradRefIdeal.τ).loc Cert.GradRefIdeal.main_arg6) = m' ((c.tc : Thread Cert.GradRefIdeal.nD Cert.GradRefIdeal.τ).loc Cert.GradRefIdeal.main_arg6)
      ∧ r.2.mem ((c.tc : Thread Cert.GradRefIdeal.nD Cert.GradRefIdeal.τ).loc Cert.GradRefIdeal.main_arg7) = m' ((c.tc : Thread Cert.GradRefIdeal.nD Cert.GradRefIdeal.τ).loc Cert.GradRefIdeal.main_arg7)
      ∧ r.2.mem ((c.tc : Thread Cert.GradRefIdeal.nD Cert.GradRefIdeal.τ).loc Cert.GradRefIdeal.main_arg8) = m' ((c.tc : Thread Cert.GradRefIdeal.nD Cert.GradRefIdeal.τ).loc Cert.GradRefIdeal.main_arg8)
      ∧ r.2.mem ((c.tc : Thread Cert.GradRefIdeal.nD Cert.GradRefIdeal.τ).loc Cert.GradRefIdeal.main_arg9) = m' ((c.tc : Thread Cert.GradRefIdeal.nD Cert.GradRefIdeal.τ).loc Cert.GradRefIdeal.main_arg9)
      ∧ r.2.mem ((c.tc : Thread Cert.GradRefIdeal.nD Cert.GradRefIdeal.τ).loc Cert.GradRefIdeal.main_arg10) = m' ((c.tc : Thread Cert.GradRefIdeal.nD Cert.GradRefIdeal.τ).loc Cert.GradRefIdeal.main_arg10)
      ∧ r.2.mem ((c.tc : Thread Cert.GradRefIdeal.nD Cert.GradRefIdeal.τ).loc Cert.GradRefIdeal.main_arg11) = m' ((c.tc : Thread Cert.GradRefIdeal.nD Cert.GradRefIdeal.τ).loc Cert.GradRefIdeal.main_arg11)
      ∧ r.2.mem ((c.tc : Thread Cert.GradRefIdeal.nD Cert.GradRefIdeal.τ).loc Cert.GradRefIdeal.main_arg12) = m' ((c.tc : Thread Cert.GradRefIdeal.nD Cert.GradRefIdeal.τ).loc Cert.GradRefIdeal.main_arg12)
      ∧ r.2.mem ((c.tc : Thread Cert.GradRefIdeal.nD Cert.GradRefIdeal.τ).loc Cert.GradRefIdeal.main_arg13) = m' ((c.tc : Thread Cert.GradRefIdeal.nD Cert.GradRefIdeal.τ).loc Cert.GradRefIdeal.main_arg13)
      ∧ r.2.mem ((c.tc : Thread Cert.GradRefIdeal.nD Cert.GradRefIdeal.τ).loc Cert.GradRefIdeal.main_arg14) = m' ((c.tc : Thread Cert.GradRefIdeal.nD Cert.GradRefIdeal.τ).loc Cert.GradRefIdeal.main_arg14)) :=
  (θ_run Cert.GradRefIdeal.defs _ _).mono
    (fun r h c => ⟨(h.1 c).1 15, (h.1 c).1 16, (h.1 c).1 17, (h.1 c).1 18, (h.1 c).1 19, (h.1 c).1 20,
      (h.1 c).1 21, (h.1 c).1 22, (h.1 c).1 23, h.2.1 c⟩)
    (θ_run_and (Cert.GradRefIdeal.Gen.run_main m' g') (Cert.GradRefIdeal.Gen.frame m' g'))

theorem algebraic : Cert.algebraic_GradIdeal_GradRefIdeal_pre_grad_scales (hGradIdeal := Cert.GradIdeal.Gen.facts) (hGradRefIdeal := Cert.GradRefIdeal.Gen.facts)
    (hPre_grad_scales := grad_scales_facts) := by
  intro m g m' g' hpre hagree
  refine ⟨fun c => (Gen.dats m 0 c).arrAt 11 cfg0.N, fun c => (Gen.dats m 0 c).arrAt 12 cfg0.N, fun c => (Gen.dats m 0 c).arrAt 13 cfg0.N, fun c => (Gen.dats m 0 c).arrAt 14 cfg0.N, fun c => (Gen.dats m 0 c).arrAt 15 cfg0.N, fun c => Pipeline.afterTail₀ cfgs (Gen.dats m) 0 (Gen.V0 m) [Gen.hostOps1] c main_v10, fun c => (Gen.dats m 0 c).arrAt 17 cfg0.N, fun c => (Gen.dats m 0 c).arrAt 18 cfg0.N, fun c => (Gen.dats m 0 c).arrAt 19 cfg0.N, run m g, ?_⟩
  refine (θ_run Cert.GradRefIdeal.defs _ _).mono (fun r h c => ?_) (ref_run m' g')
  obtain ⟨h0, h1, h2, h3, h4, h5, h6, h7, h8, h9, h10, h11, h12, h13, h14⟩ := hagree c
  obtain ⟨r0, r1, r2, r3, r4, r5, r6, r7, r8, ha⟩ := h c
  exact ⟨r0.trans (grad_x_eq m m' c h0 h1 h9 h2 h3 h4 h5 h6 h7 h11 h12 h13 h14),
    r1.trans (grad_xn_eq m m' c h2 h3 h4 h5 h6 h7 h11 h12 h13 h14),
    r2.trans (codes_q_eq m m' c h11 h14),
    r3.trans (codes_k_eq m m' c h12 h14),
    r4.trans (codes_v_eq m m' c h13 h14),
    r5.trans (grad_norm_eq m m' c h0 h2 h3 h4 h5 h6 h7 h11 h12 h13 h14),
    r6.trans (grad_q_eq m m' c h8 h10 h11 h14 (grad_scales m grad_scales_facts hpre c _ _ 0 (scale0 m c) (scale4 m c))),
    r7.trans (grad_k_eq m m' c h8 h10 h12 h14 (grad_scales m grad_scales_facts hpre c _ _ 1 (scale0 m c) (scale5 m c))),
    r8.trans (grad_v_eq m m' c h8 h10 h13 h14 (grad_scales m grad_scales_facts hpre c _ _ 2 (scale0 m c) (scale6 m c))), ha⟩

end Cert.GradIdeal.Final

end
-- ==== Proof.lean ====
/- Four calls of a T5 self-attention block in fp8: normalise, quantise and project (`Qkv`), quantise the cotangent and take
   it back through the output projection (`Dy`), the output projection with its weight gradient (`Out`), the gradients
   of the input projections (`Grad`). Of each: kernel, idealised kernel and idealised reference run to their end, write
   only their results and leave every semaphore at zero; the idealised kernel is the kernel's own; and over the extended
   reals the kernel's results are the reference's. This module only assembles what the others prove. -/
module

public import proofs.«01_k».proof.Defs
public import proofs.«01_k».proof.Proof.QkvBits
public import proofs.«01_k».proof.Proof.QkvClaim
public import proofs.«01_k».proof.Proof.DyBits
public import proofs.«01_k».proof.Proof.DyClaim
public import proofs.«01_k».proof.Proof.OutBits
public import proofs.«01_k».proof.Proof.OutClaim
public import proofs.«01_k».proof.Proof.GradBits
public import proofs.«01_k».proof.Proof.GradClaim
public import proofs.«01_k».proof.Proof.Gen.QkvRefIdeal.Value
public import proofs.«01_k».proof.Proof.Gen.DyRefIdeal.Value
public import proofs.«01_k».proof.Proof.Gen.OutRefIdeal.Value
public import proofs.«01_k».proof.Proof.Gen.GradRefIdeal.Value

@[expose] public section

noncomputable section

namespace Cert.Proof

/-- The whole certificate: what the programs' operations take, the frames, the idealisations, the values. -/
theorem claim : Cert.Claim :=
  ⟨Cert.Qkv.Gen.facts, Cert.QkvIdeal.Gen.facts, Cert.QkvRefIdeal.Gen.facts,
   Cert.Dy.Gen.facts, Cert.DyIdeal.Gen.facts, Cert.DyRefIdeal.Gen.facts,
   Cert.Out.Gen.facts, Cert.OutIdeal.Gen.facts, Cert.OutRefIdeal.Gen.facts,
   Cert.Grad.Gen.facts, Cert.GradIdeal.Gen.facts, Cert.GradRefIdeal.Gen.facts,
   ⟨⟩, Cert.Common.grad_scales_facts,
   fun m ρ _ => Cert.Qkv.Gen.frame m ρ,
   fun m ρ _ => Cert.QkvIdeal.Gen.frame m ρ,
   fun m ρ _ => Cert.QkvRefIdeal.Gen.frame m ρ,
   fun m ρ _ => Cert.Dy.Gen.frame m ρ,
   fun m ρ _ => Cert.DyIdeal.Gen.frame m ρ,
   fun m ρ _ => Cert.DyRefIdeal.Gen.frame m ρ,
   fun m ρ _ => Cert.Out.Gen.frame m ρ,
   fun m ρ _ => Cert.OutIdeal.Gen.frame m ρ,
   fun m ρ _ => Cert.OutIdeal.Gen.frame m ρ,
   fun m ρ _ => Cert.OutRefIdeal.Gen.frame m ρ,
   fun m ρ _ => Cert.OutRefIdeal.Gen.frame m ρ,
   fun m ρ _ => Cert.Grad.Gen.frame m ρ,
   fun m ρ _ => Cert.GradIdeal.Gen.frame m ρ,
   fun m ρ _ => Cert.GradIdeal.Gen.frame m ρ,
   fun m ρ _ => Cert.GradRefIdeal.Gen.frame m ρ,
   fun m ρ _ => Cert.GradRefIdeal.Gen.frame m ρ,
   trivial, Cert.QkvIdeal.Final.algebraic,
   trivial, Cert.DyIdeal.Final.algebraic,
   trivial, Cert.OutIdeal.Final.algebraic,
   trivial, Cert.GradIdeal.Final.algebraic⟩

end Cert.Proof

end
